-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDh (m : (ℓ : Loc Cert.InDh.nD Cert.InDh.τ Cert.InDh.sig) → Buf (Elt Bits) ℓ) : Prop :=
  True

def Pre_InDhIdeal (m : (ℓ : Loc Cert.InDhIdeal.nD Cert.InDhIdeal.τ Cert.InDhIdeal.sig) → Buf (Elt Ideal) ℓ) : Prop :=
  True

def Pre_InDhRefIdeal (m : (ℓ : Loc Cert.InDhRefIdeal.nD Cert.InDhRefIdeal.τ Cert.InDhRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwRefIdeal (m : (ℓ : Loc Cert.XqDwRefIdeal.nD Cert.XqDwRefIdeal.τ Cert.XqDwRefIdeal.sig) → Buf (Elt Ideal) ℓ) : Prop :=
  True

def Pre_XqDh (m : (ℓ : Loc Cert.XqDh.nD Cert.XqDh.τ Cert.XqDh.sig) → Buf (Elt Bits) ℓ) : Prop :=
  True

def Pre_XqDhIdeal (m : (ℓ : Loc Cert.XqDhIdeal.nD Cert.XqDhIdeal.τ Cert.XqDhIdeal.sig) → Buf (Elt Ideal) ℓ) : Prop :=
  True

def Pre_XqDhRefIdeal (m : (ℓ : Loc Cert.XqDhRefIdeal.nD Cert.XqDhRefIdeal.τ Cert.XqDhRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_XoDo (m : (ℓ : Loc Cert.XoDo.nD Cert.XoDo.τ Cert.XoDo.sig) → Buf (Elt Bits) ℓ) : Prop :=
  True

def Pre_XoDoIdeal (m : (ℓ : Loc Cert.XoDoIdeal.nD Cert.XoDoIdeal.τ Cert.XoDoIdeal.sig) → Buf (Elt Ideal) ℓ) : Prop :=
  True

def Pre_XoDoRefIdeal (m : (ℓ : Loc Cert.XoDoRefIdeal.nD Cert.XoDoRefIdeal.τ Cert.XoDoRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyRefIdeal (m : (ℓ : Loc Cert.OutDyRefIdeal.nD Cert.OutDyRefIdeal.τ Cert.OutDyRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_LoraDw (m : (ℓ : Loc Cert.LoraDw.nD Cert.LoraDw.τ Cert.LoraDw.sig) → Buf (Elt Bits) ℓ) : Prop :=
  True

def Pre_LoraDwIdeal (m : (ℓ : Loc Cert.LoraDwIdeal.nD Cert.LoraDwIdeal.τ Cert.LoraDwIdeal.sig) → Buf (Elt Ideal) ℓ) : Prop :=
  True

def Pre_LoraDwRefIdeal (m : (ℓ : Loc Cert.LoraDwRefIdeal.nD Cert.LoraDwRefIdeal.τ Cert.LoraDwRefIdeal.sig) → Buf (Elt Ideal) ℓ) : Prop :=
  True

def Pre_LoraDh (m : (ℓ : Loc Cert.LoraDh.nD Cert.LoraDh.τ Cert.LoraDh.sig) → Buf (Elt Bits) ℓ) : Prop :=
  True

def Pre_LoraDhIdeal (m : (ℓ : Loc Cert.LoraDhIdeal.nD Cert.LoraDhIdeal.τ Cert.LoraDhIdeal.sig) → Buf (Elt Ideal) ℓ) : Prop :=
  True

def Pre_LoraDhRefIdeal (m : (ℓ : Loc Cert.LoraDhRefIdeal.nD Cert.LoraDhRefIdeal.τ Cert.LoraDhRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_SwaDw (m : (ℓ : Loc Cert.SwaDw.nD Cert.SwaDw.τ Cert.SwaDw.sig) → Buf (Elt Bits) ℓ) : Prop :=
  True

def Pre_SwaDwIdeal (m : (ℓ : Loc Cert.SwaDwIdeal.nD Cert.SwaDwIdeal.τ Cert.SwaDwIdeal.sig) → Buf (Elt Ideal) ℓ) : Prop :=
  True

def Pre_SwaDwRefIdeal (m : (ℓ : Loc Cert.SwaDwRefIdeal.nD Cert.SwaDwRefIdeal.τ Cert.SwaDwRefIdeal.sig) → Buf (Elt Ideal) ℓ) : Prop :=
  True

def Pre_SwaDh (m : (ℓ : Loc Cert.SwaDh.nD Cert.SwaDh.τ Cert.SwaDh.sig) → Buf (Elt Bits) ℓ) : Prop :=
  True

def Pre_SwaDhIdeal (m : (ℓ : Loc Cert.SwaDhIdeal.nD Cert.SwaDhIdeal.τ Cert.SwaDhIdeal.sig) → Buf (Elt Ideal) ℓ) : Prop :=
  True

def Pre_SwaDhRefIdeal (m : (ℓ : Loc Cert.SwaDhRefIdeal.nD Cert.SwaDhRefIdeal.τ Cert.SwaDhRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_XkvDh (m : (ℓ : Loc Cert.XkvDh.nD Cert.XkvDh.τ Cert.XkvDh.sig) → Buf (Elt Bits) ℓ) : Prop :=
  True

def Pre_XkvDhIdeal (m : (ℓ : Loc Cert.XkvDhIdeal.nD Cert.XkvDhIdeal.τ Cert.XkvDhIdeal.sig) → Buf (Elt Ideal) ℓ) : Prop :=
  True

def Pre_XkvDhRefIdeal (m : (ℓ : Loc Cert.XkvDhRefIdeal.nD Cert.XkvDhRefIdeal.τ Cert.XkvDhRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDh [hInDh : Cert.InDh.Facts] : Prop :=
  ∀ (m : (ℓ : Loc Cert.InDh.nD Cert.InDh.τ Cert.InDh.sig) → Buf (Elt Bits) ℓ) (g : Dev Cert.InDh.nD → PrngReg), Pre_InDh m →
    θ_run (Cert.InDh.defs (F := Bits)) (onTc (τ := Cert.InDh.τ) (Cert.InDh.main (F := Bits))) ⟨m, fun _ => 0, g⟩ (fun r => (∀ c : Dev Cert.InDh.nD,
      r.2.mem ((c.tc : Thread Cert.InDh.nD Cert.InDh.τ).loc Cert.InDh.main_arg0) = m ((c.tc : Thread Cert.InDh.nD Cert.InDh.τ).loc Cert.InDh.main_arg0)
      ∧ r.2.mem ((c.tc : Thread Cert.InDh.nD Cert.InDh.τ).loc Cert.InDh.main_arg1) = m ((c.tc : Thread Cert.InDh.nD Cert.InDh.τ).loc Cert.InDh.main_arg1))
      ∧ r.2.sem = fun _ => 0)

def quiescent_InDhIdeal [hInDhIdeal : Cert.InDhIdeal.Facts] : Prop :=
  ∀ (m : (ℓ : Loc Cert.InDhIdeal.nD Cert.InDhIdeal.τ Cert.InDhIdeal.sig) → Buf (Elt Ideal) ℓ) (g : Dev Cert.InDhIdeal.nD → PrngReg), Pre_InDhIdeal m →
    θ_run (Cert.InDhIdeal.defs (F := Ideal)) (onTc (τ := Cert.InDhIdeal.τ) (Cert.InDhIdeal.main (F := Ideal))) ⟨m, fun _ => 0, g⟩ (fun r => (∀ c : Dev Cert.InDhIdeal.nD,
      r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
      ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ r.2.sem = fun _ => 0)

def quiescent_InDhRefIdeal [hInDhRefIdeal : Cert.InDhRefIdeal.Facts] : Prop :=
  ∀ (m : (ℓ : Loc Cert.InDhRefIdeal.nD Cert.InDhRefIdeal.τ Cert.InDhRefIdeal.sig) → Buf (Elt Ideal) ℓ) (g : Dev Cert.InDhRefIdeal.nD → PrngReg), Pre_InDhRefIdeal m →
    θ_run (Cert.InDhRefIdeal.defs (F := Ideal)) (onTc (τ := Cert.InDhRefIdeal.τ) (Cert.InDhRefIdeal.main (F := Ideal))) ⟨m, fun _ => 0, g⟩ (fun r => (∀ c : Dev Cert.InDhRefIdeal.nD,
      r.2.mem ((c.tc : Thread Cert.InDhRefIdeal.nD Cert.InDhRefIdeal.τ).loc Cert.InDhRefIdeal.main_arg0) = m ((c.tc : Thread Cert.InDhRefIdeal.nD Cert.InDhRefIdeal.τ).loc Cert.InDhRefIdeal.main_arg0)
      ∧ r.2.mem ((c.tc : Thread Cert.InDhRefIdeal.nD Cert.InDhRefIdeal.τ).loc Cert.InDhRefIdeal.main_arg1) = m ((c.tc : Thread Cert.InDhRefIdeal.nD Cert.InDhRefIdeal.τ).loc Cert.InDhRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwRefIdeal [hXqDwRefIdeal : Cert.XqDwRefIdeal.Facts] : Prop :=
  ∀ (m : (ℓ : Loc Cert.XqDwRefIdeal.nD Cert.XqDwRefIdeal.τ Cert.XqDwRefIdeal.sig) → Buf (Elt Ideal) ℓ) (g : Dev Cert.XqDwRefIdeal.nD → PrngReg), Pre_XqDwRefIdeal m →
    θ_run (Cert.XqDwRefIdeal.defs (F := Ideal)) (onTc (τ := Cert.XqDwRefIdeal.τ) (Cert.XqDwRefIdeal.main (F := Ideal))) ⟨m, fun _ => 0, g⟩ (fun r => (∀ c : Dev Cert.XqDwRefIdeal.nD,
      r.2.mem ((c.tc : Thread Cert.XqDwRefIdeal.nD Cert.XqDwRefIdeal.τ).loc Cert.XqDwRefIdeal.main_arg0) = m ((c.tc : Thread Cert.XqDwRefIdeal.nD Cert.XqDwRefIdeal.τ).loc Cert.XqDwRefIdeal.main_arg0)
      ∧ r.2.mem ((c.tc : Thread Cert.XqDwRefIdeal.nD Cert.XqDwRefIdeal.τ).loc Cert.XqDwRefIdeal.main_arg1) = m ((c.tc : Thread Cert.XqDwRefIdeal.nD Cert.XqDwRefIdeal.τ).loc Cert.XqDwRefIdeal.main_arg1))
      ∧ r.2.sem = fun _ => 0)

def quiescent_XqDh [hXqDh : Cert.XqDh.Facts] : Prop :=
  ∀ (m : (ℓ : Loc Cert.XqDh.nD Cert.XqDh.τ Cert.XqDh.sig) → Buf (Elt Bits) ℓ) (g : Dev Cert.XqDh.nD → PrngReg), Pre_XqDh m →
    θ_run (Cert.XqDh.defs (F := Bits)) (onTc (τ := Cert.XqDh.τ) (Cert.XqDh.main (F := Bits))) ⟨m, fun _ => 0, g⟩ (fun r => (∀ c : Dev Cert.XqDh.nD,
      r.2.mem ((c.tc : Thread Cert.XqDh.nD Cert.XqDh.τ).loc Cert.XqDh.main_arg0) = m ((c.tc : Thread Cert.XqDh.nD Cert.XqDh.τ).loc Cert.XqDh.main_arg0)
      ∧ r.2.mem ((c.tc : Thread Cert.XqDh.nD Cert.XqDh.τ).loc Cert.XqDh.main_arg1) = m ((c.tc : Thread Cert.XqDh.nD Cert.XqDh.τ).loc Cert.XqDh.main_arg1))
      ∧ r.2.sem = fun _ => 0)

def quiescent_XqDhIdeal [hXqDhIdeal : Cert.XqDhIdeal.Facts] : Prop :=
  ∀ (m : (ℓ : Loc Cert.XqDhIdeal.nD Cert.XqDhIdeal.τ Cert.XqDhIdeal.sig) → Buf (Elt Ideal) ℓ) (g : Dev Cert.XqDhIdeal.nD → PrngReg), Pre_XqDhIdeal m →
    θ_run (Cert.XqDhIdeal.defs (F := Ideal)) (onTc (τ := Cert.XqDhIdeal.τ) (Cert.XqDhIdeal.main (F := Ideal))) ⟨m, fun _ => 0, g⟩ (fun r => (∀ c : Dev Cert.XqDhIdeal.nD,
      r.2.mem ((c.tc : Thread Cert.XqDhIdeal.nD Cert.XqDhIdeal.τ).loc Cert.XqDhIdeal.main_arg0) = m ((c.tc : Thread Cert.XqDhIdeal.nD Cert.XqDhIdeal.τ).loc Cert.XqDhIdeal.main_arg0)
      ∧ r.2.mem ((c.tc : Thread Cert.XqDhIdeal.nD Cert.XqDhIdeal.τ).loc Cert.XqDhIdeal.main_arg1) = m ((c.tc : Thread Cert.XqDhIdeal.nD Cert.XqDhIdeal.τ).loc Cert.XqDhIdeal.main_arg1))
      ∧ r.2.sem = fun _ => 0)

def quiescent_XqDhRefIdeal [hXqDhRefIdeal : Cert.XqDhRefIdeal.Facts] : Prop :=
  ∀ (m : (ℓ : Loc Cert.XqDhRefIdeal.nD Cert.XqDhRefIdeal.τ Cert.XqDhRefIdeal.sig) → Buf (Elt Ideal) ℓ) (g : Dev Cert.XqDhRefIdeal.nD → PrngReg), Pre_XqDhRefIdeal m →
    θ_run (Cert.XqDhRefIdeal.defs (F := Ideal)) (onTc (τ := Cert.XqDhRefIdeal.τ) (Cert.XqDhRefIdeal.main (F := Ideal))) ⟨m, fun _ => 0, g⟩ (fun r => (∀ c : Dev Cert.XqDhRefIdeal.nD,
      r.2.mem ((c.tc : Thread Cert.XqDhRefIdeal.nD Cert.XqDhRefIdeal.τ).loc Cert.XqDhRefIdeal.main_arg0) = m ((c.tc : Thread Cert.XqDhRefIdeal.nD Cert.XqDhRefIdeal.τ).loc Cert.XqDhRefIdeal.main_arg0)
      ∧ r.2.mem ((c.tc : Thread Cert.XqDhRefIdeal.nD Cert.XqDhRefIdeal.τ).loc Cert.XqDhRefIdeal.main_arg1) = m ((c.tc : Thread Cert.XqDhRefIdeal.nD Cert.XqDhRefIdeal.τ).loc Cert.XqDhRefIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_XoDo [hXoDo : Cert.XoDo.Facts] : Prop :=
  ∀ (m : (ℓ : Loc Cert.XoDo.nD Cert.XoDo.τ Cert.XoDo.sig) → Buf (Elt Bits) ℓ) (g : Dev Cert.XoDo.nD → PrngReg), Pre_XoDo m →
    θ_run (Cert.XoDo.defs (F := Bits)) (onTc (τ := Cert.XoDo.τ) (Cert.XoDo.main (F := Bits))) ⟨m, fun _ => 0, g⟩ (fun r => (∀ c : Dev Cert.XoDo.nD,
      r.2.mem ((c.tc : Thread Cert.XoDo.nD Cert.XoDo.τ).loc Cert.XoDo.main_arg0) = m ((c.tc : Thread Cert.XoDo.nD Cert.XoDo.τ).loc Cert.XoDo.main_arg0)
      ∧ r.2.mem ((c.tc : Thread Cert.XoDo.nD Cert.XoDo.τ).loc Cert.XoDo.main_arg1) = m ((c.tc : Thread Cert.XoDo.nD Cert.XoDo.τ).loc Cert.XoDo.main_arg1))
      ∧ r.2.sem = fun _ => 0)

def quiescent_XoDoIdeal [hXoDoIdeal : Cert.XoDoIdeal.Facts] : Prop :=
  ∀ (m : (ℓ : Loc Cert.XoDoIdeal.nD Cert.XoDoIdeal.τ Cert.XoDoIdeal.sig) → Buf (Elt Ideal) ℓ) (g : Dev Cert.XoDoIdeal.nD → PrngReg), Pre_XoDoIdeal m →
    θ_run (Cert.XoDoIdeal.defs (F := Ideal)) (onTc (τ := Cert.XoDoIdeal.τ) (Cert.XoDoIdeal.main (F := Ideal))) ⟨m, fun _ => 0, g⟩ (fun r => (∀ c : Dev Cert.XoDoIdeal.nD,
      r.2.mem ((c.tc : Thread Cert.XoDoIdeal.nD Cert.XoDoIdeal.τ).loc Cert.XoDoIdeal.main_arg0) = m ((c.tc : Thread Cert.XoDoIdeal.nD Cert.XoDoIdeal.τ).loc Cert.XoDoIdeal.main_arg0)
      ∧ r.2.mem ((c.tc : Thread Cert.XoDoIdeal.nD Cert.XoDoIdeal.τ).loc Cert.XoDoIdeal.main_arg1) = m ((c.tc : Thread Cert.XoDoIdeal.nD Cert.XoDoIdeal.τ).loc Cert.XoDoIdeal.main_arg1))
      ∧ r.2.sem = fun _ => 0)

def quiescent_XoDoRefIdeal [hXoDoRefIdeal : Cert.XoDoRefIdeal.Facts] : Prop :=
  ∀ (m : (ℓ : Loc Cert.XoDoRefIdeal.nD Cert.XoDoRefIdeal.τ Cert.XoDoRefIdeal.sig) → Buf (Elt Ideal) ℓ) (g : Dev Cert.XoDoRefIdeal.nD → PrngReg), Pre_XoDoRefIdeal m →
    θ_run (Cert.XoDoRefIdeal.defs (F := Ideal)) (onTc (τ := Cert.XoDoRefIdeal.τ) (Cert.XoDoRefIdeal.main (F := Ideal))) ⟨m, fun _ => 0, g⟩ (fun r => (∀ c : Dev Cert.XoDoRefIdeal.nD,
      r.2.mem ((c.tc : Thread Cert.XoDoRefIdeal.nD Cert.XoDoRefIdeal.τ).loc Cert.XoDoRefIdeal.main_arg0) = m ((c.tc : Thread Cert.XoDoRefIdeal.nD Cert.XoDoRefIdeal.τ).loc Cert.XoDoRefIdeal.main_arg0)
      ∧ r.2.mem ((c.tc : Thread Cert.XoDoRefIdeal.nD Cert.XoDoRefIdeal.τ).loc Cert.XoDoRefIdeal.main_arg1) = m ((c.tc : Thread Cert.XoDoRefIdeal.nD Cert.XoDoRefIdeal.τ).loc Cert.XoDoRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ r.2.sem = fun _ => 0)

def quiescent_OutDyRefIdeal [hOutDyRefIdeal : Cert.OutDyRefIdeal.Facts] : Prop :=
  ∀ (m : (ℓ : Loc Cert.OutDyRefIdeal.nD Cert.OutDyRefIdeal.τ Cert.OutDyRefIdeal.sig) → Buf (Elt Ideal) ℓ) (g : Dev Cert.OutDyRefIdeal.nD → PrngReg), Pre_OutDyRefIdeal m →
    θ_run (Cert.OutDyRefIdeal.defs (F := Ideal)) (onTc (τ := Cert.OutDyRefIdeal.τ) (Cert.OutDyRefIdeal.main (F := Ideal))) ⟨m, fun _ => 0, g⟩ (fun r => (∀ c : Dev Cert.OutDyRefIdeal.nD,
      r.2.mem ((c.tc : Thread Cert.OutDyRefIdeal.nD Cert.OutDyRefIdeal.τ).loc Cert.OutDyRefIdeal.main_arg0) = m ((c.tc : Thread Cert.OutDyRefIdeal.nD Cert.OutDyRefIdeal.τ).loc Cert.OutDyRefIdeal.main_arg0)
      ∧ r.2.mem ((c.tc : Thread Cert.OutDyRefIdeal.nD Cert.OutDyRefIdeal.τ).loc Cert.OutDyRefIdeal.main_arg1) = m ((c.tc : Thread Cert.OutDyRefIdeal.nD Cert.OutDyRefIdeal.τ).loc Cert.OutDyRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1))
      ∧ r.2.sem = fun _ => 0)

def quiescent_LoraDw [hLoraDw : Cert.LoraDw.Facts] : Prop :=
  ∀ (m : (ℓ : Loc Cert.LoraDw.nD Cert.LoraDw.τ Cert.LoraDw.sig) → Buf (Elt Bits) ℓ) (g : Dev Cert.LoraDw.nD → PrngReg), Pre_LoraDw m →
    θ_run (Cert.LoraDw.defs (F := Bits)) (onTc (τ := Cert.LoraDw.τ) (Cert.LoraDw.main (F := Bits))) ⟨m, fun _ => 0, g⟩ (fun r => (∀ c : Dev Cert.LoraDw.nD,
      r.2.mem ((c.tc : Thread Cert.LoraDw.nD Cert.LoraDw.τ).loc Cert.LoraDw.main_arg0) = m ((c.tc : Thread Cert.LoraDw.nD Cert.LoraDw.τ).loc Cert.LoraDw.main_arg0)
      ∧ r.2.mem ((c.tc : Thread Cert.LoraDw.nD Cert.LoraDw.τ).loc Cert.LoraDw.main_arg1) = m ((c.tc : Thread Cert.LoraDw.nD Cert.LoraDw.τ).loc Cert.LoraDw.main_arg1))
      ∧ r.2.sem = fun _ => 0)

def quiescent_LoraDwIdeal [hLoraDwIdeal : Cert.LoraDwIdeal.Facts] : Prop :=
  ∀ (m : (ℓ : Loc Cert.LoraDwIdeal.nD Cert.LoraDwIdeal.τ Cert.LoraDwIdeal.sig) → Buf (Elt Ideal) ℓ) (g : Dev Cert.LoraDwIdeal.nD → PrngReg), Pre_LoraDwIdeal m →
    θ_run (Cert.LoraDwIdeal.defs (F := Ideal)) (onTc (τ := Cert.LoraDwIdeal.τ) (Cert.LoraDwIdeal.main (F := Ideal))) ⟨m, fun _ => 0, g⟩ (fun r => (∀ c : Dev Cert.LoraDwIdeal.nD,
      r.2.mem ((c.tc : Thread Cert.LoraDwIdeal.nD Cert.LoraDwIdeal.τ).loc Cert.LoraDwIdeal.main_arg0) = m ((c.tc : Thread Cert.LoraDwIdeal.nD Cert.LoraDwIdeal.τ).loc Cert.LoraDwIdeal.main_arg0)
      ∧ r.2.mem ((c.tc : Thread Cert.LoraDwIdeal.nD Cert.LoraDwIdeal.τ).loc Cert.LoraDwIdeal.main_arg1) = m ((c.tc : Thread Cert.LoraDwIdeal.nD Cert.LoraDwIdeal.τ).loc Cert.LoraDwIdeal.main_arg1))
      ∧ r.2.sem = fun _ => 0)

def quiescent_LoraDwRefIdeal [hLoraDwRefIdeal : Cert.LoraDwRefIdeal.Facts] : Prop :=
  ∀ (m : (ℓ : Loc Cert.LoraDwRefIdeal.nD Cert.LoraDwRefIdeal.τ Cert.LoraDwRefIdeal.sig) → Buf (Elt Ideal) ℓ) (g : Dev Cert.LoraDwRefIdeal.nD → PrngReg), Pre_LoraDwRefIdeal m →
    θ_run (Cert.LoraDwRefIdeal.defs (F := Ideal)) (onTc (τ := Cert.LoraDwRefIdeal.τ) (Cert.LoraDwRefIdeal.main (F := Ideal))) ⟨m, fun _ => 0, g⟩ (fun r => (∀ c : Dev Cert.LoraDwRefIdeal.nD,
      r.2.mem ((c.tc : Thread Cert.LoraDwRefIdeal.nD Cert.LoraDwRefIdeal.τ).loc Cert.LoraDwRefIdeal.main_arg0) = m ((c.tc : Thread Cert.LoraDwRefIdeal.nD Cert.LoraDwRefIdeal.τ).loc Cert.LoraDwRefIdeal.main_arg0)
      ∧ r.2.mem ((c.tc : Thread Cert.LoraDwRefIdeal.nD Cert.LoraDwRefIdeal.τ).loc Cert.LoraDwRefIdeal.main_arg1) = m ((c.tc : Thread Cert.LoraDwRefIdeal.nD Cert.LoraDwRefIdeal.τ).loc Cert.LoraDwRefIdeal.main_arg1))
      ∧ r.2.sem = fun _ => 0)

def quiescent_LoraDh [hLoraDh : Cert.LoraDh.Facts] : Prop :=
  ∀ (m : (ℓ : Loc Cert.LoraDh.nD Cert.LoraDh.τ Cert.LoraDh.sig) → Buf (Elt Bits) ℓ) (g : Dev Cert.LoraDh.nD → PrngReg), Pre_LoraDh m →
    θ_run (Cert.LoraDh.defs (F := Bits)) (onTc (τ := Cert.LoraDh.τ) (Cert.LoraDh.main (F := Bits))) ⟨m, fun _ => 0, g⟩ (fun r => (∀ c : Dev Cert.LoraDh.nD,
      r.2.mem ((c.tc : Thread Cert.LoraDh.nD Cert.LoraDh.τ).loc Cert.LoraDh.main_arg0) = m ((c.tc : Thread Cert.LoraDh.nD Cert.LoraDh.τ).loc Cert.LoraDh.main_arg0)
      ∧ r.2.mem ((c.tc : Thread Cert.LoraDh.nD Cert.LoraDh.τ).loc Cert.LoraDh.main_arg1) = m ((c.tc : Thread Cert.LoraDh.nD Cert.LoraDh.τ).loc Cert.LoraDh.main_arg1)
      ∧ r.2.mem ((c.tc : Thread Cert.LoraDh.nD Cert.LoraDh.τ).loc Cert.LoraDh.main_arg2) = m ((c.tc : Thread Cert.LoraDh.nD Cert.LoraDh.τ).loc Cert.LoraDh.main_arg2))
      ∧ r.2.sem = fun _ => 0)

def quiescent_LoraDhIdeal [hLoraDhIdeal : Cert.LoraDhIdeal.Facts] : Prop :=
  ∀ (m : (ℓ : Loc Cert.LoraDhIdeal.nD Cert.LoraDhIdeal.τ Cert.LoraDhIdeal.sig) → Buf (Elt Ideal) ℓ) (g : Dev Cert.LoraDhIdeal.nD → PrngReg), Pre_LoraDhIdeal m →
    θ_run (Cert.LoraDhIdeal.defs (F := Ideal)) (onTc (τ := Cert.LoraDhIdeal.τ) (Cert.LoraDhIdeal.main (F := Ideal))) ⟨m, fun _ => 0, g⟩ (fun r => (∀ c : Dev Cert.LoraDhIdeal.nD,
      r.2.mem ((c.tc : Thread Cert.LoraDhIdeal.nD Cert.LoraDhIdeal.τ).loc Cert.LoraDhIdeal.main_arg0) = m ((c.tc : Thread Cert.LoraDhIdeal.nD Cert.LoraDhIdeal.τ).loc Cert.LoraDhIdeal.main_arg0)
      ∧ r.2.mem ((c.tc : Thread Cert.LoraDhIdeal.nD Cert.LoraDhIdeal.τ).loc Cert.LoraDhIdeal.main_arg1) = m ((c.tc : Thread Cert.LoraDhIdeal.nD Cert.LoraDhIdeal.τ).loc Cert.LoraDhIdeal.main_arg1)
      ∧ r.2.mem ((c.tc : Thread Cert.LoraDhIdeal.nD Cert.LoraDhIdeal.τ).loc Cert.LoraDhIdeal.main_arg2) = m ((c.tc : Thread Cert.LoraDhIdeal.nD Cert.LoraDhIdeal.τ).loc Cert.LoraDhIdeal.main_arg2))
      ∧ r.2.sem = fun _ => 0)

def quiescent_LoraDhRefIdeal [hLoraDhRefIdeal : Cert.LoraDhRefIdeal.Facts] : Prop :=
  ∀ (m : (ℓ : Loc Cert.LoraDhRefIdeal.nD Cert.LoraDhRefIdeal.τ Cert.LoraDhRefIdeal.sig) → Buf (Elt Ideal) ℓ) (g : Dev Cert.LoraDhRefIdeal.nD → PrngReg), Pre_LoraDhRefIdeal m →
    θ_run (Cert.LoraDhRefIdeal.defs (F := Ideal)) (onTc (τ := Cert.LoraDhRefIdeal.τ) (Cert.LoraDhRefIdeal.main (F := Ideal))) ⟨m, fun _ => 0, g⟩ (fun r => (∀ c : Dev Cert.LoraDhRefIdeal.nD,
      r.2.mem ((c.tc : Thread Cert.LoraDhRefIdeal.nD Cert.LoraDhRefIdeal.τ).loc Cert.LoraDhRefIdeal.main_arg0) = m ((c.tc : Thread Cert.LoraDhRefIdeal.nD Cert.LoraDhRefIdeal.τ).loc Cert.LoraDhRefIdeal.main_arg0)
      ∧ r.2.mem ((c.tc : Thread Cert.LoraDhRefIdeal.nD Cert.LoraDhRefIdeal.τ).loc Cert.LoraDhRefIdeal.main_arg1) = m ((c.tc : Thread Cert.LoraDhRefIdeal.nD Cert.LoraDhRefIdeal.τ).loc Cert.LoraDhRefIdeal.main_arg1)
      ∧ r.2.mem ((c.tc : Thread Cert.LoraDhRefIdeal.nD Cert.LoraDhRefIdeal.τ).loc Cert.LoraDhRefIdeal.main_arg2) = m ((c.tc : Thread Cert.LoraDhRefIdeal.nD Cert.LoraDhRefIdeal.τ).loc Cert.LoraDhRefIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaDw [hSwaDw : Cert.SwaDw.Facts] : Prop :=
  ∀ (m : (ℓ : Loc Cert.SwaDw.nD Cert.SwaDw.τ Cert.SwaDw.sig) → Buf (Elt Bits) ℓ) (g : Dev Cert.SwaDw.nD → PrngReg), Pre_SwaDw m →
    θ_run (Cert.SwaDw.defs (F := Bits)) (onTc (τ := Cert.SwaDw.τ) (Cert.SwaDw.main (F := Bits))) ⟨m, fun _ => 0, g⟩ (fun r => (∀ c : Dev Cert.SwaDw.nD,
      r.2.mem ((c.tc : Thread Cert.SwaDw.nD Cert.SwaDw.τ).loc Cert.SwaDw.main_arg0) = m ((c.tc : Thread Cert.SwaDw.nD Cert.SwaDw.τ).loc Cert.SwaDw.main_arg0)
      ∧ r.2.mem ((c.tc : Thread Cert.SwaDw.nD Cert.SwaDw.τ).loc Cert.SwaDw.main_arg1) = m ((c.tc : Thread Cert.SwaDw.nD Cert.SwaDw.τ).loc Cert.SwaDw.main_arg1))
      ∧ r.2.sem = fun _ => 0)

def quiescent_SwaDwIdeal [hSwaDwIdeal : Cert.SwaDwIdeal.Facts] : Prop :=
  ∀ (m : (ℓ : Loc Cert.SwaDwIdeal.nD Cert.SwaDwIdeal.τ Cert.SwaDwIdeal.sig) → Buf (Elt Ideal) ℓ) (g : Dev Cert.SwaDwIdeal.nD → PrngReg), Pre_SwaDwIdeal m →
    θ_run (Cert.SwaDwIdeal.defs (F := Ideal)) (onTc (τ := Cert.SwaDwIdeal.τ) (Cert.SwaDwIdeal.main (F := Ideal))) ⟨m, fun _ => 0, g⟩ (fun r => (∀ c : Dev Cert.SwaDwIdeal.nD,
      r.2.mem ((c.tc : Thread Cert.SwaDwIdeal.nD Cert.SwaDwIdeal.τ).loc Cert.SwaDwIdeal.main_arg0) = m ((c.tc : Thread Cert.SwaDwIdeal.nD Cert.SwaDwIdeal.τ).loc Cert.SwaDwIdeal.main_arg0)
      ∧ r.2.mem ((c.tc : Thread Cert.SwaDwIdeal.nD Cert.SwaDwIdeal.τ).loc Cert.SwaDwIdeal.main_arg1) = m ((c.tc : Thread Cert.SwaDwIdeal.nD Cert.SwaDwIdeal.τ).loc Cert.SwaDwIdeal.main_arg1))
      ∧ r.2.sem = fun _ => 0)

def quiescent_SwaDwRefIdeal [hSwaDwRefIdeal : Cert.SwaDwRefIdeal.Facts] : Prop :=
  ∀ (m : (ℓ : Loc Cert.SwaDwRefIdeal.nD Cert.SwaDwRefIdeal.τ Cert.SwaDwRefIdeal.sig) → Buf (Elt Ideal) ℓ) (g : Dev Cert.SwaDwRefIdeal.nD → PrngReg), Pre_SwaDwRefIdeal m →
    θ_run (Cert.SwaDwRefIdeal.defs (F := Ideal)) (onTc (τ := Cert.SwaDwRefIdeal.τ) (Cert.SwaDwRefIdeal.main (F := Ideal))) ⟨m, fun _ => 0, g⟩ (fun r => (∀ c : Dev Cert.SwaDwRefIdeal.nD,
      r.2.mem ((c.tc : Thread Cert.SwaDwRefIdeal.nD Cert.SwaDwRefIdeal.τ).loc Cert.SwaDwRefIdeal.main_arg0) = m ((c.tc : Thread Cert.SwaDwRefIdeal.nD Cert.SwaDwRefIdeal.τ).loc Cert.SwaDwRefIdeal.main_arg0)
      ∧ r.2.mem ((c.tc : Thread Cert.SwaDwRefIdeal.nD Cert.SwaDwRefIdeal.τ).loc Cert.SwaDwRefIdeal.main_arg1) = m ((c.tc : Thread Cert.SwaDwRefIdeal.nD Cert.SwaDwRefIdeal.τ).loc Cert.SwaDwRefIdeal.main_arg1))
      ∧ r.2.sem = fun _ => 0)

def quiescent_SwaDh [hSwaDh : Cert.SwaDh.Facts] : Prop :=
  ∀ (m : (ℓ : Loc Cert.SwaDh.nD Cert.SwaDh.τ Cert.SwaDh.sig) → Buf (Elt Bits) ℓ) (g : Dev Cert.SwaDh.nD → PrngReg), Pre_SwaDh m →
    θ_run (Cert.SwaDh.defs (F := Bits)) (onTc (τ := Cert.SwaDh.τ) (Cert.SwaDh.main (F := Bits))) ⟨m, fun _ => 0, g⟩ (fun r => (∀ c : Dev Cert.SwaDh.nD,
      r.2.mem ((c.tc : Thread Cert.SwaDh.nD Cert.SwaDh.τ).loc Cert.SwaDh.main_arg0) = m ((c.tc : Thread Cert.SwaDh.nD Cert.SwaDh.τ).loc Cert.SwaDh.main_arg0)
      ∧ r.2.mem ((c.tc : Thread Cert.SwaDh.nD Cert.SwaDh.τ).loc Cert.SwaDh.main_arg1) = m ((c.tc : Thread Cert.SwaDh.nD Cert.SwaDh.τ).loc Cert.SwaDh.main_arg1)
      ∧ r.2.mem ((c.tc : Thread Cert.SwaDh.nD Cert.SwaDh.τ).loc Cert.SwaDh.main_arg2) = m ((c.tc : Thread Cert.SwaDh.nD Cert.SwaDh.τ).loc Cert.SwaDh.main_arg2))
      ∧ r.2.sem = fun _ => 0)

def quiescent_SwaDhIdeal [hSwaDhIdeal : Cert.SwaDhIdeal.Facts] : Prop :=
  ∀ (m : (ℓ : Loc Cert.SwaDhIdeal.nD Cert.SwaDhIdeal.τ Cert.SwaDhIdeal.sig) → Buf (Elt Ideal) ℓ) (g : Dev Cert.SwaDhIdeal.nD → PrngReg), Pre_SwaDhIdeal m →
    θ_run (Cert.SwaDhIdeal.defs (F := Ideal)) (onTc (τ := Cert.SwaDhIdeal.τ) (Cert.SwaDhIdeal.main (F := Ideal))) ⟨m, fun _ => 0, g⟩ (fun r => (∀ c : Dev Cert.SwaDhIdeal.nD,
      r.2.mem ((c.tc : Thread Cert.SwaDhIdeal.nD Cert.SwaDhIdeal.τ).loc Cert.SwaDhIdeal.main_arg0) = m ((c.tc : Thread Cert.SwaDhIdeal.nD Cert.SwaDhIdeal.τ).loc Cert.SwaDhIdeal.main_arg0)
      ∧ r.2.mem ((c.tc : Thread Cert.SwaDhIdeal.nD Cert.SwaDhIdeal.τ).loc Cert.SwaDhIdeal.main_arg1) = m ((c.tc : Thread Cert.SwaDhIdeal.nD Cert.SwaDhIdeal.τ).loc Cert.SwaDhIdeal.main_arg1)
      ∧ r.2.mem ((c.tc : Thread Cert.SwaDhIdeal.nD Cert.SwaDhIdeal.τ).loc Cert.SwaDhIdeal.main_arg2) = m ((c.tc : Thread Cert.SwaDhIdeal.nD Cert.SwaDhIdeal.τ).loc Cert.SwaDhIdeal.main_arg2))
      ∧ r.2.sem = fun _ => 0)

def quiescent_SwaDhRefIdeal [hSwaDhRefIdeal : Cert.SwaDhRefIdeal.Facts] : Prop :=
  ∀ (m : (ℓ : Loc Cert.SwaDhRefIdeal.nD Cert.SwaDhRefIdeal.τ Cert.SwaDhRefIdeal.sig) → Buf (Elt Ideal) ℓ) (g : Dev Cert.SwaDhRefIdeal.nD → PrngReg), Pre_SwaDhRefIdeal m →
    θ_run (Cert.SwaDhRefIdeal.defs (F := Ideal)) (onTc (τ := Cert.SwaDhRefIdeal.τ) (Cert.SwaDhRefIdeal.main (F := Ideal))) ⟨m, fun _ => 0, g⟩ (fun r => (∀ c : Dev Cert.SwaDhRefIdeal.nD,
      r.2.mem ((c.tc : Thread Cert.SwaDhRefIdeal.nD Cert.SwaDhRefIdeal.τ).loc Cert.SwaDhRefIdeal.main_arg0) = m ((c.tc : Thread Cert.SwaDhRefIdeal.nD Cert.SwaDhRefIdeal.τ).loc Cert.SwaDhRefIdeal.main_arg0)
      ∧ r.2.mem ((c.tc : Thread Cert.SwaDhRefIdeal.nD Cert.SwaDhRefIdeal.τ).loc Cert.SwaDhRefIdeal.main_arg1) = m ((c.tc : Thread Cert.SwaDhRefIdeal.nD Cert.SwaDhRefIdeal.τ).loc Cert.SwaDhRefIdeal.main_arg1)
      ∧ r.2.mem ((c.tc : Thread Cert.SwaDhRefIdeal.nD Cert.SwaDhRefIdeal.τ).loc Cert.SwaDhRefIdeal.main_arg2) = m ((c.tc : Thread Cert.SwaDhRefIdeal.nD Cert.SwaDhRefIdeal.τ).loc Cert.SwaDhRefIdeal.main_arg2))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_XkvDh [hXkvDh : Cert.XkvDh.Facts] : Prop :=
  ∀ (m : (ℓ : Loc Cert.XkvDh.nD Cert.XkvDh.τ Cert.XkvDh.sig) → Buf (Elt Bits) ℓ) (g : Dev Cert.XkvDh.nD → PrngReg), Pre_XkvDh m →
    θ_run (Cert.XkvDh.defs (F := Bits)) (onTc (τ := Cert.XkvDh.τ) (Cert.XkvDh.main (F := Bits))) ⟨m, fun _ => 0, g⟩ (fun r => (∀ c : Dev Cert.XkvDh.nD,
      r.2.mem ((c.tc : Thread Cert.XkvDh.nD Cert.XkvDh.τ).loc Cert.XkvDh.main_arg0) = m ((c.tc : Thread Cert.XkvDh.nD Cert.XkvDh.τ).loc Cert.XkvDh.main_arg0)
      ∧ r.2.mem ((c.tc : Thread Cert.XkvDh.nD Cert.XkvDh.τ).loc Cert.XkvDh.main_arg1) = m ((c.tc : Thread Cert.XkvDh.nD Cert.XkvDh.τ).loc Cert.XkvDh.main_arg1))
      ∧ r.2.sem = fun _ => 0)

def quiescent_XkvDhIdeal [hXkvDhIdeal : Cert.XkvDhIdeal.Facts] : Prop :=
  ∀ (m : (ℓ : Loc Cert.XkvDhIdeal.nD Cert.XkvDhIdeal.τ Cert.XkvDhIdeal.sig) → Buf (Elt Ideal) ℓ) (g : Dev Cert.XkvDhIdeal.nD → PrngReg), Pre_XkvDhIdeal m →
    θ_run (Cert.XkvDhIdeal.defs (F := Ideal)) (onTc (τ := Cert.XkvDhIdeal.τ) (Cert.XkvDhIdeal.main (F := Ideal))) ⟨m, fun _ => 0, g⟩ (fun r => (∀ c : Dev Cert.XkvDhIdeal.nD,
      r.2.mem ((c.tc : Thread Cert.XkvDhIdeal.nD Cert.XkvDhIdeal.τ).loc Cert.XkvDhIdeal.main_arg0) = m ((c.tc : Thread Cert.XkvDhIdeal.nD Cert.XkvDhIdeal.τ).loc Cert.XkvDhIdeal.main_arg0)
      ∧ r.2.mem ((c.tc : Thread Cert.XkvDhIdeal.nD Cert.XkvDhIdeal.τ).loc Cert.XkvDhIdeal.main_arg1) = m ((c.tc : Thread Cert.XkvDhIdeal.nD Cert.XkvDhIdeal.τ).loc Cert.XkvDhIdeal.main_arg1))
      ∧ r.2.sem = fun _ => 0)

def quiescent_XkvDhRefIdeal [hXkvDhRefIdeal : Cert.XkvDhRefIdeal.Facts] : Prop :=
  ∀ (m : (ℓ : Loc Cert.XkvDhRefIdeal.nD Cert.XkvDhRefIdeal.τ Cert.XkvDhRefIdeal.sig) → Buf (Elt Ideal) ℓ) (g : Dev Cert.XkvDhRefIdeal.nD → PrngReg), Pre_XkvDhRefIdeal m →
    θ_run (Cert.XkvDhRefIdeal.defs (F := Ideal)) (onTc (τ := Cert.XkvDhRefIdeal.τ) (Cert.XkvDhRefIdeal.main (F := Ideal))) ⟨m, fun _ => 0, g⟩ (fun r => (∀ c : Dev Cert.XkvDhRefIdeal.nD,
      r.2.mem ((c.tc : Thread Cert.XkvDhRefIdeal.nD Cert.XkvDhRefIdeal.τ).loc Cert.XkvDhRefIdeal.main_arg0) = m ((c.tc : Thread Cert.XkvDhRefIdeal.nD Cert.XkvDhRefIdeal.τ).loc Cert.XkvDhRefIdeal.main_arg0)
      ∧ r.2.mem ((c.tc : Thread Cert.XkvDhRefIdeal.nD Cert.XkvDhRefIdeal.τ).loc Cert.XkvDhRefIdeal.main_arg1) = m ((c.tc : Thread Cert.XkvDhRefIdeal.nD Cert.XkvDhRefIdeal.τ).loc Cert.XkvDhRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v5) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v9) = v0 c
          ∧ r.2.mem ((c.tc : Thread Cert.DactRefIdeal.nD Cert.DactRefIdeal.τ).loc Cert.DactRefIdeal.main_v11) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v6) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_v7) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDh_InDhIdeal : Prop :=
  True

def algebraic_InDhIdeal_InDhRefIdeal [hInDhIdeal : Cert.InDhIdeal.Facts] [hInDhRefIdeal : Cert.InDhRefIdeal.Facts] : Prop :=
  ∀ (m : (ℓ : Loc Cert.InDhIdeal.nD Cert.InDhIdeal.τ Cert.InDhIdeal.sig) → Buf (Elt Ideal) ℓ) (g : Dev Cert.InDhIdeal.nD → PrngReg)
    (m' : (ℓ : Loc Cert.InDhRefIdeal.nD Cert.InDhRefIdeal.τ Cert.InDhRefIdeal.sig) → Buf (Elt Ideal) ℓ) (g' : Dev Cert.InDhRefIdeal.nD → PrngReg), Pre_InDhIdeal m →
    (∀ c : Dev Cert.InDhIdeal.nD,
      m' ((c.tc : Thread Cert.InDhRefIdeal.nD Cert.InDhRefIdeal.τ).loc Cert.InDhRefIdeal.main_arg0) = m ((c.tc : Thread Cert.InDhIdeal.nD Cert.InDhIdeal.τ).loc Cert.InDhIdeal.main_arg0)
      ∧ m' ((c.tc : Thread Cert.InDhRefIdeal.nD Cert.InDhRefIdeal.τ).loc Cert.InDhRefIdeal.main_arg1) = m ((c.tc : Thread Cert.InDhIdeal.nD Cert.InDhIdeal.τ).loc Cert.InDhIdeal.main_arg1)) →
    ∃ (v0 : (c : Dev Cert.InDhIdeal.nD) → Buf (Elt Ideal) ((c.tc : Thread Cert.InDhIdeal.nD Cert.InDhIdeal.τ).loc Cert.InDhIdeal.main_v0)),
      θ_run (Cert.InDhIdeal.defs (F := Ideal)) (onTc (τ := Cert.InDhIdeal.τ) (Cert.InDhIdeal.main (F := Ideal))) ⟨m, fun _ => 0, g⟩ (fun r => ∀ c : Dev Cert.InDhIdeal.nD,
          r.2.mem ((c.tc : Thread Cert.InDhIdeal.nD Cert.InDhIdeal.τ).loc Cert.InDhIdeal.main_v0) = v0 c
          ∧ r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
          ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ θ_run (Cert.InDhRefIdeal.defs (F := Ideal)) (onTc (τ := Cert.InDhRefIdeal.τ) (Cert.InDhRefIdeal.main (F := Ideal))) ⟨m', fun _ => 0, g'⟩ (fun r => ∀ c : Dev Cert.InDhRefIdeal.nD,
          r.2.mem ((c.tc : Thread Cert.InDhRefIdeal.nD Cert.InDhRefIdeal.τ).loc Cert.InDhRefIdeal.main_v3) = v0 c
          ∧ r.2.mem ((c.tc : Thread Cert.InDhRefIdeal.nD Cert.InDhRefIdeal.τ).loc Cert.InDhRefIdeal.main_arg0) = m' ((c.tc : Thread Cert.InDhRefIdeal.nD Cert.InDhRefIdeal.τ).loc Cert.InDhRefIdeal.main_arg0)
          ∧ r.2.mem ((c.tc : Thread Cert.InDhRefIdeal.nD Cert.InDhRefIdeal.τ).loc Cert.InDhRefIdeal.main_arg1) = m' ((c.tc : Thread Cert.InDhRefIdeal.nD Cert.InDhRefIdeal.τ).loc Cert.InDhRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v3) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_XqDw_XqDwIdeal : Prop :=
  True

def algebraic_XqDwIdeal_XqDwRefIdeal [hXqDwIdeal : Cert.XqDwIdeal.Facts] [hXqDwRefIdeal : Cert.XqDwRefIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwRefIdeal.nD Cert.XqDwRefIdeal.τ Cert.XqDwRefIdeal.sig) → Buf (Elt Ideal) ℓ) (g' : Dev Cert.XqDwRefIdeal.nD → PrngReg), Pre_XqDwIdeal m →
    (∀ c : Dev Cert.XqDwIdeal.nD,
      m' ((c.tc : Thread Cert.XqDwRefIdeal.nD Cert.XqDwRefIdeal.τ).loc Cert.XqDwRefIdeal.main_arg0) = m ((c.tc : Thread Cert.XqDwIdeal.nD Cert.XqDwIdeal.τ).loc Cert.XqDwIdeal.main_arg0)
      ∧ m' ((c.tc : Thread Cert.XqDwRefIdeal.nD Cert.XqDwRefIdeal.τ).loc Cert.XqDwRefIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwRefIdeal.defs (F := Ideal)) (onTc (τ := Cert.XqDwRefIdeal.τ) (Cert.XqDwRefIdeal.main (F := Ideal))) ⟨m', fun _ => 0, g'⟩ (fun r => ∀ c : Dev Cert.XqDwRefIdeal.nD,
          r.2.mem ((c.tc : Thread Cert.XqDwRefIdeal.nD Cert.XqDwRefIdeal.τ).loc Cert.XqDwRefIdeal.main_v4) = v0 c
          ∧ r.2.mem ((c.tc : Thread Cert.XqDwRefIdeal.nD Cert.XqDwRefIdeal.τ).loc Cert.XqDwRefIdeal.main_arg0) = m' ((c.tc : Thread Cert.XqDwRefIdeal.nD Cert.XqDwRefIdeal.τ).loc Cert.XqDwRefIdeal.main_arg0)
          ∧ r.2.mem ((c.tc : Thread Cert.XqDwRefIdeal.nD Cert.XqDwRefIdeal.τ).loc Cert.XqDwRefIdeal.main_arg1) = m' ((c.tc : Thread Cert.XqDwRefIdeal.nD Cert.XqDwRefIdeal.τ).loc Cert.XqDwRefIdeal.main_arg1))

def preserves_XqDh_XqDhIdeal : Prop :=
  True

def algebraic_XqDhIdeal_XqDhRefIdeal [hXqDhIdeal : Cert.XqDhIdeal.Facts] [hXqDhRefIdeal : Cert.XqDhRefIdeal.Facts] : Prop :=
  ∀ (m : (ℓ : Loc Cert.XqDhIdeal.nD Cert.XqDhIdeal.τ Cert.XqDhIdeal.sig) → Buf (Elt Ideal) ℓ) (g : Dev Cert.XqDhIdeal.nD → PrngReg)
    (m' : (ℓ : Loc Cert.XqDhRefIdeal.nD Cert.XqDhRefIdeal.τ Cert.XqDhRefIdeal.sig) → Buf (Elt Ideal) ℓ) (g' : Dev Cert.XqDhRefIdeal.nD → PrngReg), Pre_XqDhIdeal m →
    (∀ c : Dev Cert.XqDhIdeal.nD,
      m' ((c.tc : Thread Cert.XqDhRefIdeal.nD Cert.XqDhRefIdeal.τ).loc Cert.XqDhRefIdeal.main_arg0) = m ((c.tc : Thread Cert.XqDhIdeal.nD Cert.XqDhIdeal.τ).loc Cert.XqDhIdeal.main_arg0)
      ∧ m' ((c.tc : Thread Cert.XqDhRefIdeal.nD Cert.XqDhRefIdeal.τ).loc Cert.XqDhRefIdeal.main_arg1) = m ((c.tc : Thread Cert.XqDhIdeal.nD Cert.XqDhIdeal.τ).loc Cert.XqDhIdeal.main_arg1)) →
    ∃ (v0 : (c : Dev Cert.XqDhIdeal.nD) → Buf (Elt Ideal) ((c.tc : Thread Cert.XqDhIdeal.nD Cert.XqDhIdeal.τ).loc Cert.XqDhIdeal.main_v0)),
      θ_run (Cert.XqDhIdeal.defs (F := Ideal)) (onTc (τ := Cert.XqDhIdeal.τ) (Cert.XqDhIdeal.main (F := Ideal))) ⟨m, fun _ => 0, g⟩ (fun r => ∀ c : Dev Cert.XqDhIdeal.nD,
          r.2.mem ((c.tc : Thread Cert.XqDhIdeal.nD Cert.XqDhIdeal.τ).loc Cert.XqDhIdeal.main_v0) = v0 c
          ∧ r.2.mem ((c.tc : Thread Cert.XqDhIdeal.nD Cert.XqDhIdeal.τ).loc Cert.XqDhIdeal.main_arg0) = m ((c.tc : Thread Cert.XqDhIdeal.nD Cert.XqDhIdeal.τ).loc Cert.XqDhIdeal.main_arg0)
          ∧ r.2.mem ((c.tc : Thread Cert.XqDhIdeal.nD Cert.XqDhIdeal.τ).loc Cert.XqDhIdeal.main_arg1) = m ((c.tc : Thread Cert.XqDhIdeal.nD Cert.XqDhIdeal.τ).loc Cert.XqDhIdeal.main_arg1))
      ∧ θ_run (Cert.XqDhRefIdeal.defs (F := Ideal)) (onTc (τ := Cert.XqDhRefIdeal.τ) (Cert.XqDhRefIdeal.main (F := Ideal))) ⟨m', fun _ => 0, g'⟩ (fun r => ∀ c : Dev Cert.XqDhRefIdeal.nD,
          r.2.mem ((c.tc : Thread Cert.XqDhRefIdeal.nD Cert.XqDhRefIdeal.τ).loc Cert.XqDhRefIdeal.main_v2) = v0 c
          ∧ r.2.mem ((c.tc : Thread Cert.XqDhRefIdeal.nD Cert.XqDhRefIdeal.τ).loc Cert.XqDhRefIdeal.main_arg0) = m' ((c.tc : Thread Cert.XqDhRefIdeal.nD Cert.XqDhRefIdeal.τ).loc Cert.XqDhRefIdeal.main_arg0)
          ∧ r.2.mem ((c.tc : Thread Cert.XqDhRefIdeal.nD Cert.XqDhRefIdeal.τ).loc Cert.XqDhRefIdeal.main_arg1) = m' ((c.tc : Thread Cert.XqDhRefIdeal.nD Cert.XqDhRefIdeal.τ).loc Cert.XqDhRefIdeal.main_arg1))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v3) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_XoDo_XoDoIdeal : Prop :=
  True

def algebraic_XoDoIdeal_XoDoRefIdeal [hXoDoIdeal : Cert.XoDoIdeal.Facts] [hXoDoRefIdeal : Cert.XoDoRefIdeal.Facts] : Prop :=
  ∀ (m : (ℓ : Loc Cert.XoDoIdeal.nD Cert.XoDoIdeal.τ Cert.XoDoIdeal.sig) → Buf (Elt Ideal) ℓ) (g : Dev Cert.XoDoIdeal.nD → PrngReg)
    (m' : (ℓ : Loc Cert.XoDoRefIdeal.nD Cert.XoDoRefIdeal.τ Cert.XoDoRefIdeal.sig) → Buf (Elt Ideal) ℓ) (g' : Dev Cert.XoDoRefIdeal.nD → PrngReg), Pre_XoDoIdeal m →
    (∀ c : Dev Cert.XoDoIdeal.nD,
      m' ((c.tc : Thread Cert.XoDoRefIdeal.nD Cert.XoDoRefIdeal.τ).loc Cert.XoDoRefIdeal.main_arg0) = m ((c.tc : Thread Cert.XoDoIdeal.nD Cert.XoDoIdeal.τ).loc Cert.XoDoIdeal.main_arg0)
      ∧ m' ((c.tc : Thread Cert.XoDoRefIdeal.nD Cert.XoDoRefIdeal.τ).loc Cert.XoDoRefIdeal.main_arg1) = m ((c.tc : Thread Cert.XoDoIdeal.nD Cert.XoDoIdeal.τ).loc Cert.XoDoIdeal.main_arg1)) →
    ∃ (v0 : (c : Dev Cert.XoDoIdeal.nD) → Buf (Elt Ideal) ((c.tc : Thread Cert.XoDoIdeal.nD Cert.XoDoIdeal.τ).loc Cert.XoDoIdeal.main_v0)),
      θ_run (Cert.XoDoIdeal.defs (F := Ideal)) (onTc (τ := Cert.XoDoIdeal.τ) (Cert.XoDoIdeal.main (F := Ideal))) ⟨m, fun _ => 0, g⟩ (fun r => ∀ c : Dev Cert.XoDoIdeal.nD,
          r.2.mem ((c.tc : Thread Cert.XoDoIdeal.nD Cert.XoDoIdeal.τ).loc Cert.XoDoIdeal.main_v0) = v0 c
          ∧ r.2.mem ((c.tc : Thread Cert.XoDoIdeal.nD Cert.XoDoIdeal.τ).loc Cert.XoDoIdeal.main_arg0) = m ((c.tc : Thread Cert.XoDoIdeal.nD Cert.XoDoIdeal.τ).loc Cert.XoDoIdeal.main_arg0)
          ∧ r.2.mem ((c.tc : Thread Cert.XoDoIdeal.nD Cert.XoDoIdeal.τ).loc Cert.XoDoIdeal.main_arg1) = m ((c.tc : Thread Cert.XoDoIdeal.nD Cert.XoDoIdeal.τ).loc Cert.XoDoIdeal.main_arg1))
      ∧ θ_run (Cert.XoDoRefIdeal.defs (F := Ideal)) (onTc (τ := Cert.XoDoRefIdeal.τ) (Cert.XoDoRefIdeal.main (F := Ideal))) ⟨m', fun _ => 0, g'⟩ (fun r => ∀ c : Dev Cert.XoDoRefIdeal.nD,
          r.2.mem ((c.tc : Thread Cert.XoDoRefIdeal.nD Cert.XoDoRefIdeal.τ).loc Cert.XoDoRefIdeal.main_v2) = v0 c
          ∧ r.2.mem ((c.tc : Thread Cert.XoDoRefIdeal.nD Cert.XoDoRefIdeal.τ).loc Cert.XoDoRefIdeal.main_arg0) = m' ((c.tc : Thread Cert.XoDoRefIdeal.nD Cert.XoDoRefIdeal.τ).loc Cert.XoDoRefIdeal.main_arg0)
          ∧ r.2.mem ((c.tc : Thread Cert.XoDoRefIdeal.nD Cert.XoDoRefIdeal.τ).loc Cert.XoDoRefIdeal.main_arg1) = m' ((c.tc : Thread Cert.XoDoRefIdeal.nD Cert.XoDoRefIdeal.τ).loc Cert.XoDoRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDy_OutDyIdeal : Prop :=
  True

def algebraic_OutDyIdeal_OutDyRefIdeal [hOutDyIdeal : Cert.OutDyIdeal.Facts] [hOutDyRefIdeal : Cert.OutDyRefIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyRefIdeal.nD Cert.OutDyRefIdeal.τ Cert.OutDyRefIdeal.sig) → Buf (Elt Ideal) ℓ) (g' : Dev Cert.OutDyRefIdeal.nD → PrngReg), Pre_OutDyIdeal m →
    (∀ c : Dev Cert.OutDyIdeal.nD,
      m' ((c.tc : Thread Cert.OutDyRefIdeal.nD Cert.OutDyRefIdeal.τ).loc Cert.OutDyRefIdeal.main_arg0) = m ((c.tc : Thread Cert.OutDyIdeal.nD Cert.OutDyIdeal.τ).loc Cert.OutDyIdeal.main_arg0)
      ∧ m' ((c.tc : Thread Cert.OutDyRefIdeal.nD Cert.OutDyRefIdeal.τ).loc Cert.OutDyRefIdeal.main_arg1) = m ((c.tc : Thread Cert.OutDyIdeal.nD Cert.OutDyIdeal.τ).loc Cert.OutDyIdeal.main_arg1)) →
    ∃ (v0 : (c : Dev Cert.OutDyIdeal.nD) → Buf (Elt Ideal) ((c.tc : Thread Cert.OutDyIdeal.nD Cert.OutDyIdeal.τ).loc Cert.OutDyIdeal.main_v0)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v0) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ θ_run (Cert.OutDyRefIdeal.defs (F := Ideal)) (onTc (τ := Cert.OutDyRefIdeal.τ) (Cert.OutDyRefIdeal.main (F := Ideal))) ⟨m', fun _ => 0, g'⟩ (fun r => ∀ c : Dev Cert.OutDyRefIdeal.nD,
          r.2.mem ((c.tc : Thread Cert.OutDyRefIdeal.nD Cert.OutDyRefIdeal.τ).loc Cert.OutDyRefIdeal.main_v1) = v0 c
          ∧ r.2.mem ((c.tc : Thread Cert.OutDyRefIdeal.nD Cert.OutDyRefIdeal.τ).loc Cert.OutDyRefIdeal.main_arg0) = m' ((c.tc : Thread Cert.OutDyRefIdeal.nD Cert.OutDyRefIdeal.τ).loc Cert.OutDyRefIdeal.main_arg0)
          ∧ r.2.mem ((c.tc : Thread Cert.OutDyRefIdeal.nD Cert.OutDyRefIdeal.τ).loc Cert.OutDyRefIdeal.main_arg1) = m' ((c.tc : Thread Cert.OutDyRefIdeal.nD Cert.OutDyRefIdeal.τ).loc Cert.OutDyRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)) →
    ∃ (v0 : (c : Dev Cert.LoraIdeal.nD) → Buf (Elt Ideal) ((c.tc : Thread Cert.LoraIdeal.nD Cert.LoraIdeal.τ).loc Cert.LoraIdeal.main_v0)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v0) = v0 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v3) = v0 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1))

def preserves_LoraDw_LoraDwIdeal : Prop :=
  True

def algebraic_LoraDwIdeal_LoraDwRefIdeal [hLoraDwIdeal : Cert.LoraDwIdeal.Facts] [hLoraDwRefIdeal : Cert.LoraDwRefIdeal.Facts] : Prop :=
  ∀ (m : (ℓ : Loc Cert.LoraDwIdeal.nD Cert.LoraDwIdeal.τ Cert.LoraDwIdeal.sig) → Buf (Elt Ideal) ℓ) (g : Dev Cert.LoraDwIdeal.nD → PrngReg)
    (m' : (ℓ : Loc Cert.LoraDwRefIdeal.nD Cert.LoraDwRefIdeal.τ Cert.LoraDwRefIdeal.sig) → Buf (Elt Ideal) ℓ) (g' : Dev Cert.LoraDwRefIdeal.nD → PrngReg), Pre_LoraDwIdeal m →
    (∀ c : Dev Cert.LoraDwIdeal.nD,
      m' ((c.tc : Thread Cert.LoraDwRefIdeal.nD Cert.LoraDwRefIdeal.τ).loc Cert.LoraDwRefIdeal.main_arg0) = m ((c.tc : Thread Cert.LoraDwIdeal.nD Cert.LoraDwIdeal.τ).loc Cert.LoraDwIdeal.main_arg0)
      ∧ m' ((c.tc : Thread Cert.LoraDwRefIdeal.nD Cert.LoraDwRefIdeal.τ).loc Cert.LoraDwRefIdeal.main_arg1) = m ((c.tc : Thread Cert.LoraDwIdeal.nD Cert.LoraDwIdeal.τ).loc Cert.LoraDwIdeal.main_arg1)) →
    ∃ (v0 : (c : Dev Cert.LoraDwIdeal.nD) → Buf (Elt Ideal) ((c.tc : Thread Cert.LoraDwIdeal.nD Cert.LoraDwIdeal.τ).loc Cert.LoraDwIdeal.main_v0)),
      θ_run (Cert.LoraDwIdeal.defs (F := Ideal)) (onTc (τ := Cert.LoraDwIdeal.τ) (Cert.LoraDwIdeal.main (F := Ideal))) ⟨m, fun _ => 0, g⟩ (fun r => ∀ c : Dev Cert.LoraDwIdeal.nD,
          r.2.mem ((c.tc : Thread Cert.LoraDwIdeal.nD Cert.LoraDwIdeal.τ).loc Cert.LoraDwIdeal.main_v0) = v0 c
          ∧ r.2.mem ((c.tc : Thread Cert.LoraDwIdeal.nD Cert.LoraDwIdeal.τ).loc Cert.LoraDwIdeal.main_arg0) = m ((c.tc : Thread Cert.LoraDwIdeal.nD Cert.LoraDwIdeal.τ).loc Cert.LoraDwIdeal.main_arg0)
          ∧ r.2.mem ((c.tc : Thread Cert.LoraDwIdeal.nD Cert.LoraDwIdeal.τ).loc Cert.LoraDwIdeal.main_arg1) = m ((c.tc : Thread Cert.LoraDwIdeal.nD Cert.LoraDwIdeal.τ).loc Cert.LoraDwIdeal.main_arg1))
      ∧ θ_run (Cert.LoraDwRefIdeal.defs (F := Ideal)) (onTc (τ := Cert.LoraDwRefIdeal.τ) (Cert.LoraDwRefIdeal.main (F := Ideal))) ⟨m', fun _ => 0, g'⟩ (fun r => ∀ c : Dev Cert.LoraDwRefIdeal.nD,
          r.2.mem ((c.tc : Thread Cert.LoraDwRefIdeal.nD Cert.LoraDwRefIdeal.τ).loc Cert.LoraDwRefIdeal.main_v4) = v0 c
          ∧ r.2.mem ((c.tc : Thread Cert.LoraDwRefIdeal.nD Cert.LoraDwRefIdeal.τ).loc Cert.LoraDwRefIdeal.main_arg0) = m' ((c.tc : Thread Cert.LoraDwRefIdeal.nD Cert.LoraDwRefIdeal.τ).loc Cert.LoraDwRefIdeal.main_arg0)
          ∧ r.2.mem ((c.tc : Thread Cert.LoraDwRefIdeal.nD Cert.LoraDwRefIdeal.τ).loc Cert.LoraDwRefIdeal.main_arg1) = m' ((c.tc : Thread Cert.LoraDwRefIdeal.nD Cert.LoraDwRefIdeal.τ).loc Cert.LoraDwRefIdeal.main_arg1))

def preserves_LoraDh_LoraDhIdeal : Prop :=
  True

def algebraic_LoraDhIdeal_LoraDhRefIdeal [hLoraDhIdeal : Cert.LoraDhIdeal.Facts] [hLoraDhRefIdeal : Cert.LoraDhRefIdeal.Facts] : Prop :=
  ∀ (m : (ℓ : Loc Cert.LoraDhIdeal.nD Cert.LoraDhIdeal.τ Cert.LoraDhIdeal.sig) → Buf (Elt Ideal) ℓ) (g : Dev Cert.LoraDhIdeal.nD → PrngReg)
    (m' : (ℓ : Loc Cert.LoraDhRefIdeal.nD Cert.LoraDhRefIdeal.τ Cert.LoraDhRefIdeal.sig) → Buf (Elt Ideal) ℓ) (g' : Dev Cert.LoraDhRefIdeal.nD → PrngReg), Pre_LoraDhIdeal m →
    (∀ c : Dev Cert.LoraDhIdeal.nD,
      m' ((c.tc : Thread Cert.LoraDhRefIdeal.nD Cert.LoraDhRefIdeal.τ).loc Cert.LoraDhRefIdeal.main_arg0) = m ((c.tc : Thread Cert.LoraDhIdeal.nD Cert.LoraDhIdeal.τ).loc Cert.LoraDhIdeal.main_arg0)
      ∧ m' ((c.tc : Thread Cert.LoraDhRefIdeal.nD Cert.LoraDhRefIdeal.τ).loc Cert.LoraDhRefIdeal.main_arg1) = m ((c.tc : Thread Cert.LoraDhIdeal.nD Cert.LoraDhIdeal.τ).loc Cert.LoraDhIdeal.main_arg1)
      ∧ m' ((c.tc : Thread Cert.LoraDhRefIdeal.nD Cert.LoraDhRefIdeal.τ).loc Cert.LoraDhRefIdeal.main_arg2) = m ((c.tc : Thread Cert.LoraDhIdeal.nD Cert.LoraDhIdeal.τ).loc Cert.LoraDhIdeal.main_arg2)) →
    ∃ (v0 : (c : Dev Cert.LoraDhIdeal.nD) → Buf (Elt Ideal) ((c.tc : Thread Cert.LoraDhIdeal.nD Cert.LoraDhIdeal.τ).loc Cert.LoraDhIdeal.main_v0)),
      θ_run (Cert.LoraDhIdeal.defs (F := Ideal)) (onTc (τ := Cert.LoraDhIdeal.τ) (Cert.LoraDhIdeal.main (F := Ideal))) ⟨m, fun _ => 0, g⟩ (fun r => ∀ c : Dev Cert.LoraDhIdeal.nD,
          r.2.mem ((c.tc : Thread Cert.LoraDhIdeal.nD Cert.LoraDhIdeal.τ).loc Cert.LoraDhIdeal.main_v0) = v0 c
          ∧ r.2.mem ((c.tc : Thread Cert.LoraDhIdeal.nD Cert.LoraDhIdeal.τ).loc Cert.LoraDhIdeal.main_arg0) = m ((c.tc : Thread Cert.LoraDhIdeal.nD Cert.LoraDhIdeal.τ).loc Cert.LoraDhIdeal.main_arg0)
          ∧ r.2.mem ((c.tc : Thread Cert.LoraDhIdeal.nD Cert.LoraDhIdeal.τ).loc Cert.LoraDhIdeal.main_arg1) = m ((c.tc : Thread Cert.LoraDhIdeal.nD Cert.LoraDhIdeal.τ).loc Cert.LoraDhIdeal.main_arg1)
          ∧ r.2.mem ((c.tc : Thread Cert.LoraDhIdeal.nD Cert.LoraDhIdeal.τ).loc Cert.LoraDhIdeal.main_arg2) = m ((c.tc : Thread Cert.LoraDhIdeal.nD Cert.LoraDhIdeal.τ).loc Cert.LoraDhIdeal.main_arg2))
      ∧ θ_run (Cert.LoraDhRefIdeal.defs (F := Ideal)) (onTc (τ := Cert.LoraDhRefIdeal.τ) (Cert.LoraDhRefIdeal.main (F := Ideal))) ⟨m', fun _ => 0, g'⟩ (fun r => ∀ c : Dev Cert.LoraDhRefIdeal.nD,
          r.2.mem ((c.tc : Thread Cert.LoraDhRefIdeal.nD Cert.LoraDhRefIdeal.τ).loc Cert.LoraDhRefIdeal.main_v4) = v0 c
          ∧ r.2.mem ((c.tc : Thread Cert.LoraDhRefIdeal.nD Cert.LoraDhRefIdeal.τ).loc Cert.LoraDhRefIdeal.main_arg0) = m' ((c.tc : Thread Cert.LoraDhRefIdeal.nD Cert.LoraDhRefIdeal.τ).loc Cert.LoraDhRefIdeal.main_arg0)
          ∧ r.2.mem ((c.tc : Thread Cert.LoraDhRefIdeal.nD Cert.LoraDhRefIdeal.τ).loc Cert.LoraDhRefIdeal.main_arg1) = m' ((c.tc : Thread Cert.LoraDhRefIdeal.nD Cert.LoraDhRefIdeal.τ).loc Cert.LoraDhRefIdeal.main_arg1)
          ∧ r.2.mem ((c.tc : Thread Cert.LoraDhRefIdeal.nD Cert.LoraDhRefIdeal.τ).loc Cert.LoraDhRefIdeal.main_arg2) = m' ((c.tc : Thread Cert.LoraDhRefIdeal.nD Cert.LoraDhRefIdeal.τ).loc Cert.LoraDhRefIdeal.main_arg2))

def preserves_Swa_SwaIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v3) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_SwaDw_SwaDwIdeal : Prop :=
  True

def algebraic_SwaDwIdeal_SwaDwRefIdeal [hSwaDwIdeal : Cert.SwaDwIdeal.Facts] [hSwaDwRefIdeal : Cert.SwaDwRefIdeal.Facts] : Prop :=
  ∀ (m : (ℓ : Loc Cert.SwaDwIdeal.nD Cert.SwaDwIdeal.τ Cert.SwaDwIdeal.sig) → Buf (Elt Ideal) ℓ) (g : Dev Cert.SwaDwIdeal.nD → PrngReg)
    (m' : (ℓ : Loc Cert.SwaDwRefIdeal.nD Cert.SwaDwRefIdeal.τ Cert.SwaDwRefIdeal.sig) → Buf (Elt Ideal) ℓ) (g' : Dev Cert.SwaDwRefIdeal.nD → PrngReg), Pre_SwaDwIdeal m →
    (∀ c : Dev Cert.SwaDwIdeal.nD,
      m' ((c.tc : Thread Cert.SwaDwRefIdeal.nD Cert.SwaDwRefIdeal.τ).loc Cert.SwaDwRefIdeal.main_arg0) = m ((c.tc : Thread Cert.SwaDwIdeal.nD Cert.SwaDwIdeal.τ).loc Cert.SwaDwIdeal.main_arg0)
      ∧ m' ((c.tc : Thread Cert.SwaDwRefIdeal.nD Cert.SwaDwRefIdeal.τ).loc Cert.SwaDwRefIdeal.main_arg1) = m ((c.tc : Thread Cert.SwaDwIdeal.nD Cert.SwaDwIdeal.τ).loc Cert.SwaDwIdeal.main_arg1)) →
    ∃ (v0 : (c : Dev Cert.SwaDwIdeal.nD) → Buf (Elt Ideal) ((c.tc : Thread Cert.SwaDwIdeal.nD Cert.SwaDwIdeal.τ).loc Cert.SwaDwIdeal.main_v0)),
      θ_run (Cert.SwaDwIdeal.defs (F := Ideal)) (onTc (τ := Cert.SwaDwIdeal.τ) (Cert.SwaDwIdeal.main (F := Ideal))) ⟨m, fun _ => 0, g⟩ (fun r => ∀ c : Dev Cert.SwaDwIdeal.nD,
          r.2.mem ((c.tc : Thread Cert.SwaDwIdeal.nD Cert.SwaDwIdeal.τ).loc Cert.SwaDwIdeal.main_v0) = v0 c
          ∧ r.2.mem ((c.tc : Thread Cert.SwaDwIdeal.nD Cert.SwaDwIdeal.τ).loc Cert.SwaDwIdeal.main_arg0) = m ((c.tc : Thread Cert.SwaDwIdeal.nD Cert.SwaDwIdeal.τ).loc Cert.SwaDwIdeal.main_arg0)
          ∧ r.2.mem ((c.tc : Thread Cert.SwaDwIdeal.nD Cert.SwaDwIdeal.τ).loc Cert.SwaDwIdeal.main_arg1) = m ((c.tc : Thread Cert.SwaDwIdeal.nD Cert.SwaDwIdeal.τ).loc Cert.SwaDwIdeal.main_arg1))
      ∧ θ_run (Cert.SwaDwRefIdeal.defs (F := Ideal)) (onTc (τ := Cert.SwaDwRefIdeal.τ) (Cert.SwaDwRefIdeal.main (F := Ideal))) ⟨m', fun _ => 0, g'⟩ (fun r => ∀ c : Dev Cert.SwaDwRefIdeal.nD,
          r.2.mem ((c.tc : Thread Cert.SwaDwRefIdeal.nD Cert.SwaDwRefIdeal.τ).loc Cert.SwaDwRefIdeal.main_v4) = v0 c
          ∧ r.2.mem ((c.tc : Thread Cert.SwaDwRefIdeal.nD Cert.SwaDwRefIdeal.τ).loc Cert.SwaDwRefIdeal.main_arg0) = m' ((c.tc : Thread Cert.SwaDwRefIdeal.nD Cert.SwaDwRefIdeal.τ).loc Cert.SwaDwRefIdeal.main_arg0)
          ∧ r.2.mem ((c.tc : Thread Cert.SwaDwRefIdeal.nD Cert.SwaDwRefIdeal.τ).loc Cert.SwaDwRefIdeal.main_arg1) = m' ((c.tc : Thread Cert.SwaDwRefIdeal.nD Cert.SwaDwRefIdeal.τ).loc Cert.SwaDwRefIdeal.main_arg1))

def preserves_SwaDh_SwaDhIdeal : Prop :=
  True

def algebraic_SwaDhIdeal_SwaDhRefIdeal [hSwaDhIdeal : Cert.SwaDhIdeal.Facts] [hSwaDhRefIdeal : Cert.SwaDhRefIdeal.Facts] : Prop :=
  ∀ (m : (ℓ : Loc Cert.SwaDhIdeal.nD Cert.SwaDhIdeal.τ Cert.SwaDhIdeal.sig) → Buf (Elt Ideal) ℓ) (g : Dev Cert.SwaDhIdeal.nD → PrngReg)
    (m' : (ℓ : Loc Cert.SwaDhRefIdeal.nD Cert.SwaDhRefIdeal.τ Cert.SwaDhRefIdeal.sig) → Buf (Elt Ideal) ℓ) (g' : Dev Cert.SwaDhRefIdeal.nD → PrngReg), Pre_SwaDhIdeal m →
    (∀ c : Dev Cert.SwaDhIdeal.nD,
      m' ((c.tc : Thread Cert.SwaDhRefIdeal.nD Cert.SwaDhRefIdeal.τ).loc Cert.SwaDhRefIdeal.main_arg0) = m ((c.tc : Thread Cert.SwaDhIdeal.nD Cert.SwaDhIdeal.τ).loc Cert.SwaDhIdeal.main_arg0)
      ∧ m' ((c.tc : Thread Cert.SwaDhRefIdeal.nD Cert.SwaDhRefIdeal.τ).loc Cert.SwaDhRefIdeal.main_arg1) = m ((c.tc : Thread Cert.SwaDhIdeal.nD Cert.SwaDhIdeal.τ).loc Cert.SwaDhIdeal.main_arg1)
      ∧ m' ((c.tc : Thread Cert.SwaDhRefIdeal.nD Cert.SwaDhRefIdeal.τ).loc Cert.SwaDhRefIdeal.main_arg2) = m ((c.tc : Thread Cert.SwaDhIdeal.nD Cert.SwaDhIdeal.τ).loc Cert.SwaDhIdeal.main_arg2)) →
    ∃ (v0 : (c : Dev Cert.SwaDhIdeal.nD) → Buf (Elt Ideal) ((c.tc : Thread Cert.SwaDhIdeal.nD Cert.SwaDhIdeal.τ).loc Cert.SwaDhIdeal.main_v0)),
      θ_run (Cert.SwaDhIdeal.defs (F := Ideal)) (onTc (τ := Cert.SwaDhIdeal.τ) (Cert.SwaDhIdeal.main (F := Ideal))) ⟨m, fun _ => 0, g⟩ (fun r => ∀ c : Dev Cert.SwaDhIdeal.nD,
          r.2.mem ((c.tc : Thread Cert.SwaDhIdeal.nD Cert.SwaDhIdeal.τ).loc Cert.SwaDhIdeal.main_v0) = v0 c
          ∧ r.2.mem ((c.tc : Thread Cert.SwaDhIdeal.nD Cert.SwaDhIdeal.τ).loc Cert.SwaDhIdeal.main_arg0) = m ((c.tc : Thread Cert.SwaDhIdeal.nD Cert.SwaDhIdeal.τ).loc Cert.SwaDhIdeal.main_arg0)
          ∧ r.2.mem ((c.tc : Thread Cert.SwaDhIdeal.nD Cert.SwaDhIdeal.τ).loc Cert.SwaDhIdeal.main_arg1) = m ((c.tc : Thread Cert.SwaDhIdeal.nD Cert.SwaDhIdeal.τ).loc Cert.SwaDhIdeal.main_arg1)
          ∧ r.2.mem ((c.tc : Thread Cert.SwaDhIdeal.nD Cert.SwaDhIdeal.τ).loc Cert.SwaDhIdeal.main_arg2) = m ((c.tc : Thread Cert.SwaDhIdeal.nD Cert.SwaDhIdeal.τ).loc Cert.SwaDhIdeal.main_arg2))
      ∧ θ_run (Cert.SwaDhRefIdeal.defs (F := Ideal)) (onTc (τ := Cert.SwaDhRefIdeal.τ) (Cert.SwaDhRefIdeal.main (F := Ideal))) ⟨m', fun _ => 0, g'⟩ (fun r => ∀ c : Dev Cert.SwaDhRefIdeal.nD,
          r.2.mem ((c.tc : Thread Cert.SwaDhRefIdeal.nD Cert.SwaDhRefIdeal.τ).loc Cert.SwaDhRefIdeal.main_v4) = v0 c
          ∧ r.2.mem ((c.tc : Thread Cert.SwaDhRefIdeal.nD Cert.SwaDhRefIdeal.τ).loc Cert.SwaDhRefIdeal.main_arg0) = m' ((c.tc : Thread Cert.SwaDhRefIdeal.nD Cert.SwaDhRefIdeal.τ).loc Cert.SwaDhRefIdeal.main_arg0)
          ∧ r.2.mem ((c.tc : Thread Cert.SwaDhRefIdeal.nD Cert.SwaDhRefIdeal.τ).loc Cert.SwaDhRefIdeal.main_arg1) = m' ((c.tc : Thread Cert.SwaDhRefIdeal.nD Cert.SwaDhRefIdeal.τ).loc Cert.SwaDhRefIdeal.main_arg1)
          ∧ r.2.mem ((c.tc : Thread Cert.SwaDhRefIdeal.nD Cert.SwaDhRefIdeal.τ).loc Cert.SwaDhRefIdeal.main_arg2) = m' ((c.tc : Thread Cert.SwaDhRefIdeal.nD Cert.SwaDhRefIdeal.τ).loc Cert.SwaDhRefIdeal.main_arg2))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v3) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v3) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_XkvDh_XkvDhIdeal : Prop :=
  True

def algebraic_XkvDhIdeal_XkvDhRefIdeal [hXkvDhIdeal : Cert.XkvDhIdeal.Facts] [hXkvDhRefIdeal : Cert.XkvDhRefIdeal.Facts] : Prop :=
  ∀ (m : (ℓ : Loc Cert.XkvDhIdeal.nD Cert.XkvDhIdeal.τ Cert.XkvDhIdeal.sig) → Buf (Elt Ideal) ℓ) (g : Dev Cert.XkvDhIdeal.nD → PrngReg)
    (m' : (ℓ : Loc Cert.XkvDhRefIdeal.nD Cert.XkvDhRefIdeal.τ Cert.XkvDhRefIdeal.sig) → Buf (Elt Ideal) ℓ) (g' : Dev Cert.XkvDhRefIdeal.nD → PrngReg), Pre_XkvDhIdeal m →
    (∀ c : Dev Cert.XkvDhIdeal.nD,
      m' ((c.tc : Thread Cert.XkvDhRefIdeal.nD Cert.XkvDhRefIdeal.τ).loc Cert.XkvDhRefIdeal.main_arg0) = m ((c.tc : Thread Cert.XkvDhIdeal.nD Cert.XkvDhIdeal.τ).loc Cert.XkvDhIdeal.main_arg0)
      ∧ m' ((c.tc : Thread Cert.XkvDhRefIdeal.nD Cert.XkvDhRefIdeal.τ).loc Cert.XkvDhRefIdeal.main_arg1) = m ((c.tc : Thread Cert.XkvDhIdeal.nD Cert.XkvDhIdeal.τ).loc Cert.XkvDhIdeal.main_arg1)) →
    ∃ (v0 : (c : Dev Cert.XkvDhIdeal.nD) → Buf (Elt Ideal) ((c.tc : Thread Cert.XkvDhIdeal.nD Cert.XkvDhIdeal.τ).loc Cert.XkvDhIdeal.main_v0)),
      θ_run (Cert.XkvDhIdeal.defs (F := Ideal)) (onTc (τ := Cert.XkvDhIdeal.τ) (Cert.XkvDhIdeal.main (F := Ideal))) ⟨m, fun _ => 0, g⟩ (fun r => ∀ c : Dev Cert.XkvDhIdeal.nD,
          r.2.mem ((c.tc : Thread Cert.XkvDhIdeal.nD Cert.XkvDhIdeal.τ).loc Cert.XkvDhIdeal.main_v0) = v0 c
          ∧ r.2.mem ((c.tc : Thread Cert.XkvDhIdeal.nD Cert.XkvDhIdeal.τ).loc Cert.XkvDhIdeal.main_arg0) = m ((c.tc : Thread Cert.XkvDhIdeal.nD Cert.XkvDhIdeal.τ).loc Cert.XkvDhIdeal.main_arg0)
          ∧ r.2.mem ((c.tc : Thread Cert.XkvDhIdeal.nD Cert.XkvDhIdeal.τ).loc Cert.XkvDhIdeal.main_arg1) = m ((c.tc : Thread Cert.XkvDhIdeal.nD Cert.XkvDhIdeal.τ).loc Cert.XkvDhIdeal.main_arg1))
      ∧ θ_run (Cert.XkvDhRefIdeal.defs (F := Ideal)) (onTc (τ := Cert.XkvDhRefIdeal.τ) (Cert.XkvDhRefIdeal.main (F := Ideal))) ⟨m', fun _ => 0, g'⟩ (fun r => ∀ c : Dev Cert.XkvDhRefIdeal.nD,
          r.2.mem ((c.tc : Thread Cert.XkvDhRefIdeal.nD Cert.XkvDhRefIdeal.τ).loc Cert.XkvDhRefIdeal.main_v1) = v0 c
          ∧ r.2.mem ((c.tc : Thread Cert.XkvDhRefIdeal.nD Cert.XkvDhRefIdeal.τ).loc Cert.XkvDhRefIdeal.main_arg0) = m' ((c.tc : Thread Cert.XkvDhRefIdeal.nD Cert.XkvDhRefIdeal.τ).loc Cert.XkvDhRefIdeal.main_arg0)
          ∧ r.2.mem ((c.tc : Thread Cert.XkvDhRefIdeal.nD Cert.XkvDhRefIdeal.τ).loc Cert.XkvDhRefIdeal.main_arg1) = m' ((c.tc : Thread Cert.XkvDhRefIdeal.nD Cert.XkvDhRefIdeal.τ).loc Cert.XkvDhRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_v36) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def Claim : Prop :=
  ∃ (hKernel : Cert.Kernel.Facts) (hKernelIdeal : Cert.KernelIdeal.Facts) (hReferenceIdeal : Cert.ReferenceIdeal.Facts) (hDw : Cert.Dw.Facts) (hDwIdeal : Cert.DwIdeal.Facts) (hDwRefIdeal : Cert.DwRefIdeal.Facts) (hDwd : Cert.Dwd.Facts) (hDwdIdeal : Cert.DwdIdeal.Facts) (hDwdRefIdeal : Cert.DwdRefIdeal.Facts) (hDact : Cert.Dact.Facts) (hDactIdeal : Cert.DactIdeal.Facts) (hDactRefIdeal : Cert.DactRefIdeal.Facts) (hDh : Cert.Dh.Facts) (hDhIdeal : Cert.DhIdeal.Facts) (hDhRefIdeal : Cert.DhRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hInDh : Cert.InDh.Facts) (hInDhIdeal : Cert.InDhIdeal.Facts) (hInDhRefIdeal : Cert.InDhRefIdeal.Facts) (hXq : Cert.Xq.Facts) (hXqIdeal : Cert.XqIdeal.Facts) (hXqRefIdeal : Cert.XqRefIdeal.Facts) (hXqDw : Cert.XqDw.Facts) (hXqDwIdeal : Cert.XqDwIdeal.Facts) (hXqDwRefIdeal : Cert.XqDwRefIdeal.Facts) (hXqDh : Cert.XqDh.Facts) (hXqDhIdeal : Cert.XqDhIdeal.Facts) (hXqDhRefIdeal : Cert.XqDhRefIdeal.Facts) (hXo : Cert.Xo.Facts) (hXoIdeal : Cert.XoIdeal.Facts) (hXoRefIdeal : Cert.XoRefIdeal.Facts) (hXoDo : Cert.XoDo.Facts) (hXoDoIdeal : Cert.XoDoIdeal.Facts) (hXoDoRefIdeal : Cert.XoDoRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hOutDy : Cert.OutDy.Facts) (hOutDyIdeal : Cert.OutDyIdeal.Facts) (hOutDyRefIdeal : Cert.OutDyRefIdeal.Facts) (hLora : Cert.Lora.Facts) (hLoraIdeal : Cert.LoraIdeal.Facts) (hLoraRefIdeal : Cert.LoraRefIdeal.Facts) (hLoraDw : Cert.LoraDw.Facts) (hLoraDwIdeal : Cert.LoraDwIdeal.Facts) (hLoraDwRefIdeal : Cert.LoraDwRefIdeal.Facts) (hLoraDh : Cert.LoraDh.Facts) (hLoraDhIdeal : Cert.LoraDhIdeal.Facts) (hLoraDhRefIdeal : Cert.LoraDhRefIdeal.Facts) (hSwa : Cert.Swa.Facts) (hSwaIdeal : Cert.SwaIdeal.Facts) (hSwaRefIdeal : Cert.SwaRefIdeal.Facts) (hSwaDw : Cert.SwaDw.Facts) (hSwaDwIdeal : Cert.SwaDwIdeal.Facts) (hSwaDwRefIdeal : Cert.SwaDwRefIdeal.Facts) (hSwaDh : Cert.SwaDh.Facts) (hSwaDhIdeal : Cert.SwaDhIdeal.Facts) (hSwaDhRefIdeal : Cert.SwaDhRefIdeal.Facts) (hXkv : Cert.Xkv.Facts) (hXkvIdeal : Cert.XkvIdeal.Facts) (hXkvRefIdeal : Cert.XkvRefIdeal.Facts) (hXkvDw : Cert.XkvDw.Facts) (hXkvDwIdeal : Cert.XkvDwIdeal.Facts) (hXkvDwRefIdeal : Cert.XkvDwRefIdeal.Facts) (hXkvDh : Cert.XkvDh.Facts) (hXkvDhIdeal : Cert.XkvDhIdeal.Facts) (hXkvDhRefIdeal : Cert.XkvDhRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_Dw (hDw := hDw)
    ∧ quiescent_DwIdeal (hDwIdeal := hDwIdeal)
    ∧ quiescent_DwRefIdeal (hDwRefIdeal := hDwRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dact (hDact := hDact)
    ∧ quiescent_DactIdeal (hDactIdeal := hDactIdeal)
    ∧ quiescent_DactRefIdeal (hDactRefIdeal := hDactRefIdeal)
    ∧ quiescent_Dh (hDh := hDh)
    ∧ quiescent_DhIdeal (hDhIdeal := hDhIdeal)
    ∧ quiescent_DhRefIdeal (hDhRefIdeal := hDhRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDh (hInDh := hInDh)
    ∧ quiescent_InDhIdeal (hInDhIdeal := hInDhIdeal)
    ∧ quiescent_InDhRefIdeal (hInDhRefIdeal := hInDhRefIdeal)
    ∧ quiescent_Xq (hXq := hXq)
    ∧ quiescent_XqIdeal (hXqIdeal := hXqIdeal)
    ∧ quiescent_XqRefIdeal (hXqRefIdeal := hXqRefIdeal)
    ∧ quiescent_XqDw (hXqDw := hXqDw)
    ∧ quiescent_XqDwIdeal (hXqDwIdeal := hXqDwIdeal)
    ∧ quiescent_XqDwRefIdeal (hXqDwRefIdeal := hXqDwRefIdeal)
    ∧ quiescent_XqDh (hXqDh := hXqDh)
    ∧ quiescent_XqDhIdeal (hXqDhIdeal := hXqDhIdeal)
    ∧ quiescent_XqDhRefIdeal (hXqDhRefIdeal := hXqDhRefIdeal)
    ∧ quiescent_Xo (hXo := hXo)
    ∧ quiescent_XoIdeal (hXoIdeal := hXoIdeal)
    ∧ quiescent_XoRefIdeal (hXoRefIdeal := hXoRefIdeal)
    ∧ quiescent_XoDo (hXoDo := hXoDo)
    ∧ quiescent_XoDoIdeal (hXoDoIdeal := hXoDoIdeal)
    ∧ quiescent_XoDoRefIdeal (hXoDoRefIdeal := hXoDoRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDy (hOutDy := hOutDy)
    ∧ quiescent_OutDyIdeal (hOutDyIdeal := hOutDyIdeal)
    ∧ quiescent_OutDyRefIdeal (hOutDyRefIdeal := hOutDyRefIdeal)
    ∧ quiescent_Lora (hLora := hLora)
    ∧ quiescent_LoraIdeal (hLoraIdeal := hLoraIdeal)
    ∧ quiescent_LoraRefIdeal (hLoraRefIdeal := hLoraRefIdeal)
    ∧ quiescent_LoraDw (hLoraDw := hLoraDw)
    ∧ quiescent_LoraDwIdeal (hLoraDwIdeal := hLoraDwIdeal)
    ∧ quiescent_LoraDwRefIdeal (hLoraDwRefIdeal := hLoraDwRefIdeal)
    ∧ quiescent_LoraDh (hLoraDh := hLoraDh)
    ∧ quiescent_LoraDhIdeal (hLoraDhIdeal := hLoraDhIdeal)
    ∧ quiescent_LoraDhRefIdeal (hLoraDhRefIdeal := hLoraDhRefIdeal)
    ∧ quiescent_Swa (hSwa := hSwa)
    ∧ quiescent_SwaIdeal (hSwaIdeal := hSwaIdeal)
    ∧ quiescent_SwaRefIdeal (hSwaRefIdeal := hSwaRefIdeal)
    ∧ quiescent_SwaDw (hSwaDw := hSwaDw)
    ∧ quiescent_SwaDwIdeal (hSwaDwIdeal := hSwaDwIdeal)
    ∧ quiescent_SwaDwRefIdeal (hSwaDwRefIdeal := hSwaDwRefIdeal)
    ∧ quiescent_SwaDh (hSwaDh := hSwaDh)
    ∧ quiescent_SwaDhIdeal (hSwaDhIdeal := hSwaDhIdeal)
    ∧ quiescent_SwaDhRefIdeal (hSwaDhRefIdeal := hSwaDhRefIdeal)
    ∧ quiescent_Xkv (hXkv := hXkv)
    ∧ quiescent_XkvIdeal (hXkvIdeal := hXkvIdeal)
    ∧ quiescent_XkvRefIdeal (hXkvRefIdeal := hXkvRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_XkvDh (hXkvDh := hXkvDh)
    ∧ quiescent_XkvDhIdeal (hXkvDhIdeal := hXkvDhIdeal)
    ∧ quiescent_XkvDhRefIdeal (hXkvDhRefIdeal := hXkvDhRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ preserves_Kernel_KernelIdeal
    ∧ algebraic_KernelIdeal_ReferenceIdeal (hKernelIdeal := hKernelIdeal) (hReferenceIdeal := hReferenceIdeal)
    ∧ preserves_Dw_DwIdeal
    ∧ algebraic_DwIdeal_DwRefIdeal (hDwIdeal := hDwIdeal) (hDwRefIdeal := hDwRefIdeal)
    ∧ preserves_Dwd_DwdIdeal
    ∧ algebraic_DwdIdeal_DwdRefIdeal (hDwdIdeal := hDwdIdeal) (hDwdRefIdeal := hDwdRefIdeal)
    ∧ preserves_Dact_DactIdeal
    ∧ algebraic_DactIdeal_DactRefIdeal (hDactIdeal := hDactIdeal) (hDactRefIdeal := hDactRefIdeal)
    ∧ preserves_Dh_DhIdeal
    ∧ algebraic_DhIdeal_DhRefIdeal (hDhIdeal := hDhIdeal) (hDhRefIdeal := hDhRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_InDh_InDhIdeal
    ∧ algebraic_InDhIdeal_InDhRefIdeal (hInDhIdeal := hInDhIdeal) (hInDhRefIdeal := hInDhRefIdeal)
    ∧ preserves_Xq_XqIdeal
    ∧ algebraic_XqIdeal_XqRefIdeal (hXqIdeal := hXqIdeal) (hXqRefIdeal := hXqRefIdeal)
    ∧ preserves_XqDw_XqDwIdeal
    ∧ algebraic_XqDwIdeal_XqDwRefIdeal (hXqDwIdeal := hXqDwIdeal) (hXqDwRefIdeal := hXqDwRefIdeal)
    ∧ preserves_XqDh_XqDhIdeal
    ∧ algebraic_XqDhIdeal_XqDhRefIdeal (hXqDhIdeal := hXqDhIdeal) (hXqDhRefIdeal := hXqDhRefIdeal)
    ∧ preserves_Xo_XoIdeal
    ∧ algebraic_XoIdeal_XoRefIdeal (hXoIdeal := hXoIdeal) (hXoRefIdeal := hXoRefIdeal)
    ∧ preserves_XoDo_XoDoIdeal
    ∧ algebraic_XoDoIdeal_XoDoRefIdeal (hXoDoIdeal := hXoDoIdeal) (hXoDoRefIdeal := hXoDoRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_OutDy_OutDyIdeal
    ∧ algebraic_OutDyIdeal_OutDyRefIdeal (hOutDyIdeal := hOutDyIdeal) (hOutDyRefIdeal := hOutDyRefIdeal)
    ∧ preserves_Lora_LoraIdeal
    ∧ algebraic_LoraIdeal_LoraRefIdeal (hLoraIdeal := hLoraIdeal) (hLoraRefIdeal := hLoraRefIdeal)
    ∧ preserves_LoraDw_LoraDwIdeal
    ∧ algebraic_LoraDwIdeal_LoraDwRefIdeal (hLoraDwIdeal := hLoraDwIdeal) (hLoraDwRefIdeal := hLoraDwRefIdeal)
    ∧ preserves_LoraDh_LoraDhIdeal
    ∧ algebraic_LoraDhIdeal_LoraDhRefIdeal (hLoraDhIdeal := hLoraDhIdeal) (hLoraDhRefIdeal := hLoraDhRefIdeal)
    ∧ preserves_Swa_SwaIdeal
    ∧ algebraic_SwaIdeal_SwaRefIdeal (hSwaIdeal := hSwaIdeal) (hSwaRefIdeal := hSwaRefIdeal)
    ∧ preserves_SwaDw_SwaDwIdeal
    ∧ algebraic_SwaDwIdeal_SwaDwRefIdeal (hSwaDwIdeal := hSwaDwIdeal) (hSwaDwRefIdeal := hSwaDwRefIdeal)
    ∧ preserves_SwaDh_SwaDhIdeal
    ∧ algebraic_SwaDhIdeal_SwaDhRefIdeal (hSwaDhIdeal := hSwaDhIdeal) (hSwaDhRefIdeal := hSwaDhRefIdeal)
    ∧ preserves_Xkv_XkvIdeal
    ∧ algebraic_XkvIdeal_XkvRefIdeal (hXkvIdeal := hXkvIdeal) (hXkvRefIdeal := hXkvRefIdeal)
    ∧ preserves_XkvDw_XkvDwIdeal
    ∧ algebraic_XkvDwIdeal_XkvDwRefIdeal (hXkvDwIdeal := hXkvDwIdeal) (hXkvDwRefIdeal := hXkvDwRefIdeal)
    ∧ preserves_XkvDh_XkvDhIdeal
    ∧ algebraic_XkvDhIdeal_XkvDhRefIdeal (hXkvDhIdeal := hXkvDhIdeal) (hXkvDhRefIdeal := hXkvDhRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
-- ==== Kernel.lean ====
abbrev S2048x1024 : Shape := ⟨2, ![2048, 1024]⟩
abbrev S2048x16x64 : Shape := ⟨3, ![2048, 16, 64]⟩
abbrev S2048x64x16 : Shape := ⟨3, ![2048, 64, 16]⟩
abbrev S2048x8x128 : Shape := ⟨3, ![2048, 8, 128]⟩
abbrev S64x8x128 : Shape := ⟨3, ![64, 8, 128]⟩
abbrev S6x64x128 : Shape := ⟨3, ![6, 64, 128]⟩
abbrev S8x128 : Shape := ⟨2, ![8, 128]⟩
abbrev S1x1x128 : Shape := ⟨3, ![1, 1, 128]⟩
abbrev S1x128 : Shape := ⟨2, ![1, 128]⟩
abbrev S8x128x1 : Shape := ⟨3, ![8, 128, 1]⟩
abbrev S1x8x128 : Shape := ⟨3, ![1, 8, 128]⟩
abbrev S128 : Shape := ⟨1, ![128]⟩

abbrev nBuf : Space → Nat
  | .hbm => 26
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x16x64, .f32⟩
  | .hbm, ⟨7, _⟩ => ⟨S2048x64x16, .f32⟩
  | .hbm, ⟨8, _⟩ => ⟨S2048x8x128, .f32⟩
  | .hbm, ⟨9, _⟩ => ⟨S2048x16x64, .f32⟩
  | .hbm, ⟨10, _⟩ => ⟨S2048x64x16, .f32⟩
  | .hbm, ⟨11, _⟩ => ⟨S2048x8x128, .f32⟩
  | .hbm, ⟨12, _⟩ => ⟨S2048x16x64, .f32⟩
  | .hbm, ⟨13, _⟩ => ⟨S2048x64x16, .f32⟩
  | .hbm, ⟨14, _⟩ => ⟨S2048x8x128, .f32⟩
  | .hbm, ⟨15, _⟩ => ⟨S2048x16x64, .f32⟩
  | .hbm, ⟨16, _⟩ => ⟨S2048x64x16, .f32⟩
  | .hbm, ⟨17, _⟩ => ⟨S2048x8x128, .f32⟩
  | .hbm, ⟨18, _⟩ => ⟨S2048x16x64, .f32⟩
  | .hbm, ⟨19, _⟩ => ⟨S2048x64x16, .f32⟩
  | .hbm, ⟨20, _⟩ => ⟨S2048x8x128, .f32⟩
  | .hbm, ⟨21, _⟩ => ⟨S2048x16x64, .f32⟩
  | .hbm, ⟨22, _⟩ => ⟨S2048x64x16, .f32⟩
  | .hbm, ⟨23, _⟩ => ⟨S2048x8x128, .f32⟩
  | .hbm, ⟨24, _⟩ => ⟨S2048x8x128, .f32⟩
  | .hbm, ⟨25, _⟩ => ⟨S2048x8x128, .f32⟩
  | .local _ .vmem, ⟨0, _⟩ => ⟨S64x8x128, .f32⟩
  | .local _ .vmem, ⟨1, _⟩ => ⟨S64x8x128, .f32⟩
  | .local _ .vmem, ⟨2, _⟩ => ⟨S64x8x128, .f32⟩
  | .local _ .vmem, ⟨3, _⟩ => ⟨S64x8x128, .f32⟩
  | .local _ .vmem, ⟨4, _⟩ => ⟨S64x8x128, .f32⟩
  | .local _ .vmem, ⟨5, _⟩ => ⟨S64x8x128, .f32⟩
  | .local _ .vmem, ⟨6, _⟩ => ⟨S64x8x128, .f32⟩
  | .local _ .vmem, ⟨7, _⟩ => ⟨S64x8x128, .f32⟩
  | .local _ .vmem, ⟨8, _⟩ => ⟨S64x8x128, .f32⟩
  | .local _ .vmem, ⟨9, _⟩ => ⟨S64x8x128, .f32⟩
  | .local _ .vmem, ⟨10, _⟩ => ⟨S64x8x128, .f32⟩
  | .local _ .vmem, ⟨11, _⟩ => ⟨S64x8x128, .f32⟩
  | .local _ .vmem, ⟨12, _⟩ => ⟨S64x8x128, .f32⟩
  | .local _ .vmem, ⟨13, _⟩ => ⟨S64x8x128, .f32⟩
  | .local _ .vmem, ⟨14, _⟩ => ⟨S64x8x128, .f32⟩
  | .local _ .vmem, ⟨15, _⟩ => ⟨S64x8x128, .f32⟩
  | .local _ .vmem, ⟨16, _⟩ => ⟨S64x8x128, .f32⟩
  | .local _ .vmem, ⟨17, _⟩ => ⟨S6x64x128, .f32⟩
  | .local _ .vmem, ⟨18, _⟩ => ⟨S6x64x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_331 : BitVec 32 := 0#32
  let c32_i32 : BitVec 32 := 32#32
  let v689 : BitVec 32 := Scalar.addi c0_i32_331 c32_i32
  let c1_i32_332 : BitVec 32 := 1#32
  ⟨c0_i32_331, v689, c1_i32_332⟩
def k0_off1 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v7989 : Index := Scalar.indexCast v7988
  let c0_3103 : Index := 0#32
  let c0_3104 : Index := 0#32
  ![v7989.toNat, 0, 0]
def k0_off2 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8005 : Index := Scalar.indexCast v7988
  let c1_3110 : Index := 1#32
  let c0_3111 : Index := 0#32
  ![v8005.toNat, 1, 0]
def k0_off3 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8021 : Index := Scalar.indexCast v7988
  let c2_3117 : Index := 2#32
  let c0_3118 : Index := 0#32
  ![v8021.toNat, 2, 0]
def k0_off4 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8037 : Index := Scalar.indexCast v7988
  let c3_3124 : Index := 3#32
  let c0_3125 : Index := 0#32
  ![v8037.toNat, 3, 0]
def k0_off5 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8053 : Index := Scalar.indexCast v7988
  let c4_3131 : Index := 4#32
  let c0_3132 : Index := 0#32
  ![v8053.toNat, 4, 0]
def k0_off6 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8069 : Index := Scalar.indexCast v7988
  let c5_3138 : Index := 5#32
  let c0_3139 : Index := 0#32
  ![v8069.toNat, 5, 0]
def k0_off7 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8085 : Index := Scalar.indexCast v7988
  let c6_3145 : Index := 6#32
  let c0_3146 : Index := 0#32
  ![v8085.toNat, 6, 0]
def k0_off8 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8101 : Index := Scalar.indexCast v7988
  let c7_3152 : Index := 7#32
  let c0_3153 : Index := 0#32
  ![v8101.toNat, 7, 0]
def k0_off9 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c1_i32_3102 : BitVec 32 := 1#32
  let v7988 : BitVec 32 := Scalar.subi v7987 c1_i32_3102
  let v8629 : Index := Scalar.indexCast v7988
  let c0_3383 : Index := 0#32
  let c0_3384 : Index := 0#32
  ![v8629.toNat, 0, 0]
def k0_off10 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9457 : Index := Scalar.indexCast v7987
  let c0_3884 : Index := 0#32
  let c0_3885 : Index := 0#32
  ![v9457.toNat, 0, 0]
def k0_off11 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9471 : Index := Scalar.indexCast v7987
  let c1_3890 : Index := 1#32
  let c0_3891 : Index := 0#32
  ![v9471.toNat, 1, 0]
def k0_off12 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9485 : Index := Scalar.indexCast v7987
  let c2_3896 : Index := 2#32
  let c0_3897 : Index := 0#32
  ![v9485.toNat, 2, 0]
def k0_off13 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9499 : Index := Scalar.indexCast v7987
  let c3_3902 : Index := 3#32
  let c0_3903 : Index := 0#32
  ![v9499.toNat, 3, 0]
def k0_off14 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9513 : Index := Scalar.indexCast v7987
  let c4_3908 : Index := 4#32
  let c0_3909 : Index := 0#32
  ![v9513.toNat, 4, 0]
def k0_off15 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9527 : Index := Scalar.indexCast v7987
  let c5_3914 : Index := 5#32
  let c0_3915 : Index := 0#32
  ![v9527.toNat, 5, 0]
def k0_off16 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9541 : Index := Scalar.indexCast v7987
  let c6_3920 : Index := 6#32
  let c0_3921 : Index := 0#32
  ![v9541.toNat, 6, 0]
def k0_off17 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let v9555 : Index := Scalar.indexCast v7987
  let c7_3926 : Index := 7#32
  let c0_3927 : Index := 0#32
  ![v9555.toNat, 7, 0]
def k0_off18 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10113 : Index := Scalar.indexCast v10112
  let c0_4365 : Index := 0#32
  let c0_4366 : Index := 0#32
  ![v10113.toNat, 0, 0]
def k0_off19 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10129 : Index := Scalar.indexCast v10112
  let c1_4372 : Index := 1#32
  let c0_4373 : Index := 0#32
  ![v10129.toNat, 1, 0]
def k0_off20 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10145 : Index := Scalar.indexCast v10112
  let c2_4379 : Index := 2#32
  let c0_4380 : Index := 0#32
  ![v10145.toNat, 2, 0]
def k0_off21 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10161 : Index := Scalar.indexCast v10112
  let c3_4386 : Index := 3#32
  let c0_4387 : Index := 0#32
  ![v10161.toNat, 3, 0]
def k0_off22 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10177 : Index := Scalar.indexCast v10112
  let c4_4393 : Index := 4#32
  let c0_4394 : Index := 0#32
  ![v10177.toNat, 4, 0]
def k0_off23 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10193 : Index := Scalar.indexCast v10112
  let c5_4400 : Index := 5#32
  let c0_4401 : Index := 0#32
  ![v10193.toNat, 5, 0]
def k0_off24 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10209 : Index := Scalar.indexCast v10112
  let c6_4407 : Index := 6#32
  let c0_4408 : Index := 0#32
  ![v10209.toNat, 6, 0]
def k0_off25 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10225 : Index := Scalar.indexCast v10112
  let c7_4414 : Index := 7#32
  let c0_4415 : Index := 0#32
  ![v10225.toNat, 7, 0]
def k0_off26 (k0_t1 : Fin k0_t1_loop.trips) : Fin 3 → Nat :=
  let c63_i32 : BitVec 32 := 63#32
  let c2_i32 : BitVec 32 := 2#32
  let c0_i32_331 : BitVec 32 := 0#32
  let c1_i32_332 : BitVec 32 := 1#32
  let arg12 : BitVec 32 := Scf.iv c0_i32_331 c1_i32_332 k0_t1
  let v7986 : BitVec 32 := Scalar.muli c2_i32 arg12
  let v7987 : BitVec 32 := Scalar.subi c63_i32 v7986
  let c2_i32_4363 : BitVec 32 := 2#32
  let v10111 : BitVec 32 := Scalar.subi v7987 c2_i32_4363
  let c0_i32_4364 : BitVec 32 := 0#32
  let v10112 : BitVec 32 := Scalar.maxsi v10111 c0_i32_4364
  let v10753 : Index := Scalar.indexCast v10112
  let c0_4645 : Index := 0#32
  let c0_4646 : Index := 0#32
  ![v10753.toNat, 0, 0]
def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x1024 : Shape := ⟨2, ![2048, 1024]⟩
abbrev S_ : Shape := ⟨0, ![]⟩
abbrev S16x64x64 : Shape := ⟨3, ![16, 64, 64]⟩
abbrev S2048x16x64 : Shape := ⟨3, ![2048, 16, 64]⟩
abbrev S2048x16x1x64 : Shape := ⟨4, ![2048, 16, 1, 64]⟩
abbrev S1x16x64 : Shape := ⟨3, ![1, 16, 64]⟩
abbrev S16x64 : Shape := ⟨2, ![16, 64]⟩
abbrev S1x16x1x64 : Shape := ⟨4, ![1, 16, 1, 64]⟩
abbrev S16x1x64 : Shape := ⟨3, ![16, 1, 64]⟩
abbrev S16x64x1 : Shape := ⟨3, ![16, 64, 1]⟩
abbrev S2048x64x16 : Shape := ⟨3, ![2048, 64, 16]⟩
abbrev S2048x8x128 : Shape := ⟨3, ![2048, 8, 128]⟩

abbrev nBuf : Space → Nat
  | .hbm => 115
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S_, .f32⟩
  | .hbm, ⟨9, _⟩ => ⟨S16x64x64, .f32⟩
  | .hbm, ⟨10, _⟩ => ⟨S2048x16x64, .f32⟩
  | .hbm, ⟨11, _⟩ => ⟨S2048x16x1x64, .f32⟩
  | .hbm, ⟨12, _⟩ => ⟨S2048x16x64, .f32⟩
  | .hbm, ⟨13, _⟩ => ⟨S2048x16x1x64, .f32⟩
  | .hbm, ⟨14, _⟩ => ⟨S2048x16x64, .f32⟩
  | .hbm, ⟨15, _⟩ => ⟨S2048x16x1x64, .f32⟩
  | .hbm, ⟨16, _⟩ => ⟨S2048x16x64, .f32⟩
  | .hbm, ⟨17, _⟩ => ⟨S2048x16x1x64, .f32⟩
  | .hbm, ⟨18, _⟩ => ⟨S2048x16x64, .f32⟩
  | .hbm, ⟨19, _⟩ => ⟨S2048x16x1x64, .f32⟩
  | .hbm, ⟨20, _⟩ => ⟨S2048x16x64, .f32⟩
  | .hbm, ⟨21, _⟩ => ⟨S_, .f32⟩
  | .hbm, ⟨22, _⟩ => ⟨S16x64x64, .f32⟩
  | .hbm, ⟨23, _⟩ => ⟨S_, .f32⟩
  | .hbm, ⟨24, _⟩ => ⟨S2048x16x64, .f32⟩
  | .hbm, ⟨25, _⟩ => ⟨S_, .f32⟩
  | .hbm, ⟨26, _⟩ => ⟨S2048x16x64, .f32⟩
  | .hbm, ⟨27, _⟩ => ⟨S_, .i32⟩
  | .hbm, ⟨28, _⟩ => ⟨S2048x16x64, .f32⟩
  | .hbm, ⟨29, _⟩ => ⟨S2048x16x1x64, .f32⟩
  | .hbm, ⟨30, _⟩ => ⟨S2048x16x1x64, .f32⟩
  | .hbm, ⟨31, _⟩ => ⟨S2048x16x1x64, .f32⟩
  | .hbm, ⟨32, _⟩ => ⟨S2048x16x1x64, .f32⟩
  | .hbm, ⟨33, _⟩ => ⟨S2048x16x1x64, .f32⟩
  | .hbm, ⟨34, _⟩ => ⟨S_, .i32⟩
  | .hbm, ⟨35, _⟩ => ⟨S16x64x64, .f32⟩
  | .hbm, ⟨36, _⟩ => ⟨S2048x16x64, .f32⟩
  | .hbm, ⟨37, _⟩ => ⟨S2048x16x64, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x16x64, .f32⟩
  | .hbm, ⟨47, _⟩ => ⟨S16x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x16x1x64, .f32⟩
  | .hbm, ⟨52, _⟩ => ⟨S16x1x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x16x1x64, .f32⟩
  | .hbm, ⟨57, _⟩ => ⟨S16x1x64, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x16x1x64, .f32⟩
  | .hbm, ⟨62, _⟩ => ⟨S16x1x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x16x1x64, .f32⟩
  | .hbm, ⟨67, _⟩ => ⟨S16x1x64, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x16x1x64, .f32⟩
  | .hbm, ⟨72, _⟩ => ⟨S16x1x64, .f32⟩
  | .hbm, ⟨73, _⟩ => ⟨S16x64x64, .f32⟩
  | .hbm, ⟨74, _⟩ => ⟨S16x64x64, .f32⟩
  | .hbm, ⟨75, _⟩ => ⟨S16x64x64, .f32⟩
  | .hbm, ⟨76, _⟩ => ⟨S16x64x64, .f32⟩
  | .hbm, ⟨77, _⟩ => ⟨S16x64x64, .f32⟩
  | .hbm, ⟨78, _⟩ => ⟨S16x64x64, .f32⟩
  | .hbm, ⟨79, _⟩ => ⟨S_, .f32⟩
  | .hbm, ⟨80, _⟩ => ⟨S16x64, .f32⟩
  | .hbm, ⟨81, _⟩ => ⟨S16x64x1, .f32⟩
  | .hbm, ⟨82, _⟩ => ⟨S_, .f32⟩
  | .hbm, ⟨83, _⟩ => ⟨S16x64, .f32⟩
  | .hbm, ⟨84, _⟩ => ⟨S16x64x64, .f32⟩
  | .hbm, ⟨85, _⟩ => ⟨S16x64x64, .f32⟩
  | .hbm, ⟨86, _⟩ => ⟨S_, .f32⟩
  | .hbm, ⟨87, _⟩ => ⟨S16x64, .f32⟩
  | .hbm, ⟨88, _⟩ => ⟨S16x64x1, .f32⟩
  | .hbm, ⟨89, _⟩ => ⟨S_, .f32⟩
  | .hbm, ⟨90, _⟩ => ⟨S16x64, .f32⟩
  | .hbm, ⟨91, _⟩ => ⟨S16x64x64, .f32⟩
  | .hbm, ⟨92, _⟩ => ⟨S16x64x64, .f32⟩
  | .hbm, ⟨93, _⟩ => ⟨S16x64x64, .f32⟩
  | .hbm, ⟨94, _⟩ => ⟨S16x64x64, .f32⟩
  | .hbm, ⟨95, _⟩ => ⟨S16x64x64, .f32⟩
  | .hbm, ⟨96, _⟩ => ⟨S16x64x64, .f32⟩
  | .hbm, ⟨97, _⟩ => ⟨S1x16x64, .f32⟩
  | .hbm, ⟨98, _⟩ => ⟨S_, .i32⟩
  | .hbm, ⟨99, _⟩ => ⟨S_, .i32⟩
  | .hbm, ⟨100, _⟩ => ⟨S2048x16x64, .f32⟩
  | .hbm, ⟨101, _⟩ => ⟨S1x16x64, .f32⟩
  | .hbm, ⟨102, _⟩ => ⟨S_, .i32⟩
  | .hbm, ⟨103, _⟩ => ⟨S_, .i32⟩
  | .hbm, ⟨104, _⟩ => ⟨S2048x16x64, .f32⟩
  | .hbm, ⟨105, _⟩ => ⟨S_, .i32⟩
  | .hbm, ⟨106, _⟩ => ⟨S_, .i32⟩
  | .hbm, ⟨107, _⟩ => ⟨S2048x1024, .f32⟩
  | .hbm, ⟨108, _⟩ => ⟨S2048x1024, .f32⟩
  | .hbm, ⟨109, _⟩ => ⟨S2048x16x64, .f32⟩
  | .hbm, ⟨110, _⟩ => ⟨S2048x64x16, .f32⟩
  | .hbm, ⟨111, _⟩ => ⟨S2048x8x128, .f32⟩
  | .hbm, ⟨112, _⟩ => ⟨S2048x16x64, .f32⟩
  | .hbm, ⟨113, _⟩ => ⟨S2048x64x16, .f32⟩
  | .hbm, ⟨114, _⟩ => ⟨S2048x8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_c : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev main_v16_6 : Ref sig .tc := ⟨.hbm, 34, rfl⟩
abbrev main_v16_7 : Ref sig .tc := ⟨.hbm, 35, rfl⟩
abbrev main_v16_8 : Ref sig .tc := ⟨.hbm, 36, rfl⟩
abbrev main_v16_9 : Ref sig .tc := ⟨.hbm, 37, rfl⟩
abbrev main_while0c_c_13 : Ref sig .tc := ⟨.hbm, 38, rfl⟩
abbrev main_while0c_v25 : Ref sig .tc := ⟨.hbm, 39, rfl⟩
abbrev main_while0b_c_13 : Ref sig .tc := ⟨.hbm, 40, rfl⟩
abbrev main_while0b_v25 : Ref sig .tc := ⟨.hbm, 41, rfl⟩
abbrev main_while0b_c_14 : Ref sig .tc := ⟨.hbm, 42, rfl⟩
abbrev main_while0b_v26 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_v0 : Ref sig .tc := ⟨.hbm, 46, rfl⟩
abbrev main_while0b_v27 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_v0 : Ref sig .tc := ⟨.hbm, 51, rfl⟩
abbrev main_while0b_v28 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_v0 : Ref sig .tc := ⟨.hbm, 56, rfl⟩
abbrev main_while0b_v29 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_v0 : Ref sig .tc := ⟨.hbm, 61, rfl⟩
abbrev main_while0b_v30 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_v0 : Ref sig .tc := ⟨.hbm, 66, rfl⟩
abbrev main_while0b_v31 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_call5_v0 : Ref sig .tc := ⟨.hbm, 71, rfl⟩
abbrev main_while0b_v32 : Ref sig .tc := ⟨.hbm, 72, rfl⟩
abbrev main_while0b_v33 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_cst_15 : Ref sig .tc := ⟨.hbm, 79, rfl⟩
abbrev main_while0b_v39 : Ref sig .tc := ⟨.hbm, 80, rfl⟩
abbrev main_while0b_v40 : Ref sig .tc := ⟨.hbm, 81, rfl⟩
abbrev main_while0b_cst_16 : Ref sig .tc := ⟨.hbm, 82, rfl⟩
abbrev main_while0b_v41 : Ref sig .tc := ⟨.hbm, 83, rfl⟩
abbrev main_while0b_v42 : Ref sig .tc := ⟨.hbm, 84, rfl⟩
abbrev main_while0b_v43 : Ref sig .tc := ⟨.hbm, 85, rfl⟩
abbrev main_while0b_cst_17 : Ref sig .tc := ⟨.hbm, 86, rfl⟩
abbrev main_while0b_v44 : Ref sig .tc := ⟨.hbm, 87, rfl⟩
abbrev main_while0b_v45 : Ref sig .tc := ⟨.hbm, 88, rfl⟩
abbrev main_while0b_cst_18 : Ref sig .tc := ⟨.hbm, 89, rfl⟩
abbrev main_while0b_v46 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_call6_v0 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_v53 : Ref sig .tc := ⟨.hbm, 100, rfl⟩
abbrev main_while0b_call7_v0 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_v54 : Ref sig .tc := ⟨.hbm, 104, rfl⟩
abbrev main_while0b_c_19 : Ref sig .tc := ⟨.hbm, 105, rfl⟩
abbrev main_while0b_v55 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩

abbrev nD : Nat := 1
abbrev τ : Topo := Topo.v7x

variable {F : FTy → Type} [FloatOps F]

abbrev main_while0_count : Scf.Loop 32 := ⟨0#32, 2048#32, 1#32⟩
-- ==== Dw.lean ====
abbrev S2048x2048 : Shape := ⟨2, ![2048, 2048]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x5632, .f32⟩
  | .hbm, ⟨6, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dwd.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2048x5632, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dact.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .bf16⟩
  | .hbm, ⟨31, _⟩ => ⟨S2048x5632, .f32⟩
  | .hbm, ⟨32, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_cst_0 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== Dh.lean ====
abbrev S2048x5632 : Shape := ⟨2, ![2048, 5632]⟩
abbrev S2048x2048 : Shape := ⟨2, ![2048, 2048]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DhRefIdeal.lean ====
abbrev S2048x5632 : Shape := ⟨2, ![2048, 5632]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Up.lean ====
abbrev S2048x2048 : Shape := ⟨2, ![2048, 2048]⟩
abbrev S2048x5632 : Shape := ⟨2, ![2048, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x5632, .f32⟩
  | .hbm, ⟨4, _⟩ => ⟨S2048x5632, .f32⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Down.lean ====
abbrev S2048x2048 : Shape := ⟨2, ![2048, 2048]⟩
abbrev S2048x5632 : Shape := ⟨2, ![2048, 5632]⟩
abbrev S5632x2048 : Shape := ⟨2, ![5632, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5632, .bf16⟩
  | .hbm, ⟨2, _⟩ => ⟨S5632x2048, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .bf16⟩
  | .hbm, ⟨2, _⟩ => ⟨S5632x2048, .bf16⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== In.lean ====
abbrev S2048x2048 : Shape := ⟨2, ![2048, 2048]⟩
abbrev S3072x2048 : Shape := ⟨2, ![3072, 2048]⟩
abbrev S2048x3072 : Shape := ⟨2, ![2048, 3072]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S3072x2048, .bf16⟩
  | .hbm, ⟨2, _⟩ => ⟨S2048x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2048x2048 : Shape := ⟨2, ![2048, 2048]⟩
abbrev S3072x2048 : Shape := ⟨2, ![3072, 2048]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S3072x2048, .bf16⟩
  | .hbm, ⟨2, _⟩ => ⟨S2048x2048, .f32⟩
  | .hbm, ⟨3, _⟩ => ⟨S3072x2048, .f32⟩
  | .hbm, ⟨4, _⟩ => ⟨S2048x3072, .f32⟩
  | .hbm, ⟨5, _⟩ => ⟨S2048x3072, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDw.lean ====
abbrev S2048x3072 : Shape := ⟨2, ![2048, 3072]⟩
abbrev S2048x2048 : Shape := ⟨2, ![2048, 2048]⟩
abbrev S3072x2048 : Shape := ⟨2, ![3072, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S3072x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x3072 : Shape := ⟨2, ![2048, 3072]⟩
abbrev S2048x2048 : Shape := ⟨2, ![2048, 2048]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S2048x3072, .f32⟩
  | .hbm, ⟨3, _⟩ => ⟨S2048x2048, .f32⟩
  | .hbm, ⟨4, _⟩ => ⟨S3072x2048, .f32⟩
  | .hbm, ⟨5, _⟩ => ⟨S2048x3072, .f32⟩
  | .hbm, ⟨6, _⟩ => ⟨S3072x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InDh.lean ====
abbrev S2048x3072 : Shape := ⟨2, ![2048, 3072]⟩
abbrev S3072x2048 : Shape := ⟨2, ![3072, 2048]⟩
abbrev S2048x2048 : Shape := ⟨2, ![2048, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S3072x2048, .bf16⟩
  | .hbm, ⟨2, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDhRefIdeal.lean ====
abbrev S2048x3072 : Shape := ⟨2, ![2048, 3072]⟩
abbrev S3072x2048 : Shape := ⟨2, ![3072, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x2048, .bf16⟩
  | .hbm, ⟨2, _⟩ => ⟨S2048x3072, .f32⟩
  | .hbm, ⟨3, _⟩ => ⟨S3072x2048, .f32⟩
  | .hbm, ⟨4, _⟩ => ⟨S2048x3072, .f32⟩
  | .hbm, ⟨5, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xq.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XqDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqDwRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== XqDh.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqDhRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Xo.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XoDo.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoDoRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S1x2048, .f32⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDy.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDyRefIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Lora.lean ====
abbrev S2048x2048 : Shape := ⟨2, ![2048, 2048]⟩
abbrev S288x2048 : Shape := ⟨2, ![288, 2048]⟩
abbrev S2048x288 : Shape := ⟨2, ![2048, 288]⟩
abbrev S1024x2048 : Shape := ⟨2, ![1024, 2048]⟩
abbrev S1024x288 : Shape := ⟨2, ![1024, 288]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S288x2048, .bf16⟩
  | .hbm, ⟨2, _⟩ => ⟨S2048x288, .f32⟩
  | .local _ .vmem, ⟨0, _⟩ => ⟨S1024x2048, .bf16⟩
  | .local _ .vmem, ⟨1, _⟩ => ⟨S1024x2048, .bf16⟩
  | .local _ .vmem, ⟨2, _⟩ => ⟨S288x2048, .bf16⟩
  | .local _ .vmem, ⟨3, _⟩ => ⟨S1024x288, .f32⟩
  | .local _ .vmem, ⟨4, _⟩ => ⟨S1024x288, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S288x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoraRefIdeal.lean ====
abbrev S2048x2048 : Shape := ⟨2, ![2048, 2048]⟩
abbrev S288x2048 : Shape := ⟨2, ![288, 2048]⟩
abbrev S2048x288 : Shape := ⟨2, ![2048, 288]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S288x2048, .bf16⟩
  | .hbm, ⟨2, _⟩ => ⟨S2048x2048, .f32⟩
  | .hbm, ⟨3, _⟩ => ⟨S288x2048, .f32⟩
  | .hbm, ⟨4, _⟩ => ⟨S2048x288, .f32⟩
  | .hbm, ⟨5, _⟩ => ⟨S2048x288, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LoraDw.lean ====
abbrev S2048x288 : Shape := ⟨2, ![2048, 288]⟩
abbrev S2048x2048 : Shape := ⟨2, ![2048, 2048]⟩
abbrev S288x2048 : Shape := ⟨2, ![288, 2048]⟩
abbrev S2048x1024 : Shape := ⟨2, ![2048, 1024]⟩
abbrev S288x1024 : Shape := ⟨2, ![288, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x288, .bf16⟩
  | .hbm, ⟨1, _⟩ => ⟨S2048x2048, .bf16⟩
  | .hbm, ⟨2, _⟩ => ⟨S288x2048, .f32⟩
  | .local _ .vmem, ⟨0, _⟩ => ⟨S2048x288, .bf16⟩
  | .local _ .vmem, ⟨1, _⟩ => ⟨S2048x1024, .bf16⟩
  | .local _ .vmem, ⟨2, _⟩ => ⟨S2048x1024, .bf16⟩
  | .local _ .vmem, ⟨3, _⟩ => ⟨S288x1024, .f32⟩
  | .local _ .vmem, ⟨4, _⟩ => ⟨S288x1024, .f32⟩
  | _, _ => ⟨S2048x288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S288x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoraDwRefIdeal.lean ====
abbrev S2048x288 : Shape := ⟨2, ![2048, 288]⟩
abbrev S2048x2048 : Shape := ⟨2, ![2048, 2048]⟩
abbrev S288x2048 : Shape := ⟨2, ![288, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x288, .bf16⟩
  | .hbm, ⟨1, _⟩ => ⟨S2048x2048, .bf16⟩
  | .hbm, ⟨2, _⟩ => ⟨S2048x288, .f32⟩
  | .hbm, ⟨3, _⟩ => ⟨S2048x2048, .f32⟩
  | .hbm, ⟨4, _⟩ => ⟨S288x2048, .f32⟩
  | .hbm, ⟨5, _⟩ => ⟨S2048x288, .f32⟩
  | .hbm, ⟨6, _⟩ => ⟨S288x2048, .f32⟩
  | _, _ => ⟨S2048x288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== LoraDh.lean ====
abbrev S2048x2048 : Shape := ⟨2, ![2048, 2048]⟩
abbrev S2048x288 : Shape := ⟨2, ![2048, 288]⟩
abbrev S288x2048 : Shape := ⟨2, ![288, 2048]⟩
abbrev S1024x288 : Shape := ⟨2, ![1024, 288]⟩
abbrev S288x1024 : Shape := ⟨2, ![288, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x288, .bf16⟩
  | .hbm, ⟨2, _⟩ => ⟨S288x2048, .bf16⟩
  | .hbm, ⟨3, _⟩ => ⟨S2048x2048, .f32⟩
  | .local _ .vmem, ⟨0, _⟩ => ⟨S1024x288, .bf16⟩
  | .local _ .vmem, ⟨1, _⟩ => ⟨S1024x288, .bf16⟩
  | .local _ .vmem, ⟨2, _⟩ => ⟨S288x1024, .bf16⟩
  | .local _ .vmem, ⟨3, _⟩ => ⟨S288x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S288x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LoraDhRefIdeal.lean ====
abbrev S2048x2048 : Shape := ⟨2, ![2048, 2048]⟩
abbrev S2048x288 : Shape := ⟨2, ![2048, 288]⟩
abbrev S288x2048 : Shape := ⟨2, ![288, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x288, .bf16⟩
  | .hbm, ⟨2, _⟩ => ⟨S288x2048, .bf16⟩
  | .hbm, ⟨3, _⟩ => ⟨S2048x288, .f32⟩
  | .hbm, ⟨4, _⟩ => ⟨S288x2048, .f32⟩
  | .hbm, ⟨5, _⟩ => ⟨S2048x288, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Swa.lean ====
abbrev S2048x2048 : Shape := ⟨2, ![2048, 2048]⟩
abbrev S1280x2048 : Shape := ⟨2, ![1280, 2048]⟩
abbrev S2048x1280 : Shape := ⟨2, ![2048, 1280]⟩
abbrev S1024x2048 : Shape := ⟨2, ![1024, 2048]⟩
abbrev S640x2048 : Shape := ⟨2, ![640, 2048]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1280x2048, .bf16⟩
  | .hbm, ⟨2, _⟩ => ⟨S2048x1280, .f32⟩
  | .local _ .vmem, ⟨0, _⟩ => ⟨S1024x2048, .bf16⟩
  | .local _ .vmem, ⟨1, _⟩ => ⟨S1024x2048, .bf16⟩
  | .local _ .vmem, ⟨2, _⟩ => ⟨S640x2048, .bf16⟩
  | .local _ .vmem, ⟨3, _⟩ => ⟨S640x2048, .bf16⟩
  | .local _ .vmem, ⟨4, _⟩ => ⟨S1024x640, .f32⟩
  | .local _ .vmem, ⟨5, _⟩ => ⟨S1024x640, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaRefIdeal.lean ====
abbrev S2048x2048 : Shape := ⟨2, ![2048, 2048]⟩
abbrev S1280x2048 : Shape := ⟨2, ![1280, 2048]⟩
abbrev S2048x1280 : Shape := ⟨2, ![2048, 1280]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1280x2048, .bf16⟩
  | .hbm, ⟨2, _⟩ => ⟨S2048x2048, .f32⟩
  | .hbm, ⟨3, _⟩ => ⟨S1280x2048, .f32⟩
  | .hbm, ⟨4, _⟩ => ⟨S2048x1280, .f32⟩
  | .hbm, ⟨5, _⟩ => ⟨S2048x1280, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SwaDw.lean ====
abbrev S2048x1280 : Shape := ⟨2, ![2048, 1280]⟩
abbrev S2048x2048 : Shape := ⟨2, ![2048, 2048]⟩
abbrev S1280x2048 : Shape := ⟨2, ![1280, 2048]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1280, .bf16⟩
  | .hbm, ⟨1, _⟩ => ⟨S2048x2048, .bf16⟩
  | .hbm, ⟨2, _⟩ => ⟨S1280x2048, .f32⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaDwRefIdeal.lean ====
abbrev S2048x1280 : Shape := ⟨2, ![2048, 1280]⟩
abbrev S2048x2048 : Shape := ⟨2, ![2048, 2048]⟩
abbrev S1280x2048 : Shape := ⟨2, ![1280, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2048x2048, .bf16⟩
  | .hbm, ⟨2, _⟩ => ⟨S2048x1280, .f32⟩
  | .hbm, ⟨3, _⟩ => ⟨S2048x2048, .f32⟩
  | .hbm, ⟨4, _⟩ => ⟨S1280x2048, .f32⟩
  | .hbm, ⟨5, _⟩ => ⟨S2048x1280, .f32⟩
  | .hbm, ⟨6, _⟩ => ⟨S1280x2048, .f32⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SwaDh.lean ====
abbrev S2048x2048 : Shape := ⟨2, ![2048, 2048]⟩
abbrev S2048x1280 : Shape := ⟨2, ![2048, 1280]⟩
abbrev S1280x2048 : Shape := ⟨2, ![1280, 2048]⟩
abbrev S1024x1280 : Shape := ⟨2, ![1024, 1280]⟩
abbrev S1280x1024 : Shape := ⟨2, ![1280, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x1280, .bf16⟩
  | .hbm, ⟨2, _⟩ => ⟨S1280x2048, .bf16⟩
  | .hbm, ⟨3, _⟩ => ⟨S2048x2048, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwaDhRefIdeal.lean ====
abbrev S2048x2048 : Shape := ⟨2, ![2048, 2048]⟩
abbrev S2048x1280 : Shape := ⟨2, ![2048, 1280]⟩
abbrev S1280x2048 : Shape := ⟨2, ![1280, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1280, .bf16⟩
  | .hbm, ⟨2, _⟩ => ⟨S1280x2048, .bf16⟩
  | .hbm, ⟨3, _⟩ => ⟨S2048x1280, .f32⟩
  | .hbm, ⟨4, _⟩ => ⟨S1280x2048, .f32⟩
  | .hbm, ⟨5, _⟩ => ⟨S2048x1280, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Xkv.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | .hbm, ⟨5, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XkvDw.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .f32⟩
  | .hbm, ⟨2, _⟩ => ⟨S2048x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDwRefIdeal.lean ====
abbrev S256x2048 : Shape := ⟨2, ![256, 2048]⟩
abbrev S256x4096 : Shape := ⟨2, ![256, 4096]⟩
abbrev S4096x2048 : Shape := ⟨2, ![4096, 2048]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .f32⟩
  | .hbm, ⟨2, _⟩ => ⟨S256x2048, .f32⟩
  | .hbm, ⟨3, _⟩ => ⟨S4096x2048, .f32⟩
  | .hbm, ⟨4, _⟩ => ⟨S2048x4096, .f32⟩
  | .hbm, ⟨5, _⟩ => ⟨S2048x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XkvDh.lean ====
abbrev S256x4096 : Shape := ⟨2, ![256, 4096]⟩
abbrev S2048x4096 : Shape := ⟨2, ![2048, 4096]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S2048x4096, .bf16⟩
  | .hbm, ⟨2, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S1024x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDhRefIdeal.lean ====
abbrev S256x4096 : Shape := ⟨2, ![256, 4096]⟩
abbrev S2048x4096 : Shape := ⟨2, ![2048, 4096]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S2048x4096, .bf16⟩
  | .hbm, ⟨2, _⟩ => ⟨S2048x4096, .f32⟩
  | .hbm, ⟨3, _⟩ => ⟨S256x2048, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Scan.Struct.lean ====
module

public import proofs.«01_k».proof.Proof.Gen.KernelIdeal.Skeleton

@[expose] public section

set_option maxRecDepth 65536

noncomputable section

/-!
The kernel's body as a structured program: the same memory operations in the same order, written
with loops over the row number `ih`, the column block `jh` and the operand `m` instead of unrolled.
-/

namespace Cert.KernelIdeal.Scan

open Idealize.ShloMosaic Idealize.SL.Sem
open Cert.KernelIdeal.Gen

variable {F : FTy → Type} [FloatOps F] {β : Type}

/-- A program of the kernel's body. -/
abbrev PB (F : FTy → Type) [FloatOps F] (α : Type) : Type 1 := Prog (TpuEff nD τ sig (Elt F) Λ₀ .tc) α
/-- A window's staging buffer or the carried state: 64 tiles. -/
abbrev MB : Type := Memref sig .tc .vmem S64x8x128 .f32
/-- A step's expanded operands: six planes of 64 rows. -/
abbrev ME : Type := Memref sig .tc .vmem S6x64x128 .f32

/-- A program that goes on with what its continuation makes of its result. -/
abbrev CB (F : FTy → Type) [FloatOps F] (β α : Type) : Type 1 := (α → PB F β) → PB F β

/-- Nothing but a result. -/
def ret {α β : Type} (a : α) : CB F β α := fun K => K a

/-- One program and then the next, which may use the first one's result. -/
def seq {α γ β : Type} (p : CB F β α) (q : α → CB F β γ) : CB F β γ := fun K => p fun x => q x K

/-- A function on the naturals by its value at zero and its values above. -/
def cons {α : Type} (x : α) (r : Nat → α) : Nat → α
  | 0 => x
  | i + 1 => r i

/-- `f k, …, f (k + n)` one after another, the results as a function of the distance from `k`. -/
def each {α β : Type} (f : Nat → CB F β α) : Nat → Nat → CB F β (Nat → α)
  | 0, k => seq (f k) fun x => ret fun _ => x
  | n + 1, k => seq (f k) fun x => seq (each f n (k + 1)) fun r => ret (cons x r)

/-- Tile `t` of 64. -/
abbrev tileR (t : Nat) (h : t < 64) : Rect S64x8x128 :=
  Rect.unit (s := S64x8x128) ![t, 0, 0] S1x8x128.size (by
    intro a; fin_cases a
    · show t + 1 ≤ 64; omega
    · show 0 + 8 ≤ 8; omega
    · show 0 + 128 ≤ 128; omega)

/-- Row `g` of tile `t`. -/
abbrev rowR (t : Nat) (h : t < 64) (g : Nat) : Rect S64x8x128 :=
  Rect.unit (s := S64x8x128) ![t, g % 8, 0] S1x1x128.size (by
    intro a; fin_cases a
    · show t + 1 ≤ 64; omega
    · show g % 8 + 1 ≤ 8; omega
    · show 0 + 128 ≤ 128; omega)

/-- Rows `8 g … 8 g + 7` of plane `m`. -/
abbrev planeR (m g : Nat) : Rect S6x64x128 :=
  Rect.unit (s := S6x64x128) ![m % 6, 8 * (g % 8), 0] S1x8x128.size (by
    intro a; fin_cases a
    · show m % 6 + 1 ≤ 6; omega
    · show 8 * (g % 8) + 8 ≤ 64; omega
    · show 0 + 128 ≤ 128; omega)

/-- Row `ih` of the last plane. -/
abbrev lastR (ih : Nat) : Rect S6x64x128 :=
  Rect.unit (s := S6x64x128) ![5, ih % 8, 0] S1x1x128.size (by
    intro a; fin_cases a
    · show 5 + 1 ≤ 6; omega
    · show ih % 8 + 1 ≤ 64; omega
    · show 0 + 128 ≤ 128; omega)

def ldTile (m : MB) (t : Nat) (h : t < 64) : CB F β (Vec F S1x8x128 .f32) :=
  Prog.op (.load m (tileR t h).toLoadRect (View.loadsAt_vmem h_S1x8x128))

def stTile (m : MB) (t : Nat) (h : t < 64) (w : Vec F S1x8x128 .f32) : CB F β PUnit :=
  Prog.op (.store m (tileR t h) w Finset.univ (View.stores_vmem_bits_univ h_S1x8x128 rfl) (.inl rfl))

def ldRow (m : MB) (t : Nat) (h : t < 64) (g : Nat) : CB F β (Vec F S1x1x128 .f32) :=
  Prog.op (.load m (rowR t h g).toLoadRect (View.loadsAt_vmem h_S1x1x128))

def stRow (m : MB) (t : Nat) (h : t < 64) (g : Nat) (w : Vec F S1x1x128 .f32) : CB F β PUnit :=
  Prog.op (.store m (rowR t h g) w Finset.univ (View.stores_vmem_bits_univ h_S1x1x128 rfl) (.inl rfl))

def ldPlane (e : ME) (m g : Nat) : CB F β (Vec F S1x8x128 .f32) :=
  Prog.op (.load e (planeR m g).toLoadRect (View.loadsAt_vmem h_S1x8x128))

def stPlane (e : ME) (m g : Nat) (w : Vec F S1x8x128 .f32) : CB F β PUnit :=
  Prog.op (.store e (planeR m g) w Finset.univ (View.stores_vmem_bits_univ h_S1x8x128 rfl) (.inl rfl))

def ldLast (e : ME) (ih : Nat) : CB F β (Vec F S1x1x128 .f32) :=
  Prog.op (.load e (lastR ih).toLoadRect (View.loadsAt_vmem h_S1x1x128))

/-- A (1, 8, 128) block as the tile it holds. -/
abbrev sq (v : Vec F S1x8x128 .f32) : FVec F S8x128 .f32 := shapeCast S8x128 v shapeCasts_S1x8x128_S8x128
/-- A tile as a (1, 8, 128) block. -/
abbrev unsq (v : FVec F S8x128 .f32) : FVec F S1x8x128 .f32 := shapeCast S1x8x128 v shapeCasts_S8x128_S1x8x128
/-- A row spread over the eight sublanes. -/
def bc (v : Vec F S1x1x128 .f32) : FVec F S8x128 .f32 :=
  broadcastTo S8x128 (shapeCast S1x128 (shapeCast S1x128 v shapeCasts_S1x1x128_S1x128) shapeCasts_S1x128_S1x128) broadcasts_S1x128_S8x128
/-- The row gathered into its eight sublanes by the index vector `idx`. -/
def gath (idx : IVec S8x128 32) (v : Vec F S1x1x128 .f32) : FVec F S1x8x128 .f32 := k0_pay1 idx v
/-- The tile whose lane `8 h + l` holds lane `16 l + h`. -/
def tileOf (v : Vec F S1x8x128 .f32) : FVec F S1x8x128 .f32 :=
  k0_pay62 (k0_pay57 v) (iota .tc S8x128 32 [1] iota_S8x128_d1_w32) k0_pay58 k0_pay59 k0_pay60 k0_pay61
/-- The sums over the eight sublanes. -/
def rsum (v : FVec F S8x128 .f32) : FVec F S1x128 .f32 :=
  shapeCast S1x128 (multiReduction .add [0] S128 v 0x00000000#32 reduces_S8x128_S128 (.inl rfl) rfl) shapeCasts_S128_S1x128
/-- `f 0 + … + f n`, from the left. -/
def sumUp (f : Nat → FVec F S8x128 .f32) : Nat → FVec F S8x128 .f32
  | 0 => f 0
  | n + 1 => addf (sumUp f n) (f (n + 1))

/-- One row of operand `m` expanded into `e`. -/
def expandRow (x : Nat → MB) (e : ME) (idx : IVec S8x128 32) (t : Nat) (h : t < 64) (m g : Nat) : CB F β PUnit :=
  seq (ldRow (x m) t h g) fun v => seq (ldPlane e m g) fun _ => stPlane e m g (gath idx v)

/-- Step `t`'s operands expanded into `e`. -/
def expand (x : Nat → MB) (y : MB) (e : ME) (idx : IVec S8x128 32) (t : Nat) (h : t < 64) : CB F β PUnit :=
  seq (each (fun m => each (fun g => expandRow x e idx t h m g) 7 0) 4 0) fun _ =>
  seq (ldTile y t h) fun v => seq (ldPlane e 5 0) fun _ => stPlane e 5 0 (tileOf v)

theorem tile_lt (j i : Nat) : 8 * (j % 8) + i % 8 < 64 := by omega

/-- State tile `8 jh + ih` replaced by `f` of it, the new tile returned. -/
def upd (g : MB) (jh ih : Nat) (f : FVec F S8x128 .f32 → FVec F S8x128 .f32) : CB F β (FVec F S8x128 .f32) :=
  seq (ldTile g (8 * (jh % 8) + ih % 8) (tile_lt jh ih)) fun v =>
  seq (ldTile g (8 * (jh % 8) + ih % 8) (tile_lt jh ih)) fun _ =>
  seq (stTile g (8 * (jh % 8) + ih % 8) (tile_lt jh ih) (unsq (f (sq v)))) fun _ => ret (f (sq v))

/-- Every tile `8 jh + ih` of the state replaced by `f` of it, after `ld jh`'s loads for each `jh`. -/
def sweep {A : Type} (g : MB) (ld : Nat → CB F β A) (f : A → Nat → FVec F S8x128 .f32 → FVec F S8x128 .f32) :
    CB F β (Nat → A × (Nat → FVec F S8x128 .f32)) :=
  each (fun jh => seq (ld jh) fun a => seq (each (fun ih => upd g jh ih (f a ih)) 7 0) fun gs => ret (a, gs)) 7 0

/-- The tiles of `b`, `k` and `r` for the columns `8 jh …`. -/
def ld3 (e : ME) (jh : Nat) : CB F β (Vec F S1x8x128 .f32 × Vec F S1x8x128 .f32 × Vec F S1x8x128 .f32) :=
  seq (ldPlane e 2 jh) fun b => seq (ldPlane e 3 jh) fun k => seq (ldPlane e 4 jh) fun r => ret (b, k, r)

/-- The tiles of `a` and `w` for the columns `8 jh …`. -/
def ld2 (e : ME) (jh : Nat) : CB F β (Vec F S1x8x128 .f32 × Vec F S1x8x128 .f32) :=
  seq (ldPlane e 0 jh) fun a => seq (ldPlane e 1 jh) fun w => ret (a, w)

/-- A row of sums stored. -/
def putRow (m : MB) (t : Nat) (h : t < 64) (ih : Nat) (w : FVec F S1x128 .f32) : CB F β PUnit :=
  seq (ldRow m t h ih) fun _ => stRow m t h ih (shapeCast S1x1x128 w shapeCasts_S1x128_S1x1x128)

/-- The row of sums over `j` of the state's tiles times the tiles `b`. -/
def sums (gs : Nat → FVec F S8x128 .f32) (b : Nat → Vec F S1x8x128 .f32) : FVec F S1x128 .f32 :=
  rsum (sumUp (fun jh => mulf (gs jh) (sq (b jh))) 7)

/-- A row of sums spread over the eight sublanes. -/
def bc1 (v : FVec F S1x128 .f32) : FVec F S8x128 .f32 :=
  broadcastTo S8x128 (shapeCast S1x128 v shapeCasts_S1x128_S1x128) broadcasts_S1x128_S8x128

/-- One step of the recurrence backwards: `g := g + r dy`, the sums over `j` of `g b` and `g k` stored, `g := g w + a dsa`. -/
def step (dsa dv g : MB) (e : ME) (t : Nat) (h : t < 64) : CB F β PUnit :=
  seq (each (fun ih => ldLast e ih) 7 0) fun dy =>
  seq (sweep g (ld3 e) fun a ih v => addf v (mulf (sq a.2.2) (bc (dy ih)))) fun p =>
  seq (each (fun ih =>
    seq (putRow dsa t h ih (sums (fun jh => (p jh).2 ih) fun jh => (p jh).1.1)) fun _ =>
    putRow dv t h ih (sums (fun jh => (p jh).2 ih) fun jh => (p jh).1.2.1)) 7 0) fun _ =>
  seq (sweep g (ld2 e) fun a ih v => addf (mulf v (sq a.2))
    (mulf (sq a.1) (bc1 (sums (fun jh => (p jh).2 ih) fun jh => (p jh).1.1)))) fun _ => ret ⟨⟩

/-- The operands by number. -/
abbrev ops (a1 a2 a3 a4 a5 : MB) : Nat → MB
  | 0 => a1
  | 1 => a2
  | 2 => a3
  | 3 => a4
  | _ => a5

/-- The step number of trip `k`: 63 − 2 k. -/
abbrev tk (k : Fin k0_t1_loop.trips) : BitVec 32 := Scalar.subi 63#32 (Scalar.muli 2#32 (Scf.iv (0#32) (1#32) k))

theorem tk_val : ∀ k : Fin k0_t1_loop.trips, (Scalar.indexCast (tk k)).toNat = 63 - 2 * k.val
    ∧ (Scalar.indexCast (Scalar.subi (tk k) 1#32)).toNat = 62 - 2 * k.val
    ∧ (Scalar.indexCast (Scalar.maxsi (Scalar.subi (tk k) 2#32) 0#32)).toNat = 61 - 2 * k.val := by decide +kernel

/-- A trip: two steps, each working from one expansion while the next is written to the other. -/
def trip (x : Nat → MB) (y dsa dv g : MB) (e0 e1 : ME) (idx : IVec S8x128 32) (k : Fin k0_t1_loop.trips) : CB F β PUnit :=
  seq (expand x y e1 idx (Scalar.indexCast (Scalar.subi (tk k) 1#32)).toNat (by have := tk_val k; omega)) fun _ =>
  seq (step dsa dv g e0 (Scalar.indexCast (tk k)).toNat (by have := tk_val k; omega)) fun _ =>
  seq (expand x y e0 idx (Scalar.indexCast (Scalar.maxsi (Scalar.subi (tk k) 2#32) 0#32)).toNat (by have := tk_val k; omega)) fun _ =>
  step dsa dv g e1 (Scalar.indexCast (Scalar.subi (tk k) 1#32)).toNat (by have := tk_val k; omega)

/-- The tile whose lane `16 l + h` holds lane `8 h + l`. -/
def permOf (v : Vec F S1x8x128 .f32) : FVec F S1x8x128 .f32 :=
  k0_pay1033 (k0_pay1029 v) (iota .tc S8x128 32 [1] iota_S8x128_d1_w32) k0_pay1030 16#32 k0_pay1031 k0_pay1032
    (Scalar.subi (Scalar.extui (Scalar.cmpi .sgt 16#32 0#32)) (Scalar.extui (Scalar.cmpi .slt 16#32 0#32)))

/-- Tile `t` of a result laid out anew. -/
def relay (m : MB) (t : Nat) : CB F β PUnit :=
  seq (ldTile m (t % 64) (Nat.mod_lt _ (by decide))) fun v =>
  seq (ldTile m (t % 64) (Nat.mod_lt _ (by decide))) fun _ => stTile m (t % 64) (Nat.mod_lt _ (by decide)) (permOf v)

/-- At the first point the carried state is set to zero. -/
def start (i : grid0.Coords) (g : MB) : PB F PUnit :=
  if Scalar.cmpi .ne (Scalar.extui (Scalar.cmpi .eq (BitVec.ofNat 32 (i 0).val) 0#32) : BitVec 32) 0#32 = 1#1 then
    .op (.load g (Rect.unit (s := S64x8x128) ![0, 0, 0] S64x8x128.size inb_S64x8x128_S64x8x128_0_0_0).toLoadRect (View.loadsAt_vmem h_S64x8x128)) fun _ =>
    .op (.store g (Rect.unit (s := S64x8x128) ![0, 0, 0] S64x8x128.size inb_S64x8x128_S64x8x128_0_0_0) (k0_pay965 (F := F)) Finset.univ
      (View.stores_vmem_bits_univ h_S64x8x128 rfl) (.inl rfl)) fun _ => .ret ⟨⟩
  else .ret ⟨⟩

end Cert.KernelIdeal.Scan
-- ==== Proof.Scan.Trip.lean ====
module

public import proofs.«01_k».proof.Proof.Scan.Struct

@[expose] public section

set_option maxRecDepth 100000

noncomputable section

/-!
The printed trip is the structured one: the same operations in the same order, compared one by one.
-/

namespace Cert.KernelIdeal.Scan

open Idealize.ShloMosaic Idealize.SL.Sem
open Cert.KernelIdeal.Gen

variable {F : FTy → Type} [FloatOps F]
universe v

/-- Two programs that begin with the same operation and go on alike are the same. -/
theorem op_congr {E : Type → Type v} {α β : Type} {e : E β} {k k' : β → Prog E α} (h : ∀ x, k x = k' x) :
    Prog.op e k = Prog.op e k' := congrArg _ (funext h)

set_option maxHeartbeats 0 in
/-- The printed trip of the counted loop is the structured trip. -/
theorem trip_eq (i : grid0.Coords) (a1 : MB) (h1 : a1.IsWhole) (a2 : MB) (h2 : a2.IsWhole) (a3 : MB) (h3 : a3.IsWhole) (a4 : MB) (h4 : a4.IsWhole) (a5 : MB) (h5 : a5.IsWhole) (a6 : MB) (h6 : a6.IsWhole) (a7 : MB) (h7 : a7.IsWhole) (a8 : MB) (h8 : a8.IsWhole) (a9 : MB) (h9 : a9.IsWhole) (a10 : ME) (h10 : a10.IsWhole) (a11 : ME) (h11 : a11.IsWhole) (idx : IVec S8x128 32) (v685 : FVec F S8x128 .f32) (k : Fin k0_t1_loop.trips)
     :
    k0_t1_body (F := F) i a1 h1 a2 h2 a3 h3 a4 h4 a5 h5 a6 h6 a7 h7 a8 h8 a9 h9 a10 h10 a11 h11 idx v685 k () =
      trip (F := F) (ops a1 a2 a3 a4 a5) a6 a7 a8 a9 a10 a11 idx k .ret := by
  unfold k0_t1_body trip
  repeat (refine op_congr ?_; intro _)
  rfl

end Cert.KernelIdeal.Scan
-- ==== Proof.Scan.Body.lean ====
module

public import proofs.«01_k».proof.Proof.Scan.Trip

@[expose] public section

set_option maxRecDepth 100000

noncomputable section

/-!
The printed body is the structured one.
-/

namespace Cert.KernelIdeal.Scan

open Idealize.ShloMosaic Idealize.SL.Sem
open Cert.KernelIdeal.Gen

variable {F : FTy → Type} [FloatOps F]
universe v

/-- Four binds, the first innermost. -/
theorem bind4 {E : Type → Type v} {α₀ α₁ α₂ α₃ α₄ : Type} (p : Prog E α₀) (f : α₀ → Prog E α₁) (g : α₁ → Prog E α₂) (h : α₂ → Prog E α₃)
    (k : α₃ → Prog E α₄) :
    Prog.bind (Prog.bind (Prog.bind (Prog.bind p f) g) h) k = Prog.bind p fun x => Prog.bind (Prog.bind (Prog.bind (f x) g) h) k := by
  have a {α β γ : Type} (p : Prog E α) (f : α → Prog E β) (g : β → Prog E γ) : Prog.bind (Prog.bind p f) g = Prog.bind p fun x => Prog.bind (f x) g :=
    Prog.bind_assoc p f g
  rw [a p f g, a p _ h, a p _ k]

/-- The first part: the carried state set to zero at the first point, and the first row read. -/
theorem part122_eq (i : grid0.Coords) (a1 : MB) (h1 : a1.IsWhole) (a2 : MB) (h2 : a2.IsWhole) (a3 : MB) (h3 : a3.IsWhole) (a4 : MB) (h4 : a4.IsWhole) (a5 : MB) (h5 : a5.IsWhole) (a6 : MB) (h6 : a6.IsWhole) (a7 : MB) (h7 : a7.IsWhole) (a8 : MB) (h8 : a8.IsWhole) (a9 : MB) (h9 : a9.IsWhole) (a10 : ME) (h10 : a10.IsWhole) (a11 : ME) (h11 : a11.IsWhole) :
    k0_part122 (F := F) i a1 h1 a2 h2 a3 h3 a4 h4 a5 h5 a6 h6 a7 h7 a8 h8 a9 h9 a10 h10 a11 h11 =
      Prog.bind (start i a9) fun _ => Prog.op (.load a1 (rowR 63 (by decide) 0).toLoadRect (View.loadsAt_vmem h_S1x1x128)) fun v =>
        .ret ⟨k0_pay966, k0_pay967 v, k0_pay968⟩ := by
  rw [k0_part122_eq_skeleton, k0_part122_skel]
  unfold start
  split <;> rfl

set_option maxHeartbeats 0 in
/-- The printed body is the structured body. -/
theorem body_eq (i : grid0.Coords) (a1 : MB) (h1 : a1.IsWhole) (a2 : MB) (h2 : a2.IsWhole) (a3 : MB) (h3 : a3.IsWhole) (a4 : MB) (h4 : a4.IsWhole) (a5 : MB) (h5 : a5.IsWhole) (a6 : MB) (h6 : a6.IsWhole) (a7 : MB) (h7 : a7.IsWhole) (a8 : MB) (h8 : a8.IsWhole) (a9 : MB) (h9 : a9.IsWhole) (a10 : ME) (h10 : a10.IsWhole) (a11 : ME) (h11 : a11.IsWhole) :
    cc0_rwkv_scan_bwd_a (F := F) i a1 h1 a2 h2 a3 h3 a4 h4 a5 h5 a6 h6 a7 h7 a8 h8 a9 h9 a10 h10 a11 h11 =
      Prog.bind (start i a9) fun _ =>
      expand (F := F) (ops a1 a2 a3 a4 a5) a6 a10 k0_pay966 63 (by decide) fun _ =>
      Prog.bind (Scf.Loop.for k0_t1_loop k0_t1_ok ⟨⟩ fun k _ => trip (F := F) (ops a1 a2 a3 a4 a5) a6 a7 a8 a9 a10 a11 k0_pay966 k .ret) fun _ =>
      each (F := F) (relay a7) 63 0 fun _ => each (F := F) (relay a8) 63 0 fun _ => .ret ⟨⟩ := by
  simp only [cc0_rwkv_scan_bwd_a_eq_skeleton, cc0_rwkv_scan_bwd_a_skel, k0_part313_eq_skeleton, k0_part313_skel, k0_part310_eq_skeleton,
    k0_part310_skel, part122_eq]
  show Prog.bind (Prog.bind (Prog.bind (Prog.bind _ _) _) _) _ = Prog.bind _ _
  refine (bind4 _ _ _ _ _).trans ?_
  refine congrArg (Prog.bind _) (funext fun _ => ?_)
  iterate 123 (refine op_congr ?_; intro _)
  show Prog.bind (Prog.bind (Prog.bind (Prog.bind (Scf.Loop.for k0_t1_loop k0_t1_ok PUnit.unit _) _) _) _) _ = Prog.bind _ _
  refine (bind4 _ _ _ _ _).trans ?_
  refine congrArg₂ Prog.bind (congrArg _ (funext fun k => funext fun _ => ?_)) (funext fun _ => ?_)
  · exact trip_eq i a1 h1 a2 h2 a3 h3 a4 h4 a5 h5 a6 h6 a7 h7 a8 h8 a9 h9 a10 h10 a11 h11 _ (fun _ => k0_pay965 (F := F) (fun a => ⟨0, by fin_cases a <;> decide⟩)) k
  repeat (refine op_congr ?_; intro _)
  rfl

end Cert.KernelIdeal.Scan
-- ==== Proof.Scan.Runs.lean ====
module

public import proofs.«01_k».proof.Proof.Scan.Struct
public import proofs.«01_k».proof.Proof.Gen.KernelIdeal.Launch
public import Idealize.ShloMosaic.Lib.Tactic
public import Idealize.ShloMosaic.Lib.Pipeline.Kit

@[expose] public section

noncomputable section

/-!
Running the structured program: from a state of the buffers to the next, as functions. Every rule
says what a piece of the program returns and which state it leaves, so that what follows is about
functions and not about programs.
-/

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions of the kernel's proof. -/
abbrev SP (F : FTy → Type) [FloatOps F] : Type := sProp (MT nD τ sig Unit (Elt F) ℕ (UR sig nD τ) ℕ)

/-- `G` with the rectangle `r` overwritten by `w`. -/
def put {s : Shape} {α : Type} (r : Rect s) (w : r.shape.Idx → α) (G : s.Idx → α) : s.Idx → α := fun y =>
  open Classical in if h : ∃ x, r.emb x = y then w h.choose else G y

theorem put_emb {s : Shape} {α : Type} (r : Rect s) (w : r.shape.Idx → α) (G : s.Idx → α) (x : r.shape.Idx) :
    put r w G (r.emb x) = w x := by
  have h : ∃ x', r.emb x' = r.emb x := ⟨x, rfl⟩
  rw [put, dif_pos h]; exact congrArg w (r.emb.injective h.choose_spec)

theorem put_of_not {s : Shape} {α : Type} (r : Rect s) (w : r.shape.Idx → α) (G : s.Idx → α) (y : s.Idx)
    (h : ∀ x, r.emb x ≠ y) : put r w G y = G y := by
  rw [put, dif_neg]; rintro ⟨x, e⟩; exact h x e

variable (𝒱 : Variants) (c : Dev nD) (bd : Option 𝒱.V) (E : Set ℕ)

/-- From the state `s` the program returns `a` and leaves the state `s'`, whatever follows. -/
def Does {σ α : Type} (R : σ → SP F) (p : CB F PUnit α) (s : σ) (a : α) (s' : σ) : Prop :=
  ∀ (K : α → PB F PUnit) (Q : PUnit → SP F),
    R s ⊢ iprop((R s' -∗ wp frame (wpE (defs₀ (F := F)) 𝒱 (c : Thread nD τ) bd) E (K a) Q)
      -∗ wp frame (wpE (defs₀ (F := F)) 𝒱 (c : Thread nD τ) bd) E (p K) Q)

/-- The state owns the memref `m`, whose contents are `get` of it. -/
def Looks {σ : Type} (R : σ → SP F) {s : Shape} {e : EltTy} (m : Memref sig .tc .vmem s e) (get : σ → s.Idx → Elt F e) : Prop :=
  ∀ x, R x ⊢ iprop(owns (c : Thread nD τ) m fullShare (get x) ∗ (owns (c : Thread nD τ) m fullShare (get x) -∗ R x))

/-- The state owns the memref `m`, whose contents it names `get`; `set` replaces them. -/
structure Holds {σ : Type} (R : σ → SP F) {s : Shape} {e : EltTy} (m : Memref sig .tc .vmem s e)
    (get : σ → s.Idx → Elt F e) (set : (s.Idx → Elt F e) → σ → σ) : Prop where
  acc : ∀ x, R x ⊢ iprop(owns (c : Thread nD τ) m fullShare (get x) ∗ ∀ G, owns (c : Thread nD τ) m fullShare G -∗ R (set G x))
  same : ∀ x, set (get x) x = x

variable {𝒱 c bd E} {σ : Type} {R : σ → SP F}

theorem Holds.looks {s : Shape} {e : EltTy} {m : Memref sig .tc .vmem s e} {get : σ → s.Idx → Elt F e} {set : (s.Idx → Elt F e) → σ → σ}
    (H : Holds c R m get set) : Looks c R m get := by
  intro x
  refine (H.acc x).trans ?_
  iintro ⟨Ho, Hb⟩
  isplitl [Ho]
  · iexact Ho
  ispecialize Hb $$ %(get x)
  rw [H.same]
  iexact Hb

theorem Does.load {s : Shape} {e : EltTy} {m : Memref sig .tc .vmem s e} {get : σ → s.Idx → Elt F e}
    (H : Looks c R m get) (r : Rect s) (hl : m.view.LoadsAt r.toLoadRect) (x : σ) :
    Does 𝒱 c bd E R (Prog.op (.load m r.toLoadRect hl)) x (fun j => get x (r.emb j)) x := by
  intro K Q
  refine (H x).trans ?_
  unfold owns
  iintro ⟨⟨%f, %hf, Hf⟩, Hb⟩ Hk
  iapply (wp_load 𝒱 (c : Thread nD τ) bd E (r := r.toLoadRect) (m.view.setOn_subset_set _)) $$ Hf
  iintro Hf
  have e1 : m.view.readAt (Elt F) r.toLoadRect f = fun j => get x (r.emb j) := by rw [← hf]; rfl
  rw [e1]
  iapply Hk
  iapply Hb
  iexists f
  isplitr
  · ipureintro; exact hf
  iexact Hf

theorem Does.store {s : Shape} {e : EltTy} {m : Memref sig .tc .vmem s e} {get : σ → s.Idx → Elt F e} {set : (s.Idx → Elt F e) → σ → σ}
    (H : Holds c R m get set) (r : Rect s) (w : r.shape.Idx → Elt F e) (hx : (m.access r).Stores Finset.univ)
    (hm : Finset.univ = Finset.univ ∨ ∀ a, r.stride a = 1) (x : σ) :
    Does 𝒱 c bd E R (Prog.op (.store m r w Finset.univ hx hm)) x ⟨⟩ (set (put r w (get x)) x) := by
  intro K Q
  refine (H.acc x).trans ?_
  unfold owns
  iintro ⟨⟨%f, %hf, Hf⟩, Hb⟩ Hk
  iapply (wp_store_writes₀ 𝒱 (c : Thread nD τ) bd E (r := r) (m.view.set_slice_subset r)) $$ Hf
  iintro Hf
  iapply Hk
  iapply Hb
  iexists _
  isplitr
  · ipureintro
    show m.view.read (Elt F) (m.view.writes (Elt F) f [⟨r, w⟩]) = _
    funext y
    by_cases hy : ∃ j, r.emb j = y
    · obtain ⟨j, rfl⟩ := hy
      rw [put_emb, View.read_writes_cons_emb]
    · rw [put_of_not _ _ _ _ (fun j hj => hy ⟨j, hj⟩), View.read_writes_apply_of_forall_not_mem, hf]
      intro p hp
      rw [List.mem_singleton] at hp; subst hp
      intro hm; obtain ⟨j, hj⟩ := r.exists_idx_of_mem hm; exact hy ⟨j, hj⟩
  iexact Hf

theorem Does.seq {α γ : Type} {p : CB F PUnit α} {q : α → CB F PUnit γ} {s s' s'' : σ} {a : α} {b : γ}
    (h : Does 𝒱 c bd E R p s a s') (h' : Does 𝒱 c bd E R (q a) s' b s'') :
    Does 𝒱 c bd E R (seq p q) s b s'' := by
  intro K Q
  iintro Hs Hk
  iapply (h (fun x => q x K) Q) $$ Hs
  iintro Hs
  iapply (h' K Q) $$ Hs
  iexact Hk

theorem Does.ret {α : Type} (a : α) (s : σ) : Does 𝒱 c bd E R (ret a) s a s := by
  intro K Q
  iintro Hs Hk
  iapply Hk
  iexact Hs

theorem Does.conv {α : Type} {p : CB F PUnit α} {s s' s'' : σ} {a b : α} (h : Does 𝒱 c bd E R p s a s') (ha : a = b) (hs : s' = s'') :
    Does 𝒱 c bd E R p s b s'' := ha ▸ hs ▸ h

/-- The state before index `k + n` of a loop whose index `j` turns the state `x` into `u j x`. -/
def runs (u : Nat → σ → σ) (k : Nat) (x : σ) : Nat → σ
  | 0 => x
  | n + 1 => u (k + n) (runs u k x n)

theorem runs_succ' (u : Nat → σ → σ) (k : Nat) (x : σ) : ∀ n, runs u k x (n + 1) = runs u (k + 1) (u k x) n
  | 0 => rfl
  | n + 1 => by
    rw [runs, runs_succ' u k x n, runs]; congr 1; omega

/-- Past the last index the result of `each` repeats: `f (k + min i n)` at the state before it. -/
theorem Does.each {α : Type} {f : Nat → CB F PUnit α} {val : Nat → σ → α} {u : Nat → σ → σ}
    (h : ∀ j x, Does 𝒱 c bd E R (f j) x (val j x) (u j x)) :
    ∀ (n k : Nat) (x : σ), Does 𝒱 c bd E R (each f n k) x (fun i => val (k + min i n) (runs u k x (min i n))) (runs u k x (n + 1))
  | 0, k, x => by
    have := (h k x).seq (q := fun v => Scan.ret fun (_ : Nat) => v) (Does.ret _ _)
    simp only [Nat.min_zero, Nat.add_zero, runs]; exact this
  | n + 1, k, x => by
    have e : (fun i => val (k + min i (n + 1)) (runs u k x (min i (n + 1))))
        = cons (val k x) (fun i => val (k + 1 + min i n) (runs u (k + 1) (u k x) (min i n))) := by
      funext i
      cases i with
      | zero => simp [cons, runs]
      | succ i =>
        show val (k + min (i + 1) (n + 1)) _ = val (k + 1 + min i n) _
        rw [show min (i + 1) (n + 1) = min i n + 1 by omega, runs_succ', show k + (min i n + 1) = k + 1 + min i n by omega]
    rw [e, runs_succ']
    exact (h k x).seq ((Does.each h n (k + 1) (u k x)).seq (Does.ret _ _))

theorem runs_congr {u u' : Nat → σ → σ} {k n : Nat} {x : σ} (h : ∀ j, j < n → ∀ y, u (k + j) y = u' (k + j) y) :
    runs u k x n = runs u' k x n := by
  induction n with
  | zero => rfl
  | succ n ih => rw [runs, runs, ih fun j hj => h j (by omega), h n (by omega)]

end Cert.KernelIdeal.Scan
-- ==== Proof.Scan.Steps.lean ====
module

public import proofs.«01_k».proof.Proof.Scan.Runs

@[expose] public section

noncomputable section

/-!
The structured program's pieces as functions of the buffers they use.
-/

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of a buffer of 64 tiles. -/
abbrev MC (F : FTy → Type) : Type := S64x8x128.Idx → Elt F .f32
/-- The contents of a step's expanded operands. -/
abbrev EC (F : FTy → Type) : Type := S6x64x128.Idx → Elt F .f32

/-- Tile `n` of the contents. -/
def tl (G : MC F) (n : Nat) (h : n < 64) : Vec F S1x8x128 .f32 := fun j => G ((tileR n h).emb j)
/-- Row `g` of tile `t` of the contents. -/
def rw1 (G : MC F) (t : Nat) (h : t < 64) (g : Nat) : Vec F S1x1x128 .f32 := fun j => G ((rowR t h g).emb j)
/-- Rows `8 g …` of plane `m`. -/
def pl (E : EC F) (m g : Nat) : Vec F S1x8x128 .f32 := fun j => E ((planeR m g).emb j)
/-- Row `ih` of the last plane. -/
def dyr (E : EC F) (ih : Nat) : Vec F S1x1x128 .f32 := fun j => E ((lastR ih).emb j)

/-- Tile `8 jh + ih` replaced by `f` of it. -/
def updF (jh ih : Nat) (f : FVec F S8x128 .f32 → FVec F S8x128 .f32) (G : MC F) : MC F :=
  put (tileR (8 * (jh % 8) + ih % 8) (tile_lt jh ih)) (unsq (f (sq (tl G _ (tile_lt jh ih))))) G

/-- The first `n` tiles of column block `jh` replaced. -/
def sweepRow (f : Nat → Nat → FVec F S8x128 .f32 → FVec F S8x128 .f32) (jh : Nat) (G : MC F) (n : Nat) : MC F :=
  runs (fun ih G => updF jh ih (f jh ih) G) 0 G n

/-- The tiles of the first `n` column blocks replaced. -/
def sweepN (f : Nat → Nat → FVec F S8x128 .f32 → FVec F S8x128 .f32) (G : MC F) (n : Nat) : MC F :=
  runs (fun jh G => sweepRow f jh G 8) 0 G n

theorem sweepRow_succ (f : Nat → Nat → FVec F S8x128 .f32 → FVec F S8x128 .f32) (jh : Nat) (G : MC F) (n : Nat) :
    sweepRow f jh G (n + 1) = updF jh n (f jh n) (sweepRow f jh G n) := by
  unfold sweepRow; rw [runs, Nat.zero_add]

theorem sweepN_succ (f : Nat → Nat → FVec F S8x128 .f32 → FVec F S8x128 .f32) (G : MC F) (n : Nat) :
    sweepN f G (n + 1) = sweepRow f n (sweepN f G n) 8 := by
  unfold sweepN; rw [runs, Nat.zero_add]

theorem tl_congr (G : MC F) {n n' : Nat} (h : n < 64) (h' : n' < 64) (e : n = n') : tl G n h = tl G n' h' := by subst e; rfl

theorem tileR_emb_ne {n n' : Nat} {h : n < 64} {h' : n' < 64} (hn : n ≠ n') (x : (tileR n h).shape.Idx) (j : (tileR n' h').shape.Idx) :
    (tileR n h).emb x ≠ (tileR n' h').emb j := by
  intro e
  have := congrArg (fun y => (y 0).val) e
  have a := (x 0).isLt
  have b := (j 0).isLt
  have ha : (x 0).val = 0 := by change (x 0).val < 1 at a; omega
  have hb : (j 0).val = 0 := by change (j 0).val < 1 at b; omega
  simp [Rect.emb_apply, ha, hb] at this
  exact hn this

theorem tl_updF_same (jh ih : Nat) (f : FVec F S8x128 .f32 → FVec F S8x128 .f32) (G : MC F) :
    tl (updF jh ih f G) (8 * (jh % 8) + ih % 8) (tile_lt jh ih) = unsq (f (sq (tl G _ (tile_lt jh ih)))) := by
  funext j; exact put_emb (tileR _ (tile_lt jh ih)) _ _ j

theorem tl_updF_ne (jh ih : Nat) (f : FVec F S8x128 .f32 → FVec F S8x128 .f32) (G : MC F) (n : Nat) (h : n < 64)
    (hn : n ≠ 8 * (jh % 8) + ih % 8) : tl (updF jh ih f G) n h = tl G n h := by
  funext j; exact put_of_not _ _ _ _ fun x => tileR_emb_ne (Ne.symm hn) x j

theorem tl_sweepRow (f : Nat → Nat → FVec F S8x128 .f32 → FVec F S8x128 .f32) (jh : Nat) (G : MC F) (hj : jh < 8) (n : Nat) (h : n < 64) :
    ∀ N, N ≤ 8 → tl (sweepRow f jh G N) n h = if n / 8 = jh ∧ n % 8 < N then unsq (f jh (n % 8) (sq (tl G n h))) else tl G n h
  | 0, _ => by rw [if_neg (by omega)]; rfl
  | N + 1, hN => by
    have ih := tl_sweepRow f jh G hj n h N (by omega)
    rw [sweepRow_succ]
    by_cases e : n = 8 * (jh % 8) + N % 8
    · have e1 : n / 8 = jh ∧ n % 8 < N + 1 := by omega
      have e2 : n % 8 = N := by omega
      rw [if_pos e1, e2]
      rw [if_neg (by omega)] at ih
      rw [← ih]
      subst e
      exact tl_updF_same _ _ _ _
    · rw [tl_updF_ne _ _ _ _ _ _ e, ih]
      by_cases e3 : n / 8 = jh ∧ n % 8 < N
      · rw [if_pos e3, if_pos (by omega)]
      · rw [if_neg e3, if_neg (by omega)]

theorem tl_sweepN (f : Nat → Nat → FVec F S8x128 .f32 → FVec F S8x128 .f32) (G : MC F) (n : Nat) (h : n < 64) :
    ∀ N, N ≤ 8 → tl (sweepN f G N) n h = if n / 8 < N then unsq (f (n / 8) (n % 8) (sq (tl G n h))) else tl G n h
  | 0, _ => by rw [if_neg (by omega)]; rfl
  | N + 1, hN => by
    have ih := tl_sweepN f G n h N (by omega)
    rw [sweepN_succ, tl_sweepRow f N _ (by omega) n h 8 (by omega), ih]
    by_cases e : n / 8 = N
    · rw [if_pos (by omega), if_neg (by omega), if_pos (by omega), e]
    · rw [if_neg (by omega)]
      by_cases e3 : n / 8 < N
      · rw [if_pos e3, if_pos (by omega)]
      · rw [if_neg e3, if_neg (by omega)]

variable {𝒱 : Variants} {c : Dev nD} {bd : Option 𝒱.V} {E : Set ℕ} {σ : Type} {R : σ → SP F}

theorem Does.ldTile {m : MB} {get : σ → MC F} (L : Looks c R m get) (t : Nat) (h : t < 64) (x : σ) :
    Does 𝒱 c bd E R (ldTile m t h) x (tl (get x) t h) x := Does.load L _ _ x

theorem Does.ldRow {m : MB} {get : σ → MC F} (L : Looks c R m get) (t : Nat) (h : t < 64) (g : Nat) (x : σ) :
    Does 𝒱 c bd E R (ldRow m t h g) x (rw1 (get x) t h g) x := Does.load L _ _ x

theorem Does.ldPlane {m : ME} {get : σ → EC F} (L : Looks c R m get) (k g : Nat) (x : σ) :
    Does 𝒱 c bd E R (ldPlane m k g) x (pl (get x) k g) x := Does.load L _ _ x

theorem Does.ldLast {m : ME} {get : σ → EC F} (L : Looks c R m get) (ih : Nat) (x : σ) :
    Does 𝒱 c bd E R (ldLast m ih) x (dyr (get x) ih) x := Does.load L _ _ x

/-- The state is the one buffer's contents (and whatever stays). -/
abbrev Sole (c : Dev nD) {s : Shape} {e : EltTy} (R : (s.Idx → Elt F e) → SP F) (m : Memref sig .tc .vmem s e) : Prop :=
  Holds c R m (fun G => G) fun G _ => G

theorem Does.upd {R : MC F → SP F} {g : MB} (H : Sole c R g) (jh ih : Nat) (f : FVec F S8x128 .f32 → FVec F S8x128 .f32) (G : MC F) :
    Does 𝒱 c bd E R (upd g jh ih f) G (f (sq (tl G _ (tile_lt jh ih)))) (updF jh ih f G) :=
  (Does.ldTile H.looks _ _ G).seq ((Does.ldTile H.looks _ _ G).seq ((Does.store H (tileR _ (tile_lt jh ih)) _ _ _ G).seq (Does.ret _ _)))

theorem Does.sweep {A : Type} {R : MC F → SP F} {g : MB} (H : Sole c R g) {ld : Nat → CB F PUnit A} {lv : Nat → A}
    (hld : ∀ jh G, Does 𝒱 c bd E R (ld jh) G (lv jh) G) (f : A → Nat → FVec F S8x128 .f32 → FVec F S8x128 .f32) (G : MC F) :
    Does 𝒱 c bd E R (sweep g ld f) G
      (fun jh => (lv (min jh 7), fun ih => f (lv (min jh 7)) (min ih 7) (sq (tl G (8 * (min jh 7 % 8) + min ih 7 % 8) (tile_lt _ _)))))
      (sweepN (fun jh => f (lv jh)) G 8) := by
  refine (Does.each (val := fun jh G => (lv jh, fun ih => f (lv jh) (0 + min ih 7) (sq (tl (sweepRow (fun jh => f (lv jh)) jh G (min ih 7)) _ (tile_lt jh (0 + min ih 7))))))
    (u := fun jh G => sweepRow (fun jh => f (lv jh)) jh G 8) (fun jh G => ?_) 7 0 G).conv ?_ rfl
  · exact (hld jh G).seq ((Does.each (fun ih G => Does.upd H jh ih (f (lv jh) ih) G) 7 0 G).seq (Does.ret _ _))
  · funext jh
    simp only [Nat.zero_add]
    refine Prod.ext rfl (funext fun ih => ?_)
    show f _ _ (sq (tl (sweepRow _ (min jh 7) (sweepN _ G (min jh 7)) (min ih 7)) _ _)) = _
    rw [tl_sweepRow _ _ _ (by omega) _ _ _ (by omega), if_neg (by omega), tl_sweepN _ _ _ _ _ (by omega), if_neg (by omega)]
    exact congrArg (fun v => f (lv (min jh 7)) (min ih 7) (sq v)) (tl_congr G _ _ (by omega))

/-- Row `g` of the six planes written: a row of operand `m` gathered. -/
def expandF (X : Nat → MC F) (Y : MC F) (idx : IVec S8x128 32) (t : Nat) (h : t < 64) (E : EC F) : EC F :=
  put (planeR 5 0) (tileOf (tl Y t h)) (runs (fun m E => runs (fun g E => put (planeR m g) (gath idx (rw1 (X m) t h g)) E) 0 E 8) 0 E 5)

theorem Does.expand {R : EC F → SP F} {x : Nat → MB} {y : MB} {X : Nat → MC F} {Y : MC F} {e : ME} (Hx : ∀ m, Looks c R (x m) fun _ => X m)
    (Hy : Looks c R y fun _ => Y) (H : Sole c R e) (idx : IVec S8x128 32) (t : Nat) (h : t < 64) (G : EC F) :
    Does 𝒱 c bd E R (expand x y e idx t h) G ⟨⟩ (expandF X Y idx t h G) :=
  (Does.each (u := fun m E => runs (fun g E => put (planeR m g) (gath idx (rw1 (X m) t h g)) E) 0 E 8) (val := fun _ _ _ => PUnit.unit)
    (fun m G => Does.each (u := fun g E => put (planeR m g) (gath idx (rw1 (X m) t h g)) E) (val := fun _ _ => PUnit.unit)
      (fun g G => (Does.ldRow (Hx m) t h g G).seq ((Does.ldPlane H.looks m g G).seq (Does.store H (planeR m g) _ _ _ G))) 7 0 G) 4 0 G).seq
  ((Does.ldTile Hy t h _).seq ((Does.ldPlane H.looks 5 0 _).seq (Does.store H (planeR 5 0) _ _ _ _)))

attribute [irreducible] sweepN expandF

end Cert.KernelIdeal.Scan
-- ==== Proof.Scan.Walk.lean ====
module

public import proofs.«01_k».proof.Proof.Scan.Steps

@[expose] public section

noncomputable section

/-!
A step, a trip, the loop and the results' new layout, as functions of the buffers.
-/

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the body changes: the two results' blocks, the carried state, the two expansions. -/
structure St (F : FTy → Type) where
  dsa : MC F
  dv : MC F
  g : MC F
  e0 : EC F
  e1 : EC F

theorem St.congr {d d' v v' g g' : MC F} {e0 e1 : EC F} (hd : d = d') (hv : v = v') (hg : g = g') :
    St.mk d v g e0 e1 = St.mk d' v' g' e0 e1 := by rw [hd, hv, hg]

/-- The new state tile `8 jh + ih` after the output's share: `g + r dy`, from the expanded operands `P` and the row `dy`. -/
def news (P : Nat → Nat → Vec F S1x8x128 .f32) (dy : Nat → Vec F S1x1x128 .f32) (G : MC F) (jh ih : Nat) : FVec F S8x128 .f32 :=
  addf (sq (tl G (8 * (jh % 8) + ih % 8) (tile_lt jh ih))) (mulf (sq (P 4 jh)) (bc (dy ih)))

/-- Row `ih` of the sums over `j` of the new state times operand `m`. -/
def gradRow (P : Nat → Nat → Vec F S1x8x128 .f32) (dy : Nat → Vec F S1x1x128 .f32) (G : MC F) (m ih : Nat) : FVec F S1x128 .f32 :=
  sums (fun jh => news P dy G jh ih) (P m)

/-- The state after a step. -/
def stepG (P : Nat → Nat → Vec F S1x8x128 .f32) (dy : Nat → Vec F S1x1x128 .f32) (G : MC F) : MC F :=
  sweepN (fun jh ih v => addf (mulf v (sq (P 1 jh))) (mulf (sq (P 0 jh)) (bc1 (gradRow P dy G 2 ih))))
    (sweepN (fun jh ih v => addf v (mulf (sq (P 4 jh)) (bc (dy ih)))) G 8) 8

/-- Rows 0 … 7 of tile `t` written. -/
def rowsF (t : Nat) (h : t < 64) (w : Nat → FVec F S1x128 .f32) (D : MC F) (n : Nat) : MC F :=
  runs (fun ih D => put (rowR t h ih) (shapeCast S1x1x128 (w ih) shapeCasts_S1x128_S1x1x128) D) 0 D n

theorem sumUp_congr {f g : Nat → FVec F S8x128 .f32} : ∀ n, (∀ j, j ≤ n → f j = g j) → sumUp f n = sumUp g n
  | 0, h => h 0 (Nat.le_refl _)
  | n + 1, h => by rw [sumUp, sumUp, sumUp_congr n fun j hj => h j (by omega), h _ (Nat.le_refl _)]

theorem sweepN_congr {f f' : Nat → Nat → FVec F S8x128 .f32 → FVec F S8x128 .f32} {G : MC F}
    (h : ∀ jh ih, jh < 8 → ih < 8 → f jh ih = f' jh ih) : sweepN f G 8 = sweepN f' G 8 := by
  unfold sweepN
  refine runs_congr fun jh hj y => ?_
  unfold sweepRow
  exact runs_congr fun ih hi z => by rw [Nat.zero_add, Nat.zero_add, h jh ih hj hi]

theorem rowsF_congr {t : Nat} {h : t < 64} {w w' : Nat → FVec F S1x128 .f32} {D : MC F} (e : ∀ ih, ih < 8 → w ih = w' ih) :
    rowsF t h w D 8 = rowsF t h w' D 8 :=
  runs_congr fun ih hi y => by rw [Nat.zero_add, e ih hi]

variable {𝒱 : Variants} {c : Dev nD} {bd : Option 𝒱.V} {E : Set ℕ}

/-- The body's buffers: the operands `x`, `y` with contents `X`, `Y`, and the five the state names. -/
structure Bufs (c : Dev nD) (R : St F → SP F) (x : Nat → MB) (y : MB) (X : Nat → MC F) (Y : MC F) (dsa dv g : MB) (e0 e1 : ME) : Prop where
  x : ∀ m, Looks c R (x m) fun _ => X m
  y : Looks c R y fun _ => Y
  dsa : Holds c R dsa St.dsa fun G s => { s with dsa := G }
  dv : Holds c R dv St.dv fun G s => { s with dv := G }
  g : Holds c R g St.g fun G s => { s with g := G }
  e0 : Holds c R e0 St.e0 fun G s => { s with e0 := G }
  e1 : Holds c R e1 St.e1 fun G s => { s with e1 := G }

section
variable {R : St F → SP F} {x : Nat → MB} {y : MB} {X : Nat → MC F} {Y : MC F} {dsa dv g : MB} {e0 e1 : ME}

theorem Bufs.soleG (B : Bufs c R x y X Y dsa dv g e0 e1) (s : St F) : Sole c (fun G => R { s with g := G }) g :=
  ⟨fun G => B.g.acc { s with g := G }, fun _ => rfl⟩

theorem Bufs.soleE0 (B : Bufs c R x y X Y dsa dv g e0 e1) (s : St F) : Sole c (fun G => R { s with e0 := G }) e0 :=
  ⟨fun G => B.e0.acc { s with e0 := G }, fun _ => rfl⟩

theorem Bufs.soleE1 (B : Bufs c R x y X Y dsa dv g e0 e1) (s : St F) : Sole c (fun G => R { s with e1 := G }) e1 :=
  ⟨fun G => B.e1.acc { s with e1 := G }, fun _ => rfl⟩

theorem Bufs.soleDsa (B : Bufs c R x y X Y dsa dv g e0 e1) (s : St F) : Sole c (fun G => R { s with dsa := G }) dsa :=
  ⟨fun G => B.dsa.acc { s with dsa := G }, fun _ => rfl⟩

theorem Bufs.soleDv (B : Bufs c R x y X Y dsa dv g e0 e1) (s : St F) : Sole c (fun G => R { s with dv := G }) dv :=
  ⟨fun G => B.dv.acc { s with dv := G }, fun _ => rfl⟩

theorem Does.putRow {σ : Type} {R : σ → SP F} {m : MB} {get : σ → MC F} {set : MC F → σ → σ} (H : Holds c R m get set)
    (t : Nat) (h : t < 64) (ih : Nat) (w : FVec F S1x128 .f32) (s : σ) :
    Does 𝒱 c bd E R (putRow m t h ih w) s ⟨⟩ (set (put (rowR t h ih) (shapeCast S1x1x128 w shapeCasts_S1x128_S1x1x128) (get s)) s) :=
  (Does.ldRow H.looks t h ih s).seq (Does.store H (rowR t h ih) _ _ _ s)

theorem runs_rows (t : Nat) (h : t < 64) (w w' : Nat → FVec F S1x128 .f32) (s : St F) : ∀ n,
    runs (fun ih (s : St F) => { s with
      dsa := put (rowR t h ih) (shapeCast S1x1x128 (w ih) shapeCasts_S1x128_S1x1x128) s.dsa
      dv := put (rowR t h ih) (shapeCast S1x1x128 (w' ih) shapeCasts_S1x128_S1x1x128) s.dv }) 0 s n
      = { s with dsa := rowsF t h w s.dsa n, dv := rowsF t h w' s.dv n }
  | 0 => rfl
  | n + 1 => by rw [runs, runs_rows t h w w' s n]; rfl

/-- A statement about a part of the state is one about the state. -/
theorem Does.via {σ' σ α : Type} {R : σ → SP F} (ι : σ' → σ) {p : CB F PUnit α} {y y' : σ'} {a : α}
    (h : Does 𝒱 c bd E (fun y => R (ι y)) p y a y') : Does 𝒱 c bd E R p (ι y) a (ι y') := fun K Q => h K Q

/-- The eight rows of the last plane read. -/
theorem Does.rows {σ : Type} {R : σ → SP F} {e : ME} {get : σ → EC F} (He : Looks c R e get) (s : σ) :
    Does 𝒱 c bd E R (Scan.each (fun ih => Scan.ldLast e ih) 7 0) s (fun i => dyr (get s) (min i 7)) s := by
  have r : ∀ n, runs (fun _ (s : σ) => s) 0 s n = s := fun n => by
    induction n with
    | zero => rfl
    | succ n ih => rw [runs, ih]
  refine (Does.each (val := fun j s => dyr (get s) j) (u := fun _ s => s) (fun j s => Does.ldLast He j s) 7 0 s).conv ?_ (r 8)
  funext i
  simp only [r, Nat.zero_add]

/-- The first sweep of a step. -/
theorem Does.sweep3 (B : Bufs c R x y X Y dsa dv g e0 e1) {e : ME} (s : St F) (C : EC F)
    (He : Looks c (fun G => R { s with g := G }) e fun _ => C) (dy : Nat → Vec F S1x1x128 .f32) :
    Does 𝒱 c bd E R (Scan.sweep g (ld3 e) fun a ih v => addf v (mulf (sq a.2.2) (bc (dy ih)))) s
      (fun jh => ((pl C 2 (min jh 7), pl C 3 (min jh 7), pl C 4 (min jh 7)),
        fun ih => addf (sq (tl s.g (8 * (min jh 7 % 8) + min ih 7 % 8) (tile_lt _ _))) (mulf (sq (pl C 4 (min jh 7))) (bc (dy (min ih 7))))))
      { s with g := sweepN (fun jh ih v => addf v (mulf (sq (pl C 4 jh)) (bc (dy ih)))) s.g 8 } :=
  Does.via (R := R) (fun G => { s with g := G }) (Does.sweep (B.soleG s) (lv := fun jh => (pl C 2 jh, pl C 3 jh, pl C 4 jh))
    (fun jh G => (Does.ldPlane He 2 jh G).seq ((Does.ldPlane He 3 jh G).seq ((Does.ldPlane He 4 jh G).seq (Does.ret (pl C 2 jh, pl C 3 jh, pl C 4 jh) _)))) _ s.g)

/-- The second sweep of a step. -/
theorem Does.sweep2 (B : Bufs c R x y X Y dsa dv g e0 e1) {e : ME} (s : St F) (C : EC F)
    (He : Looks c (fun G => R { s with g := G }) e fun _ => C) (q : Nat → FVec F S8x128 .f32) :
    ∃ a, Does 𝒱 c bd E R (Scan.sweep g (ld2 e) fun a ih v => addf (mulf v (sq a.2)) (mulf (sq a.1) (q ih))) s a
      { s with g := sweepN (fun jh ih v => addf (mulf v (sq (pl C 1 jh))) (mulf (sq (pl C 0 jh)) (q ih))) s.g 8 } :=
  ⟨_, Does.via (R := R) (fun G => { s with g := G }) (Does.sweep (B.soleG s) (lv := fun jh => (pl C 0 jh, pl C 1 jh))
    (fun jh G => (Does.ldPlane He 0 jh G).seq ((Does.ldPlane He 1 jh G).seq (Does.ret (pl C 0 jh, pl C 1 jh) _))) _ s.g)⟩

/-- The rows of sums stored. -/
theorem Does.putRows (B : Bufs c R x y X Y dsa dv g e0 e1) (t : Nat) (h : t < 64) (s : St F) (w w' : Nat → FVec F S1x128 .f32) :
    Does 𝒱 c bd E R (Scan.each (fun ih => Scan.seq (Scan.putRow dsa t h ih (w ih)) fun _ => Scan.putRow dv t h ih (w' ih)) 7 0) s (fun _ => PUnit.unit)
      { s with dsa := rowsF t h w s.dsa 8, dv := rowsF t h w' s.dv 8 } :=
  (Does.each (val := fun _ _ => PUnit.unit) (fun ih s => (Does.putRow B.dsa t h ih (w ih) s).seq (Does.putRow B.dv t h ih (w' ih) _)) 7 0 s).conv rfl
    (runs_rows t h w w' s 8)

theorem sums_min (P : Nat → Nat → Vec F S1x8x128 .f32) (dy : Nat → Vec F S1x1x128 .f32) (G : MC F) (m ih : Nat) (hi : ih < 8) :
    sums (fun jh => addf (sq (tl G (8 * (min jh 7 % 8) + min ih 7 % 8) (tile_lt _ _))) (mulf (sq (P 4 (min jh 7))) (bc (dy (min (min ih 7) 7)))))
      (fun jh => P m (min jh 7)) = gradRow P dy G m ih := by
  unfold gradRow sums news
  refine congrArg rsum (sumUp_congr 7 fun jh hj => ?_)
  have e1 : min jh 7 = jh := Nat.min_eq_left hj
  have e2 : min ih 7 = ih := Nat.min_eq_left (by omega)
  beta_reduce
  rw [tl_congr G (tile_lt (min jh 7) (min ih 7)) (tile_lt jh ih) (by rw [e1, e2]), e1, e2, e2]

attribute [irreducible] rowsF gradRow
attribute [local irreducible] sums

/-- A step from the expansion `e`. -/
theorem Does.step (B : Bufs c R x y X Y dsa dv g e0 e1) {e : ME} {get : St F → EC F} (He : Looks c R e get)
    (hget : ∀ (s : St F) d v G, get { s with dsa := d, dv := v, g := G } = get s) (t : Nat) (h : t < 64) (s : St F) :
    Does 𝒱 c bd E R (step dsa dv g e t h) s ⟨⟩ { s with
      g := stepG (pl (get s)) (dyr (get s)) s.g
      dsa := rowsF t h (gradRow (pl (get s)) (dyr (get s)) s.g 2) s.dsa 8
      dv := rowsF t h (gradRow (pl (get s)) (dyr (get s)) s.g 3) s.dv 8 } := by
  have LE : ∀ (s' : St F) (d v : MC F), s' = { s with dsa := d, dv := v, g := s'.g } → Looks c (fun G => R { s' with g := G }) e fun _ => get s := fun s' d v e' G => by
    have h1 := He { s' with g := G }
    have h2 : get { s' with g := G } = get s := by rw [e']; exact hget s d v G
    rw [h2] at h1
    exact h1
  refine (Does.rows He s).seq ?_
  refine (Does.sweep3 B s (get s) (LE s s.dsa s.dv rfl) fun i => dyr (get s) (min i 7)).seq ?_
  refine (Does.putRows B t h _ _ _).seq ?_
  generalize hC : get s = C at LE ⊢
  obtain ⟨a, h2⟩ := Does.sweep2 (𝒱 := 𝒱) (bd := bd) (E := E) B { s with
      dsa := rowsF t h (fun ih => sums (fun jh => addf (sq (tl s.g (8 * (min jh 7 % 8) + min ih 7 % 8) (tile_lt _ _))) (mulf (sq (pl C 4 (min jh 7))) (bc (dyr C (min (min ih 7) 7))))) (fun jh => pl C 2 (min jh 7))) s.dsa 8
      dv := rowsF t h (fun ih => sums (fun jh => addf (sq (tl s.g (8 * (min jh 7 % 8) + min ih 7 % 8) (tile_lt _ _))) (mulf (sq (pl C 4 (min jh 7))) (bc (dyr C (min (min ih 7) 7))))) (fun jh => pl C 3 (min jh 7))) s.dv 8
      g := sweepN (fun jh ih v => addf v (mulf (sq (pl C 4 jh)) (bc (dyr C (min ih 7))))) s.g 8 } C (LE _ _ _ rfl)
    fun ih => bc1 (sums (fun jh => addf (sq (tl s.g (8 * (min jh 7 % 8) + min ih 7 % 8) (tile_lt _ _))) (mulf (sq (pl C 4 (min jh 7))) (bc (dyr C (min (min ih 7) 7))))) (fun jh => pl C 2 (min jh 7)))
  refine (Does.seq h2 (Does.ret PUnit.unit _)).conv rfl ?_
  have ea := rowsF_congr (t := t) (h := h) (D := s.dsa) fun ih hi => sums_min (pl C) (dyr C) s.g 2 ih hi
  have eb := rowsF_congr (t := t) (h := h) (D := s.dv) fun ih hi => sums_min (pl C) (dyr C) s.g 3 ih hi
  have eg : sweepN (fun jh ih v => addf v (mulf (sq (pl C 4 jh)) (bc (dyr C (min ih 7))))) s.g 8
      = sweepN (fun jh ih v => addf v (mulf (sq (pl C 4 jh)) (bc (dyr C ih)))) s.g 8 :=
    sweepN_congr fun jh ih hj hi => by rw [Nat.min_eq_left (by omega : ih ≤ 7)]
  refine St.congr ea eb ?_
  refine Eq.trans ?_ (congrArg (fun G => sweepN (fun jh ih v => addf (mulf v (sq (pl C 1 jh))) (mulf (sq (pl C 0 jh)) (bc1 (gradRow (pl C) (dyr C) s.g 2 ih)))) G 8) eg)
  refine sweepN_congr fun jh ih hj hi => ?_
  funext v
  exact congrArg (fun r => addf (mulf v (sq (pl C 1 jh))) (mulf (sq (pl C 0 jh)) (bc1 r))) (sums_min (pl C) (dyr C) s.g 2 ih hi)

attribute [irreducible] stepG

/-- The state after a step at tile `t` from the expanded operands `C`. -/
def stepSt (C : EC F) (t : Nat) (h : t < 64) (s : St F) : St F := { s with
  g := stepG (pl C) (dyr C) s.g
  dsa := rowsF t h (gradRow (pl C) (dyr C) s.g 2) s.dsa 8
  dv := rowsF t h (gradRow (pl C) (dyr C) s.g 3) s.dv 8 }

/-- The state with `e0` the expansion of tile `t`. -/
def exp0 (X : Nat → MC F) (Y : MC F) (t : Nat) (h : t < 64) (s : St F) : St F := { s with e0 := expandF X Y k0_pay966 t h s.e0 }
/-- The state with `e1` the expansion of tile `t`. -/
def exp1 (X : Nat → MC F) (Y : MC F) (t : Nat) (h : t < 64) (s : St F) : St F := { s with e1 := expandF X Y k0_pay966 t h s.e1 }

/-- The state after a trip whose steps are at the tiles `b` and `a`; `d` is the tile expanded ahead. -/
def tripAt (X : Nat → MC F) (Y : MC F) (a b d : Nat) (ha : a < 64) (hb : b < 64) (hd : d < 64) (s : St F) : St F :=
  stepSt (exp0 X Y d hd (stepSt (exp1 X Y a ha s).e0 b hb (exp1 X Y a ha s))).e1 a ha
    (exp0 X Y d hd (stepSt (exp1 X Y a ha s).e0 b hb (exp1 X Y a ha s)))

theorem tripAt_eq (X : Nat → MC F) (Y : MC F) {a b d a' b' d' : Nat} (ha : a < 64) (hb : b < 64) (hd : d < 64) (ha' : a' < 64) (hb' : b' < 64) (hd' : d' < 64)
    (ea : a = a') (eb : b = b') (ed : d = d') (s : St F) : tripAt X Y a b d ha hb hd s = tripAt X Y a' b' d' ha' hb' hd' s := by
  subst ea eb ed; rfl

/-- The state after trip `k`. -/
def tripF (X : Nat → MC F) (Y : MC F) (k : Nat) (s : St F) : St F :=
  tripAt X Y (62 - 2 * k) (63 - 2 * k) (61 - 2 * k) (by omega) (by omega) (by omega) s

theorem Does.stepSt (B : Bufs c R x y X Y dsa dv g e0 e1) {e : ME} {get : St F → EC F} (He : Looks c R e get)
    (hget : ∀ (s : St F) d v G, get { s with dsa := d, dv := v, g := G } = get s) (t : Nat) (h : t < 64) (s : St F) :
    Does 𝒱 c bd E R (Scan.step dsa dv g e t h) s ⟨⟩ (stepSt (get s) t h s) := Does.step B He hget t h s

theorem Does.exp0 (B : Bufs c R x y X Y dsa dv g e0 e1) (t : Nat) (h : t < 64) (s : St F) :
    Does 𝒱 c bd E R (Scan.expand x y e0 k0_pay966 t h) s ⟨⟩ (exp0 X Y t h s) :=
  Does.via (R := R) (fun G => { s with e0 := G }) (Does.expand (fun m G => B.x m _) (fun G => B.y _) (B.soleE0 s) k0_pay966 t h s.e0)

theorem Does.exp1 (B : Bufs c R x y X Y dsa dv g e0 e1) (t : Nat) (h : t < 64) (s : St F) :
    Does 𝒱 c bd E R (Scan.expand x y e1 k0_pay966 t h) s ⟨⟩ (exp1 X Y t h s) :=
  Does.via (R := R) (fun G => { s with e1 := G }) (Does.expand (fun m G => B.x m _) (fun G => B.y _) (B.soleE1 s) k0_pay966 t h s.e1)

attribute [local irreducible] Scan.stepSt Scan.exp0 Scan.exp1

/-- A trip. -/
theorem Does.trip (B : Bufs c R x y X Y dsa dv g e0 e1) (k : Fin k0_t1_loop.trips) (s : St F) :
    Does 𝒱 c bd E R (Scan.trip x y dsa dv g e0 e1 k0_pay966 k) s ⟨⟩ (tripF X Y k.val s) := by
  have hk := tk_val k
  generalize ha : (Scalar.indexCast (Scalar.subi (tk k) 1#32)).toNat = a at hk
  generalize hb : (Scalar.indexCast (tk k)).toNat = b at hk
  generalize hd : (Scalar.indexCast (Scalar.maxsi (Scalar.subi (tk k) 2#32) 0#32)).toNat = d at hk
  have la : a < 64 := by omega
  have lb : b < 64 := by omega
  have ld : d < 64 := by omega
  have p1 := Does.exp1 (𝒱 := 𝒱) (bd := bd) (E := E) B a la s
  have p2 := Does.stepSt (𝒱 := 𝒱) (bd := bd) (E := E) B B.e0.looks (fun _ _ _ _ => rfl) b lb (Scan.exp1 X Y a la s)
  have p3 := Does.exp0 (𝒱 := 𝒱) (bd := bd) (E := E) B d ld (Scan.stepSt (Scan.exp1 X Y a la s).e0 b lb (Scan.exp1 X Y a la s))
  have p4 := Does.stepSt (𝒱 := 𝒱) (bd := bd) (E := E) B B.e1.looks (fun _ _ _ _ => rfl) a la (Scan.exp0 X Y d ld (Scan.stepSt (Scan.exp1 X Y a la s).e0 b lb (Scan.exp1 X Y a la s)))
  have q3 := Does.seq (q := fun _ => Scan.step dsa dv g e1 a la) p3 p4
  have q2 := Does.seq (q := fun _ => Scan.seq (Scan.expand x y e0 k0_pay966 d ld) fun _ => Scan.step dsa dv g e1 a la) p2 q3
  have q1 := Does.seq (q := fun _ => Scan.seq (Scan.step dsa dv g e0 b lb) fun _ => Scan.seq (Scan.expand x y e0 k0_pay966 d ld) fun _ => Scan.step dsa dv g e1 a la) p1 q2
  have p := q1.conv rfl (tripAt_eq X Y la lb ld (by omega) (by omega) (by omega) hk.2.1 hk.1 hk.2.2 s)
  subst ha hb hd
  exact p

/-- The loop. -/
theorem Does.loop (B : Bufs c R x y X Y dsa dv g e0 e1) (s : St F) :
    Does 𝒱 c bd E R (fun K => Prog.bind (Scf.Loop.for k0_t1_loop k0_t1_ok PUnit.unit fun k _ => Scan.trip x y dsa dv g e0 e1 k0_pay966 k .ret) K)
      s ⟨⟩ (runs (tripF X Y) 0 s 32) := by
  intro K Q
  have ht : k0_t1_loop.trips = 32 := by decide +kernel
  have h := Scf.wp_for_bind frame (wpE (defs₀ (F := F)) 𝒱 (c : Thread nD τ) bd) E k0_t1_loop.lb k0_t1_loop.ub k0_t1_loop.st k0_t1_ok PUnit.unit
    (fun k _ => Scan.trip (F := F) x y dsa dv g e0 e1 k0_pay966 k .ret) (fun n _ => R (runs (tripF X Y) 0 s n)) (fun k _ => by
      have h1 := Does.trip (𝒱 := 𝒱) (bd := bd) (E := E) B k (runs (tripF X Y) 0 s k.val) .ret (fun _ => R (runs (tripF X Y) 0 s (k.val + 1)))
      have e : tripF X Y k.val (runs (tripF X Y) 0 s k.val) = runs (tripF X Y) 0 s (k.val + 1) := by rw [runs, Nat.zero_add]
      rw [e] at h1
      iintro H
      iapply h1 $$ H
      iintro H
      rw [wp_ret]
      imodintro
      iexact H) (kk := K) (Q := Q)
  refine h.trans ?_
  iintro H Hk
  iapply H
  iintro %acc HR
  iapply Hk
  have e2 : Scf.trips k0_t1_loop.lb k0_t1_loop.ub k0_t1_loop.st = 32 := ht
  rw [e2]
  iexact HR

/-- The first `n` tiles laid out anew. -/
def relayF (D : MC F) (n : Nat) : MC F :=
  runs (fun t D => put (tileR (t % 64) (Nat.mod_lt _ (by decide))) (permOf (tl D (t % 64) (Nat.mod_lt _ (by decide)))) D) 0 D n

theorem Does.relay {R : MC F → SP F} {m : MB} (H : Sole c R m) (D : MC F) :
    Does 𝒱 c bd E R (Scan.each (Scan.relay m) 63 0) D (fun _ => PUnit.unit) (relayF D 64) :=
  Does.each (val := fun _ _ => PUnit.unit) (fun t D => (Does.ldTile H.looks _ _ D).seq ((Does.ldTile H.looks _ _ D).seq (Does.store H _ _ _ _ D))) 63 0 D

attribute [irreducible] relayF

/-- The carried state as the first step finds it. -/
def startF (i : grid0.Coords) (G : MC F) : MC F :=
  if Scalar.cmpi .ne (Scalar.extui (Scalar.cmpi .eq (BitVec.ofNat 32 (i 0).val) 0#32) : BitVec 32) 0#32 = 1#1 then
    put (Rect.unit (s := S64x8x128) ![0, 0, 0] S64x8x128.size inb_S64x8x128_S64x8x128_0_0_0) (k0_pay965 (F := F)) G
  else G

theorem Does.start {R : MC F → SP F} (H : Sole c R g) (i : grid0.Coords) (G : MC F) :
    Does 𝒱 c bd E R (fun K => Prog.bind (Scan.start i g) K) G ⟨⟩ (startF i G) := by
  intro K Q
  unfold Scan.start startF
  split
  · exact ((Does.load H.looks _ _ G).seq (q := fun _ => Prog.op _) (Does.store H (Rect.unit (s := S64x8x128) ![0, 0, 0] S64x8x128.size inb_S64x8x128_S64x8x128_0_0_0) _ _ _ G)) K Q
  · exact Does.ret PUnit.unit G K Q

/-- The state with `dsa` laid out anew. -/
def relD (s : St F) : St F := { s with dsa := relayF s.dsa 64 }
/-- The state with `dv` laid out anew. -/
def relV (s : St F) : St F := { s with dv := relayF s.dv 64 }
/-- The state with the carried state set. -/
def begF (i : grid0.Coords) (s : St F) : St F := { s with g := startF i s.g }

theorem Does.begF (B : Bufs c R x y X Y dsa dv g e0 e1) (i : grid0.Coords) (s : St F) :
    Does 𝒱 c bd E R (fun K => Prog.bind (Scan.start i g) K) s ⟨⟩ (begF i s) :=
  Does.via (R := R) (fun G => { s with g := G }) (Does.start (B.soleG s) i s.g)

theorem Does.relD (B : Bufs c R x y X Y dsa dv g e0 e1) (s : St F) :
    Does 𝒱 c bd E R (Scan.each (Scan.relay dsa) 63 0) s (fun _ => PUnit.unit) (relD s) :=
  Does.via (R := R) (fun G => { s with dsa := G }) (Does.relay (B.soleDsa s) s.dsa)

theorem Does.relV (B : Bufs c R x y X Y dsa dv g e0 e1) (s : St F) :
    Does 𝒱 c bd E R (Scan.each (Scan.relay dv) 63 0) s (fun _ => PUnit.unit) (relV s) :=
  Does.via (R := R) (fun G => { s with dv := G }) (Does.relay (B.soleDv s) s.dv)

/-- The state a point leaves. -/
def pointF (X : Nat → MC F) (Y : MC F) (i : grid0.Coords) (s : St F) : St F :=
  relV (relD (runs (tripF X Y) 0 (exp0 X Y 63 (by omega) (begF i s)) 32))

/-- The whole body. -/
def whole (x : Nat → MB) (y dsa dv g : MB) (e0 e1 : ME) (i : grid0.Coords) : CB F PUnit PUnit :=
  seq (fun K => Prog.bind (start i g) K) fun _ => seq (expand x y e0 k0_pay966 63 (by decide)) fun _ =>
  seq (fun K => Prog.bind (Scf.Loop.for k0_t1_loop k0_t1_ok PUnit.unit fun k _ => trip x y dsa dv g e0 e1 k0_pay966 k .ret) K) fun _ =>
  seq (each (relay dsa) 63 0) fun _ => seq (each (relay dv) 63 0) fun _ => ret ⟨⟩

theorem Does.point (B : Bufs c R x y X Y dsa dv g e0 e1) (i : grid0.Coords) (s : St F) :
    Does 𝒱 c bd E R (whole x y dsa dv g e0 e1 i) s PUnit.unit (pointF X Y i s) :=
  Does.seq (Does.begF B i s) <| Does.seq (Does.exp0 B 63 (by omega) _) <| Does.seq (Does.loop B _) <| Does.seq (Does.relD B _) <|
    Does.seq (Does.relV B _) (Does.ret _ _)

end

end Cert.KernelIdeal.Scan
-- ==== Proof.Scan.Model.lean ====
module

public import proofs.«01_k».proof.Proof.Scan.Walk
public import Idealize.ShloMosaic.Lib.Pointwise.Index

@[expose] public section

noncomputable section

/-!
What a point leaves does not depend on what the scratch and the results' buffers held: the carried
state runs through `gN`, and each result row is a row of sums of its step.
-/

namespace Cert.KernelIdeal.Scan

open Cert.KernelIdeal.Gen
open Idealize.ShloMosaic

variable {F : FTy → Type} [FloatOps F]

/-- The expanded operands of the point's step `n`, which is at tile `63 − n`. -/
def PX (X : Nat → MC F) (n m jh : Nat) : Vec F S1x8x128 .f32 := gath k0_pay966 (rw1 (X m) (63 - n) (by omega) jh)
/-- The rows of `dy` for step `n`. -/
def dX (Y : MC F) (n ih : Nat) : Vec F S1x1x128 .f32 := fun j =>
  tileOf (tl Y (63 - n) (by omega)) (ix3 (n0 := 1) (n1 := 8) (n2 := 128) 0 ⟨ih % 8, Nat.mod_lt _ (by decide)⟩ (j 2))

/-- The carried state before step `n`. -/
def gN (X : Nat → MC F) (Y G : MC F) : Nat → MC F
  | 0 => G
  | n + 1 => stepG (PX X n) (dX Y n) (gN X Y G n)

/-- Row `ih` of the sums with operand `m` at step `n`. -/
def rowN (X : Nat → MC F) (Y G : MC F) (m n ih : Nat) : FVec F S1x128 .f32 := gradRow (PX X n) (dX Y n) (gN X Y G n) m ih

/-- A row of sums as a stored row. -/
abbrev asRow (w : FVec F S1x128 .f32) : FVec F S1x1x128 .f32 := shapeCast S1x1x128 w shapeCasts_S1x128_S1x1x128

/-- The block of sums with operand `m` that a point leaves. -/
def outF (X : Nat → MC F) (Y G : MC F) (m : Nat) : MC F := fun y =>
  permOf (fun j => asRow (rowN X Y G m (63 - (y 0).val) (j 1).val) (ix3 (n0 := 1) (n1 := 1) (n2 := 128) 0 0 (j 2)))
    (ix3 (n0 := 1) (n1 := 8) (n2 := 128) 0 (y 1) (y 2))

/-! ## Steps depend on the expansion's used parts only -/

theorem gradRow_congr {P P' : Nat → Nat → Vec F S1x8x128 .f32} {d d' : Nat → Vec F S1x1x128 .f32} {G : MC F} {m : Nat} (hm : m < 5)
    (hP : ∀ m, m < 5 → ∀ jh, jh < 8 → P m jh = P' m jh) (hd : ∀ ih, ih < 8 → d ih = d' ih) (ih : Nat) (hi : ih < 8) :
    gradRow P d G m ih = gradRow P' d' G m ih := by
  unfold gradRow sums
  refine congrArg rsum (sumUp_congr 7 fun jh hj => ?_)
  rw [hP m hm jh (by omega)]
  refine congrArg (fun v => mulf v _) ?_
  unfold news
  beta_reduce
  rw [hP 4 (by omega) jh (by omega), hd ih hi]

theorem stepG_congr {P P' : Nat → Nat → Vec F S1x8x128 .f32} {d d' : Nat → Vec F S1x1x128 .f32} {G : MC F}
    (hP : ∀ m, m < 5 → ∀ jh, jh < 8 → P m jh = P' m jh) (hd : ∀ ih, ih < 8 → d ih = d' ih) : stepG P d G = stepG P' d' G := by
  unfold stepG
  refine (sweepN_congr fun jh ih hj hi => ?_).trans (congrArg (fun G => sweepN _ G 8) (sweepN_congr fun jh ih hj hi => ?_))
  · rw [hP 0 (by omega) jh hj, hP 1 (by omega) jh hj, gradRow_congr (by omega) hP hd ih hi]
  · rw [hP 4 (by omega) jh hj, hd ih hi]

/-! ## What the expansion holds -/

theorem planeR_emb_ne {m g m' g' : Nat} (h : ¬(m % 6 = m' % 6 ∧ g % 8 = g' % 8)) (x : (planeR m g).shape.Idx) (j : (planeR m' g').shape.Idx) :
    (planeR m g).emb x ≠ (planeR m' g').emb j := by
  intro e
  have e0 := congrArg (fun y => (y 0).val) e
  have e1 := congrArg (fun y => (y 1).val) e
  have a0 := (x 0).isLt
  have b0 := (j 0).isLt
  have a1 := (x 1).isLt
  have b1 := (j 1).isLt
  change (x 0).val < 1 at a0
  change (j 0).val < 1 at b0
  change (x 1).val < 8 at a1
  change (j 1).val < 8 at b1
  simp [Rect.emb_apply] at e0 e1
  omega

/-- The first `N` rows of plane `m` written. -/
def expRow (X : Nat → MC F) (idx : IVec S8x128 32) (t : Nat) (h : t < 64) (m : Nat) (E : EC F) (N : Nat) : EC F :=
  runs (fun g E => put (planeR m g) (gath idx (rw1 (X m) t h g)) E) 0 E N

theorem pl_put (E : EC F) (w : Vec F S1x8x128 .f32) (m g m' g' : Nat) (hm : m < 6) (hm' : m' < 6) (hg : g < 8) (hg' : g' < 8) :
    pl (put (planeR m g) w E) m' g' = if m = m' ∧ g = g' then w else pl E m' g' := by
  funext j
  by_cases e : m = m' ∧ g = g'
  · rw [if_pos e]
    obtain ⟨rfl, rfl⟩ := e
    exact put_emb (planeR m g) _ _ j
  · rw [if_neg e]
    exact put_of_not _ _ _ _ fun x => planeR_emb_ne (by omega) x j

theorem pl_expRow (X : Nat → MC F) (idx : IVec S8x128 32) (t : Nat) (h : t < 64) (m : Nat) (E : EC F) (m' g' : Nat) (hm : m < 6) (hm' : m' < 6) (hg' : g' < 8) :
    ∀ N, N ≤ 8 → pl (expRow X idx t h m E N) m' g' = if m = m' ∧ g' < N then gath idx (rw1 (X m) t h g') else pl E m' g'
  | 0, _ => by rw [if_neg (by omega)]; rfl
  | N + 1, hN => by
    have e : expRow X idx t h m E (N + 1) = put (planeR m N) (gath idx (rw1 (X m) t h N)) (expRow X idx t h m E N) := by
      unfold expRow; rw [runs, Nat.zero_add]
    rw [e, pl_put _ _ _ _ _ _ hm hm' (by omega) hg', pl_expRow X idx t h m E m' g' hm hm' hg' N (by omega)]
    by_cases h1 : m = m' ∧ N = g'
    · rw [if_pos h1, if_pos (by omega), h1.2]
    · rw [if_neg h1]
      by_cases h2 : m = m' ∧ g' < N
      · rw [if_pos h2, if_pos (by omega)]
      · rw [if_neg h2, if_neg (by omega)]

theorem pl_expRows (X : Nat → MC F) (idx : IVec S8x128 32) (t : Nat) (h : t < 64) (E : EC F) (m' g' : Nat) (hm' : m' < 6) (hg' : g' < 8) :
    ∀ N, N ≤ 5 → pl (runs (fun m E => expRow X idx t h m E 8) 0 E N) m' g' = if m' < N then gath idx (rw1 (X m') t h g') else pl E m' g'
  | 0, _ => by rw [if_neg (by omega)]; rfl
  | N + 1, hN => by
    rw [runs, Nat.zero_add, pl_expRow _ _ _ _ _ _ _ _ (by omega) hm' hg' 8 (by omega), pl_expRows X idx t h E m' g' hm' hg' N (by omega)]
    by_cases h1 : N = m'
    · rw [if_pos (by omega), if_pos (by omega), h1]
    · rw [if_neg (by omega)]
      by_cases h2 : m' < N
      · rw [if_pos h2, if_pos (by omega)]
      · rw [if_neg h2, if_neg (by omega)]

theorem expandF_eq (X : Nat → MC F) (Y : MC F) (idx : IVec S8x128 32) (t : Nat) (h : t < 64) (E : EC F) :
    expandF X Y idx t h E = put (planeR 5 0) (tileOf (tl Y t h)) (runs (fun m E => expRow X idx t h m E 8) 0 E 5) := by
  unfold expandF expRow; rfl

theorem pl_expandF (X : Nat → MC F) (Y : MC F) (idx : IVec S8x128 32) (t : Nat) (h : t < 64) (E : EC F) (m g : Nat) (hm : m < 5) (hg : g < 8) :
    pl (expandF X Y idx t h E) m g = gath idx (rw1 (X m) t h g) := by
  rw [expandF_eq, pl_put _ _ _ _ _ _ (by omega) (by omega) (by omega) hg, if_neg (by omega), pl_expRows _ _ _ _ _ _ _ (by omega) hg 5 (by omega), if_pos hm]

theorem dyr_expandF (X : Nat → MC F) (Y : MC F) (idx : IVec S8x128 32) (t : Nat) (h : t < 64) (E : EC F) (ih : Nat) :
    dyr (expandF X Y idx t h E) ih = fun j => tileOf (tl Y t h) (ix3 (n0 := 1) (n1 := 8) (n2 := 128) 0 ⟨ih % 8, Nat.mod_lt _ (by decide)⟩ (j 2)) := by
  rw [expandF_eq]
  funext j
  have e : (lastR ih).emb j = (planeR 5 0).emb (ix3 (n0 := 1) (n1 := 8) (n2 := 128) 0 ⟨ih % 8, Nat.mod_lt _ (by decide)⟩ (j 2)) := by
    have a0 := (j 0).isLt
    have a1 := (j 1).isLt
    change (j 0).val < 1 at a0
    change (j 1).val < 1 at a1
    funext a
    refine Fin.ext ?_
    rw [Rect.emb_apply, Rect.emb_apply]
    match a with
    | ⟨0, _⟩ => show 5 + 1 * (j 0).val = 5 % 6 + 1 * 0; omega
    | ⟨1, _⟩ => show ih % 8 + 1 * (j 1).val = 8 * (0 % 8) + 1 * (ih % 8); omega
    | ⟨2, _⟩ => rfl
  show put _ _ _ ((lastR ih).emb j) = _
  rw [e]
  exact put_emb (planeR 5 0) _ _ _

/-! ## The rows of the results -/

theorem rowR_emb_ne {t g t' g' : Nat} {h : t < 64} {h' : t' < 64} (hn : ¬(t = t' ∧ g % 8 = g' % 8)) (x : (rowR t h g).shape.Idx) (j : (rowR t' h' g').shape.Idx) :
    (rowR t h g).emb x ≠ (rowR t' h' g').emb j := by
  intro e
  have e0 := congrArg (fun y => (y 0).val) e
  have e1 := congrArg (fun y => (y 1).val) e
  have a0 := (x 0).isLt
  have b0 := (j 0).isLt
  have a1 := (x 1).isLt
  have b1 := (j 1).isLt
  change (x 0).val < 1 at a0
  change (j 0).val < 1 at b0
  change (x 1).val < 1 at a1
  change (j 1).val < 1 at b1
  simp [Rect.emb_apply] at e0 e1
  omega

theorem rw1_rowsF (t : Nat) (h : t < 64) (w : Nat → FVec F S1x128 .f32) (D : MC F) (t' : Nat) (h' : t' < 64) (g' : Nat) (hg' : g' < 8) :
    ∀ N, N ≤ 8 → rw1 (rowsF t h w D N) t' h' g' = if t = t' ∧ g' < N then asRow (w g') else rw1 D t' h' g'
  | 0, _ => by rw [if_neg (by omega)]; unfold rowsF; rfl
  | N + 1, hN => by
    have e : rowsF t h w D (N + 1) = put (rowR t h N) (asRow (w N)) (rowsF t h w D N) := by unfold rowsF; rw [runs, Nat.zero_add]
    rw [e]
    by_cases h1 : t = t' ∧ N = g'
    · rw [if_pos (by omega)]
      obtain ⟨rfl, rfl⟩ := h1
      funext j; exact put_emb (rowR t h N) _ _ j
    · have e2 : rw1 (put (rowR t h N) (asRow (w N)) (rowsF t h w D N)) t' h' g' = rw1 (rowsF t h w D N) t' h' g' := by
        funext j; exact put_of_not _ _ _ _ fun x => rowR_emb_ne (by omega) x j
      rw [e2, rw1_rowsF t h w D t' h' g' hg' N (by omega)]
      by_cases h2 : t = t' ∧ g' < N
      · rw [if_pos h2, if_pos (by omega)]
      · rw [if_neg h2, if_neg (by omega)]

/-- The state before the point's step `n`, from `G` at its first step. -/
structure At (X : Nat → MC F) (Y G : MC F) (n : Nat) (s : St F) : Prop where
  g : s.g = gN X Y G n
  dsa : ∀ k, k < n → ∀ ih, ih < 8 → rw1 s.dsa (63 - k) (by omega) ih = asRow (rowN X Y G 2 k ih)
  dv : ∀ k, k < n → ∀ ih, ih < 8 → rw1 s.dv (63 - k) (by omega) ih = asRow (rowN X Y G 3 k ih)

/-- `C` holds the expansion for step `n`. -/
def Ready (X : Nat → MC F) (Y : MC F) (n : Nat) (C : EC F) : Prop :=
  (∀ m, m < 5 → ∀ jh, jh < 8 → pl C m jh = PX X n m jh) ∧ ∀ ih, ih < 8 → dyr C ih = dX Y n ih

theorem ready_expandF (X : Nat → MC F) (Y : MC F) (n t : Nat) (h : t < 64) (e : t = 63 - n) (E : EC F) : Ready X Y n (expandF X Y k0_pay966 t h E) := by
  subst e
  exact ⟨fun m hm jh hj => pl_expandF X Y _ _ h E m jh hm hj, fun ih _ => dyr_expandF X Y _ _ h E ih⟩

theorem At.step {X : Nat → MC F} {Y G : MC F} {n : Nat} (hn : n < 64) {s : St F} (H : At X Y G n s) {C : EC F} (hC : Ready X Y n C) (t : Nat) (h : t < 64)
    (e : t = 63 - n) : At X Y G (n + 1) (stepSt C t h s) := by
  subst e
  have hr : ∀ m, m < 5 → ∀ ih, ih < 8 → gradRow (pl C) (dyr C) s.g m ih = rowN X Y G m n ih := fun m hm ih hi => by
    rw [gradRow_congr hm hC.1 hC.2 ih hi, H.g]; rfl
  refine ⟨?_, fun k hk ih hi => ?_, fun k hk ih hi => ?_⟩
  · show stepG _ _ s.g = _
    rw [stepG_congr hC.1 hC.2, H.g]; rfl
  · show rw1 (rowsF (63 - n) h _ s.dsa 8) _ _ _ = _
    rw [rw1_rowsF _ _ _ _ _ _ _ hi 8 (by omega)]
    by_cases e : n = k
    · subst e; rw [if_pos (by omega), hr 2 (by omega) ih hi]
    · rw [if_neg (by omega), H.dsa k (by omega) ih hi]
  · show rw1 (rowsF (63 - n) h _ s.dv 8) _ _ _ = _
    rw [rw1_rowsF _ _ _ _ _ _ _ hi 8 (by omega)]
    by_cases e : n = k
    · subst e; rw [if_pos (by omega), hr 3 (by omega) ih hi]
    · rw [if_neg (by omega), H.dv k (by omega) ih hi]

theorem At.trip {X : Nat → MC F} {Y G : MC F} {k : Nat} (hk : k < 32) {s : St F} (H : At X Y G (2 * k) s) (hC : Ready X Y (2 * k) s.e0) :
    At X Y G (2 * (k + 1)) (tripF X Y k s) ∧ Ready X Y (2 * (k + 1)) (tripF X Y k s).e0 := by
  have r1 : Ready X Y (2 * k + 1) (exp1 X Y (62 - 2 * k) (by omega) s).e1 := ready_expandF X Y _ _ _ (by omega) _
  have a1 : At X Y G (2 * k) (exp1 X Y (62 - 2 * k) (by omega) s) := ⟨H.g, H.dsa, H.dv⟩
  have a2 := a1.step (by omega) (C := (exp1 X Y (62 - 2 * k) (by omega) s).e0) hC (63 - 2 * k) (by omega) rfl
  have a3 : At X Y G (2 * k + 1) (exp0 X Y (61 - 2 * k) (by omega) (stepSt (exp1 X Y (62 - 2 * k) (by omega) s).e0 (63 - 2 * k) (by omega) (exp1 X Y (62 - 2 * k) (by omega) s))) :=
    ⟨a2.g, a2.dsa, a2.dv⟩
  exact ⟨a3.step (by omega) r1 (62 - 2 * k) (by omega) (by omega), ready_expandF X Y _ _ _ (by omega) _⟩

theorem At.loop {X : Nat → MC F} {Y G : MC F} {s : St F} (H : At X Y G 0 s) (hC : Ready X Y 0 s.e0) :
    ∀ N, N ≤ 32 → At X Y G (2 * N) (runs (tripF X Y) 0 s N) ∧ Ready X Y (2 * N) (runs (tripF X Y) 0 s N).e0
  | 0, _ => ⟨H, hC⟩
  | N + 1, hN => by
    have ih := At.loop H hC N (by omega)
    rw [runs, Nat.zero_add]
    exact ih.1.trip (by omega) ih.2

theorem tl_relayF (D : MC F) (n : Nat) (h : n < 64) : ∀ N, N ≤ 64 → tl (relayF D N) n h = if n < N then permOf (tl D n h) else tl D n h
  | 0, _ => by rw [if_neg (by omega)]; unfold relayF; rfl
  | N + 1, hN => by
    have ih := tl_relayF D n h N (by omega)
    have e : relayF D (N + 1) = put (tileR (N % 64) (Nat.mod_lt _ (by decide))) (permOf (tl (relayF D N) (N % 64) (Nat.mod_lt _ (by decide)))) (relayF D N) := by
      unfold relayF; rw [runs, Nat.zero_add]
    rw [e]
    by_cases h1 : n = N % 64
    · subst h1
      rw [if_pos (by omega)]
      rw [if_neg (by omega)] at ih
      rw [← ih]
      funext j; exact put_emb (tileR (N % 64) _) _ _ j
    · have e2 : tl (put (tileR (N % 64) (Nat.mod_lt _ (by decide))) (permOf (tl (relayF D N) (N % 64) (Nat.mod_lt _ (by decide)))) (relayF D N)) n h = tl (relayF D N) n h := by
        funext j; exact put_of_not _ _ _ _ fun x => tileR_emb_ne (Ne.symm h1) x j
      rw [e2, ih]
      by_cases h2 : n < N
      · rw [if_pos h2, if_pos (by omega)]
      · rw [if_neg h2, if_neg (by omega)]

theorem emb_tile (y : S64x8x128.Idx) : y = (tileR (y 0).val (y 0).isLt).emb (ix3 (n0 := 1) (n1 := 8) (n2 := 128) 0 (y 1) (y 2)) := by
  funext a
  refine Fin.ext ?_
  rw [Rect.emb_apply]
  match a with
  | ⟨0, _⟩ => show (y 0).val = (y 0).val + 1 * 0; omega
  | ⟨1, _⟩ => show (y 1).val = 0 + 1 * (y 1).val; omega
  | ⟨2, _⟩ => show (y 2).val = 0 + 1 * (y 2).val; omega

theorem tl_of_rows (D : MC F) (t : Nat) (h : t < 64) : tl D t h = fun j => rw1 D t h (j 1).val (ix3 (n0 := 1) (n1 := 1) (n2 := 128) 0 0 (j 2)) := by
  funext j
  refine congrArg D ?_
  have a0 := (j 0).isLt
  change (j 0).val < 1 at a0
  have a1 := (j 1).isLt
  change (j 1).val < 8 at a1
  funext a
  refine Fin.ext ?_
  rw [Rect.emb_apply, Rect.emb_apply]
  match a with
  | ⟨0, _⟩ => show t + 1 * (j 0).val = t + 1 * 0; omega
  | ⟨1, _⟩ => show 0 + 1 * (j 1).val = (j 1).val % 8 + 1 * 0; omega
  | ⟨2, _⟩ => rfl

theorem relayF_eq (X : Nat → MC F) (Y G D : MC F) (m : Nat) (H : ∀ k, k < 64 → ∀ ih, ih < 8 → rw1 D (63 - k) (by omega) ih = asRow (rowN X Y G m k ih)) :
    relayF D 64 = outF X Y G m := by
  funext y
  have h0 : (y 0).val < 64 := (y 0).isLt
  have e : relayF D 64 y = tl (relayF D 64) (y 0).val h0 (ix3 (n0 := 1) (n1 := 8) (n2 := 128) 0 (y 1) (y 2)) := congrArg _ (emb_tile y)
  rw [e, tl_relayF _ _ _ 64 (Nat.le_refl _), if_pos h0, tl_of_rows]
  unfold outF
  refine congrArg (fun v => permOf v _) ?_
  funext j
  have a1 := (j 1).isLt
  change (j 1).val < 8 at a1
  have h := H (63 - (y 0).val) (by omega) (j 1).val a1
  have e3 : rw1 D (y 0).val h0 (j 1).val = rw1 D (63 - (63 - (y 0).val)) (by omega) (j 1).val := by congr 1; omega
  rw [e3, h]

/-- What a point leaves. -/
theorem pointF_spec (X : Nat → MC F) (Y : MC F) (i : grid0.Coords) (s : St F) :
    (pointF X Y i s).dsa = outF X Y (startF i s.g) 2 ∧ (pointF X Y i s).dv = outF X Y (startF i s.g) 3 ∧ (pointF X Y i s).g = gN X Y (startF i s.g) 64 := by
  have a0 : At X Y (startF i s.g) 0 (exp0 X Y 63 (by omega) (begF i s)) := ⟨rfl, fun k hk => absurd hk (by omega), fun k hk => absurd hk (by omega)⟩
  have r0 : Ready X Y 0 (exp0 X Y 63 (by omega) (begF i s)).e0 := ready_expandF X Y 0 63 _ rfl _
  have h := (At.loop a0 r0 32 (Nat.le_refl _)).1
  exact ⟨relayF_eq X Y _ _ 2 fun k hk ih hi => h.dsa k hk ih hi, relayF_eq X Y _ _ 3 fun k hk ih hi => h.dv k hk ih hi, h.g⟩

end Cert.KernelIdeal.Scan
-- ==== Proof.Scan.Own.lean ====
module

public import proofs.«01_k».proof.Proof.Scan.Body
public import proofs.«01_k».proof.Proof.Scan.Model
public import proofs.«01_k».proof.Proof.Gen.KernelIdeal.Points
public import proofs.«01_k».proof.Proof.Gen.KernelIdeal.Frame

@[expose] public section

noncomputable section

/-!
The kernel's eleven buffers at a grid point, and the body run on them.
-/

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {𝒱 : Variants} {c : Dev nD} {bd : Option 𝒱.V} {E : Set ℕ} {σ : Type} {R Q : σ → SP F}

/-- The first of two things held is looked at. -/
theorem Looks.head {s : Shape} {e : EltTy} {m : Memref sig .tc .vmem s e} {get : σ → s.Idx → Elt F e} :
    Looks c (fun x => iprop(owns (c : Thread nD τ) m fullShare (get x) ∗ R x)) m get := by
  intro x
  iintro ⟨H, HR⟩
  isplitl [H]
  · iexact H
  iintro H
  isplitl [H]
  · iexact H
  iexact HR

theorem Looks.tail {s : Shape} {e : EltTy} {m : Memref sig .tc .vmem s e} {get : σ → s.Idx → Elt F e} (h : Looks c R m get) :
    Looks c (fun x => iprop(Q x ∗ R x)) m get := by
  intro x
  refine (sep_mono .rfl (h x)).trans ?_
  iintro ⟨HQ, H, Hb⟩
  isplitl [H]
  · iexact H
  iintro H
  isplitl [HQ]
  · iexact HQ
  iapply Hb
  iexact H

/-- The first of two things held, when the second does not change with it. -/
theorem Holds.head {s : Shape} {e : EltTy} {m : Memref sig .tc .vmem s e} {get : σ → s.Idx → Elt F e} {set : (s.Idx → Elt F e) → σ → σ}
    (hs : ∀ x, set (get x) x = x) (hg : ∀ G x, get (set G x) = G) (hR : ∀ G x, R (set G x) = R x) :
    Holds c (fun x => iprop(owns (c : Thread nD τ) m fullShare (get x) ∗ R x)) m get set where
  acc x := by
    iintro ⟨H, HR⟩
    isplitl [H]
    · iexact H
    iintro %G H
    beta_reduce
    rw [hg, hR]
    isplitl [H]
    · iexact H
    iexact HR
  same := hs

theorem Holds.tail {s : Shape} {e : EltTy} {m : Memref sig .tc .vmem s e} {get : σ → s.Idx → Elt F e} {set : (s.Idx → Elt F e) → σ → σ}
    (h : Holds c R m get set) (hQ : ∀ G x, Q (set G x) = Q x) : Holds c (fun x => iprop(Q x ∗ R x)) m get set where
  acc x := by
    refine (sep_mono .rfl (h.acc x)).trans ?_
    iintro ⟨HQ, H, Hb⟩
    isplitl [H]
    · iexact H
    iintro %G H
    ispecialize Hb $$ %G
    beta_reduce
    rw [hQ]
    isplitl [HQ]
    · iexact HQ
    iapply Hb
    iexact H
  same := h.same

/-- What operand the body calls `m`, of the blocks it was given. -/
abbrev pick {α : Type} (x0 x1 x2 x3 x4 : α) : Nat → α
  | 0 => x0
  | 1 => x1
  | 2 => x2
  | 3 => x3
  | _ => x4

/-- The eleven buffers: the six inputs' blocks, and what the body changes. -/
def Own (c : Dev nD) (a1 a2 a3 a4 a5 a6 a7 a8 a9 : MB) (a10 a11 : ME) (x1 x2 x3 x4 x5 y : MC F) (s : St F) : SP F :=
  iprop(owns (c : Thread nD τ) a1 fullShare x1 ∗ owns (c : Thread nD τ) a2 fullShare x2 ∗ owns (c : Thread nD τ) a3 fullShare x3
    ∗ owns (c : Thread nD τ) a4 fullShare x4 ∗ owns (c : Thread nD τ) a5 fullShare x5 ∗ owns (c : Thread nD τ) a6 fullShare y
    ∗ owns (c : Thread nD τ) a7 fullShare s.dsa ∗ owns (c : Thread nD τ) a8 fullShare s.dv ∗ owns (c : Thread nD τ) a9 fullShare s.g
    ∗ owns (c : Thread nD τ) a10 fullShare s.e0 ∗ owns (c : Thread nD τ) a11 fullShare s.e1 ∗ emp)

variable (a1 a2 a3 a4 a5 a6 a7 a8 a9 : MB) (a10 a11 : ME) (x1 x2 x3 x4 x5 y : MC F)

theorem own_bufs : Bufs c (Own c a1 a2 a3 a4 a5 a6 a7 a8 a9 a10 a11 x1 x2 x3 x4 x5 y) (ops a1 a2 a3 a4 a5) a6 (pick x1 x2 x3 x4 x5) y a7 a8 a9 a10 a11 where
  x m := match m with
    | 0 => Looks.head
    | 1 => Looks.head.tail
    | 2 => Looks.head.tail.tail
    | 3 => Looks.head.tail.tail.tail
    | _ + 4 => Looks.head.tail.tail.tail.tail
  y := Looks.head.tail.tail.tail.tail.tail
  dsa := ((((((Holds.head (set := fun G (s : St F) => { s with dsa := G }) (fun _ => rfl) (fun _ _ => rfl) fun _ _ => rfl).tail fun _ _ => rfl).tail fun _ _ => rfl).tail fun _ _ => rfl).tail
    fun _ _ => rfl).tail fun _ _ => rfl).tail fun _ _ => rfl
  dv := (((((((Holds.head (set := fun G (s : St F) => { s with dv := G }) (fun _ => rfl) (fun _ _ => rfl) fun _ _ => rfl).tail fun _ _ => rfl).tail fun _ _ => rfl).tail fun _ _ => rfl).tail
    fun _ _ => rfl).tail fun _ _ => rfl).tail fun _ _ => rfl).tail fun _ _ => rfl
  g := ((((((((Holds.head (set := fun G (s : St F) => { s with g := G }) (fun _ => rfl) (fun _ _ => rfl) fun _ _ => rfl).tail fun _ _ => rfl).tail fun _ _ => rfl).tail fun _ _ => rfl).tail
    fun _ _ => rfl).tail fun _ _ => rfl).tail fun _ _ => rfl).tail fun _ _ => rfl).tail fun _ _ => rfl
  e0 := (((((((((Holds.head (set := fun G (s : St F) => { s with e0 := G }) (fun _ => rfl) (fun _ _ => rfl) fun _ _ => rfl).tail fun _ _ => rfl).tail fun _ _ => rfl).tail fun _ _ => rfl).tail
    fun _ _ => rfl).tail fun _ _ => rfl).tail fun _ _ => rfl).tail fun _ _ => rfl).tail fun _ _ => rfl).tail fun _ _ => rfl
  e1 := ((((((((((Holds.head (R := fun _ => iprop(emp)) (set := fun G (s : St F) => { s with e1 := G }) (fun _ => rfl) (fun _ _ => rfl) fun _ _ => rfl).tail fun _ _ => rfl).tail fun _ _ => rfl).tail fun _ _ => rfl).tail
    fun _ _ => rfl).tail fun _ _ => rfl).tail fun _ _ => rfl).tail fun _ _ => rfl).tail fun _ _ => rfl).tail fun _ _ => rfl).tail fun _ _ => rfl

/-- The body on the eleven buffers: the two results' blocks and the carried state as the model says. -/
theorem body_run (i : grid0.Coords) (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (s : St F) (K : PUnit → SP F) :
    Own c a1 a2 a3 a4 a5 a6 a7 a8 a9 a10 a11 x1 x2 x3 x4 x5 y s ⊢
      iprop((∀ e0 e1, Own c a1 a2 a3 a4 a5 a6 a7 a8 a9 a10 a11 x1 x2 x3 x4 x5 y
          ⟨outF (pick x1 x2 x3 x4 x5) y (startF i s.g) 2, outF (pick x1 x2 x3 x4 x5) y (startF i s.g) 3, gN (pick x1 x2 x3 x4 x5) y (startF i s.g) 64, e0, e1⟩
          -∗ K ⟨⟩)
        -∗ wp frame (wpE (defs₀ (F := F)) 𝒱 (c : Thread nD τ) bd) E
          (cc0_rwkv_scan_bwd_a (F := F) i a1 h1 a2 h2 a3 h3 a4 h4 a5 h5 a6 h6 a7 h7 a8 h8 a9 h9 a10 h10 a11 h11) K) := by
  rw [body_eq]
  have hd := Does.point (𝒱 := 𝒱) (bd := bd) (E := E) (own_bufs (c := c) a1 a2 a3 a4 a5 a6 a7 a8 a9 a10 a11 x1 x2 x3 x4 x5 y) i s .ret K
  obtain ⟨e1, e2, e3⟩ := pointF_spec (pick x1 x2 x3 x4 x5) y i s
  generalize hp : pointF (pick x1 x2 x3 x4 x5) y i s = p at hd e1 e2 e3
  obtain ⟨d, v, g, e0', e1'⟩ := p
  dsimp only at e1 e2 e3
  subst e1; subst e2; subst e3
  refine hd.trans ?_
  iintro H Hk
  iapply H
  iintro Ho
  rw [wp_ret]
  imodintro
  iapply Hk
  iexact Ho

end Cert.KernelIdeal.Scan
-- ==== Proof.Scan.Frame.lean ====
module

public import proofs.«01_k».proof.Proof.Scan.Own
public import Idealize.ShloMosaic.Adequacy

@[expose] public section

noncomputable section

/-!
The launch: what every grid point finds and leaves, and the run of the whole program. The state the
recurrence carries lies in a scratch buffer from point to point; `gAt n` is what it holds after `n` points.
-/

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The five operands' blocks at point `t`. -/
def xAt (c : Dev nD) (t : Fin cfg0.N) : Nat → MC F :=
  pick (iblk m c 0 t) (iblk m c 1 t) (iblk m c 2 t) (iblk m c 3 t) (iblk m c 4 t)

/-- The output gradient's block at point `t`. -/
def yAt (c : Dev nD) (t : Fin cfg0.N) : MC F := iblk m c 5 t

/-- Point `n` of the grid, over the natural numbers. -/
def pt (n : Nat) : Fin cfg0.N := ⟨n % grid0.N, Nat.mod_lt _ (by rw [N_0]; omega)⟩

theorem pt_val (t : Fin cfg0.N) : pt t.val = t := Fin.ext (Nat.mod_eq_of_lt t.isLt)

/-- What the carried state holds after `n` points. -/
def gAt (c : Dev nD) : Nat → MC F
  | 0 => fun _ => k0_pay965 (F := F) (fun a => ⟨0, by fin_cases a <;> decide⟩)
  | n + 1 => gN (xAt m c (pt n)) (yAt m c (pt n)) (startF (grid0.coords (pt n)) (gAt c n)) 64

/-- The state the body at point `t` begins with. -/
def gIn (c : Dev nD) (t : Fin cfg0.N) : MC F := startF (grid0.coords t) (gAt m c t.val)

theorem gAt_succ (c : Dev nD) (t : Fin cfg0.N) : gAt m c (t.val + 1) = gN (xAt m c t) (yAt m c t) (gIn m c t) 64 := by
  rw [gAt, pt_val, gIn]

theorem full_emb (y : S64x8x128.Idx) :
    (Rect.unit (s := S64x8x128) ![0, 0, 0] S64x8x128.size inb_S64x8x128_S64x8x128_0_0_0).emb y = y := by
  funext a; apply Fin.ext
  show (![0, 0, 0] : Fin 3 → Nat) a + 1 * (y a).val = (y a).val
  fin_cases a <;> simp

theorem coords_val (t : Fin cfg0.N) : (grid0.coords t 0).val = t.val := by
  revert t
  exact (by decide +kernel : ∀ t : Fin grid0.N, (grid0.coords t 0).val = t.val)

theorem start_cond (t : Fin cfg0.N) :
    (Scalar.cmpi .ne (Scalar.extui (Scalar.cmpi .eq (BitVec.ofNat 32 (grid0.coords t 0).val) 0#32) : BitVec 32) 0#32 = 1#1) ↔ t.val = 0 := by
  revert t
  exact (by decide +kernel : ∀ t : Fin grid0.N,
    (Scalar.cmpi .ne (Scalar.extui (Scalar.cmpi .eq (BitVec.ofNat 32 (grid0.coords t 0).val) 0#32) : BitVec 32) 0#32 = 1#1) ↔ t.val = 0)

/-- The first point's state does not depend on what the scratch buffer held. -/
theorem startF_zero (t : Fin cfg0.N) (h : t.val = 0) (G : MC F) : startF (grid0.coords t) G = k0_pay965 (F := F) := by
  unfold startF
  rw [if_pos ((start_cond t).mpr h)]
  funext y
  have := put_emb (Rect.unit (s := S64x8x128) ![0, 0, 0] S64x8x128.size inb_S64x8x128_S64x8x128_0_0_0) (k0_pay965 (F := F)) G y
  rw [full_emb] at this
  exact this

/-- Every other point's state is the one it finds. -/
theorem startF_succ (t : Fin cfg0.N) (h : t.val ≠ 0) (G : MC F) : startF (grid0.coords t) G = G := by
  unfold startF
  rw [if_neg fun e => h ((start_cond t).mp e)]

/-- The scratch buffers and the generator register before point `n`: the carried state named, the rest at anything. -/
def held (c : Dev nD) (n : Nat) : sProp 𝕄 :=
  iprop((∃ g : MC F, ⌜n ≠ 0 → g = gAt m c n⌝ ∗ owns (c : Thread nD τ) (Memref.whole cc0_scratch0) fullShare g)
    ∗ (∃ e : EC F, owns (c : Thread nD τ) (Memref.whole cc0_scratch1) fullShare e)
    ∗ (∃ e : EC F, owns (c : Thread nD τ) (Memref.whole cc0_scratch2) fullShare e)
    ∗ ∃ r, prngReg c r)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outF (xAt m c t) (yAt m c t) (gIn m c t) 2
    | ⟨7, _⟩ => outF (xAt m c t) (yAt m c t) (gIn m c t) 3
  Φ t := held m c t.val
  q _ := fullShare
  owed _ := 0

theorem A_eq (c : Dev nD) (w : Fin cfg0.W) : (dats m 0 c).A w = V m c (Pipeline.arrRef spec0 w) := by
  dsimp only [dats]

theorem after6 (c : Dev nD) (t : Fin cfg0.N) : (dats m 0 c).after 6 t = outF (xAt m c t) (yAt m c t) (gIn m c t) 2 := by dsimp only [dats]
theorem after7 (c : Dev nD) (t : Fin cfg0.N) : (dats m 0 c).after 7 t = outF (xAt m c t) (yAt m c t) (gIn m c t) 3 := by dsimp only [dats]

/-- What a grid point finds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What a grid point leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body of a grid point, from what it finds to what it leaves. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  rw [show (dats m 0 c).Φ t.castSucc = held m c t.val from rfl]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl)]
  unfold Dat.owesAt Pipeline.owesWithin
  rw [show (dats m 0 c).owed t.castSucc = 0 from rfl]
  unfold held
  iintro ⟨⟨⟨%g, %hg, HG⟩, ⟨%e0, HE0⟩, ⟨%e1, HE1⟩, Hr⟩, ⟨%W, -, HW⟩, ⟨%_, H0⟩, ⟨%_, H1⟩, ⟨%_, H2⟩, ⟨%_, H3⟩, ⟨%_, H4⟩, ⟨%_, H5⟩, ⟨%d6, H6⟩, ⟨%d7, H7⟩⟩
  have hin : startF (grid0.coords t) g = gIn m c t := by
    unfold gIn
    by_cases h : t.val = 0
    · rw [startF_zero t h, startF_zero t h]
    · rw [hg h]
  have hrun := body_run (𝒱 := Variants.none) (c := c) (bd := none) (E := Set.univ) (st0_0 t) (st0_1 t) (st0_2 t) (st0_3 t) (st0_4 t) (st0_5 t) (st0_6 t)
    (st0_7 t) (Memref.whole cc0_scratch0) (Memref.whole cc0_scratch1) (Memref.whole cc0_scratch2)
    (iblk m c 0 t) (iblk m c 1 t) (iblk m c 2 t) (iblk m c 3 t) (iblk m c 4 t) (iblk m c 5 t) (grid0.coords t)
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (Memref.isWhole_whole _) (Memref.isWhole_whole _) (Memref.isWhole_whole _)
    ⟨(dats m 0 c).before 6 t d6, (dats m 0 c).before 7 t d7, g, e0, e1⟩ (fun _ => bodyPost m c t)
  dsimp only at hrun
  rw [hin] at hrun
  unfold Own at hrun
  dsimp only at hrun
  ihave Hx := hrun $$ [H0 H1 H2 H3 H4 H5 H6 H7 HG HE0 HE1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HG]; · iexact HG
    isplitl [HE0]; · iexact HE0
    isplitl [HE1]; · iexact HE1
    iempintro
  unfold bodyAt0
  iapply Hx
  iintro %e0' %e1' ⟨H0, H1, H2, H3, H4, H5, H6, H7, HG, HE0, HE1, -⟩
  unfold bodyPost
  rw [show (dats m 0 c).Φ t.succ = held m c (t.val + 1) from rfl]
  unfold Dat.owesAt Pipeline.owesWithin
  rw [show (dats m 0 c).owed t.succ = 0 from rfl, after6, after7]
  unfold held
  isplitl [HG HE0 HE1 Hr]
  · isplitl [HG]
    · iexists _
      isplitr; swap; · iexact HG
      ipureintro
      exact fun _ => (gAt_succ m c t).symm
    isplitl [HE0]; · iexists _; iexact HE0
    isplitl [HE1]; · iexists _; iexact HE1
    iexact Hr
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The region's scratch, handed over at its entry. -/
theorem enter (c : Dev nD) : ΦA spec0 c ⊢ held m c 0 := by
  unfold ΦA held
  rw [scopedRest0_eq]
  simp only [owns_whole]
  iintro ⟨⟨⟨%f0, H0⟩, ⟨%f1, H1⟩, ⟨%f2, H2⟩⟩, Hr⟩
  isplitl [H0]
  · iexists f0
    isplitr; · ipureintro; exact fun h => absurd rfl h
    iexact H0
  isplitl [H1]; · iexists f1; iexact H1
  isplitl [H2]; · iexists f2; iexact H2
  iexact Hr

/-- And given back at its end. -/
theorem leave (c : Dev nD) (n : Nat) : held m c n ⊢ ΦA spec0 c := by
  unfold ΦA held
  rw [scopedRest0_eq]
  simp only [owns_whole]
  iintro ⟨⟨%f0, -, H0⟩, ⟨%f1, H1⟩, ⟨%f2, H2⟩, Hr⟩
  isplitl [H0 H1 H2]
  · isplitl [H0]; · iexists f0; iexact H0
    isplitl [H1]; · iexists f1; iexact H1
    iexists f2; iexact H2
  iexact Hr

set_option backward.isDefEq.respectTransparency.types false in
/-- The run of the whole program: its results' arrays hold what the points wrote back. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _) (Q' := fun r => Pipeline.FramePost cfgs (dats m) 0 (V m) r ∧ r.2.sem = fun _ => 0) (hQ' := fun _ h => h)

/-- The run ends with every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    have k (b : Ref sig .tc) (h1 h2) := (h.1 c).2 b (Pipeline.mem_restRefs_of b h1 h2)
    ⟨(k main_arg0 (by decide) (by decide)).trans (V_main_arg0 m c), (k main_arg1 (by decide) (by decide)).trans (V_main_arg1 m c),
      (k main_arg2 (by decide) (by decide)).trans (V_main_arg2 m c), (k main_arg3 (by decide) (by decide)).trans (V_main_arg3 m c),
      (k main_arg4 (by decide) (by decide)).trans (V_main_arg4 m c), (k main_arg5 (by decide) (by decide)).trans (V_main_arg5 m c)⟩, h.2⟩)
    (run_main m ρ)

end Cert.KernelIdeal.Scan
-- ==== Proof.Scan.KFrame.lean ====
module

public import proofs.«01_k».proof.Defs
public import proofs.«01_k».proof.Proof.Gen.Kernel
public import proofs.«01_k».proof.Proof.Gen.KernelIdeal
public import proofs.«01_k».proof.Proof.Scan.Frame

@[expose] public section

noncomputable section

/-!
The bit-level program is the same text as the one run above, so its frame is the same run's, at bits.
-/

namespace Cert.KernelIdeal.Scan

open Idealize.ShloMosaic Idealize.SL.Sem

set_option maxHeartbeats 0 in
theorem main_same : (Cert.Kernel.main (F := Bits)) = (Cert.KernelIdeal.main (F := Bits)) := rfl

set_option maxHeartbeats 0 in
theorem defs_same : (Cert.Kernel.defs (F := Bits)) = (Cert.KernelIdeal.defs (F := Bits)) := by sl_kernel_rfl

/-- The frame of the program at the ideal instance. -/
theorem frame_ideal : Cert.quiescent_KernelIdeal (hKernelIdeal := Cert.KernelIdeal.Gen.facts) := fun m ρ _ => frame (F := Ideal) m ρ

/-- The frame of the program at bits. -/
theorem frame_bits : Cert.quiescent_Kernel (hKernel := Cert.Kernel.Gen.facts) := by
  intro m ρ _
  rw [main_same, defs_same]
  exact frame (F := Bits) m ρ

end Cert.KernelIdeal.Scan
-- ==== Proof.Scan.RFrame.lean ====
module

public import proofs.«01_k».proof.Defs
public import proofs.«01_k».proof.Proof.Gen.ReferenceIdeal.Run
public import Idealize.ShloMosaic.Lib.Quiescent

@[expose] public section

noncomputable section

/-!
The reference's frame: its run leaves the arguments, and it has no semaphore.
-/

namespace Cert.ReferenceIdeal.Value

open Idealize.ShloMosaic Idealize.SL.Sem

/-- The reference's frame. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (run (F := Ideal) m ρ)

end Cert.ReferenceIdeal.Value
-- ==== Proof.Scan.Lanes.lean ====
module

public import proofs.«01_k».proof.Proof.Scan.Struct
public import Idealize.ShloMosaic.Lib.Pointwise

@[expose] public section

noncomputable section

/-!
The kernel's lane permutations, read at an index.
-/

namespace Cert.KernelIdeal.Scan

open Cert.KernelIdeal.Gen
open Idealize.ShloMosaic

variable {F : FTy → Type} [FloatOps F]

/-- The word of an index vector's lane that the gather uses. -/
abbrev wrapped (v : IVec S8x128 32) : IVec S8x128 32 := select (cmpi .slt v (broadcast S8x128 0#32)) (addi v (broadcast S8x128 128#32)) v

theorem idx_rows : ∀ (s : Fin 8) (l : Fin 128), (wrapped k0_pay966 (ix2 s l)).toNat = 16 * s.val + l.val / 8 := by decide +kernel

/-- The lanes that lane permutation number one takes. -/
def tileIdx : IVec S8x128 32 :=
  addi k0_pay58 (select (andi k0_pay60 (cmpi .ne (remsi (iota .tc S8x128 32 [1] iota_S8x128_d1_w32) k0_pay61) (broadcast S8x128 0#32)))
    (subi k0_pay59 (broadcast S8x128 1#32)) k0_pay59)

/-- The lanes that lane permutation number two takes. -/
def permIdx : IVec S8x128 32 :=
  addi k0_pay1030 (select (andi (cmpi .ne k0_pay1032 (broadcast S8x128
      (Scalar.subi (Scalar.extui (Scalar.cmpi .sgt 16#32 0#32)) (Scalar.extui (Scalar.cmpi .slt 16#32 0#32)))))
      (cmpi .ne (remsi (iota .tc S8x128 32 [1] iota_S8x128_d1_w32) (broadcast S8x128 16#32)) (broadcast S8x128 0#32)))
    (subi k0_pay1031 (broadcast S8x128 1#32)) k0_pay1031)

theorem idx_tile : ∀ (s : Fin 8) (l : Fin 128), (wrapped tileIdx (ix2 s l)).toNat = 16 * (l.val % 8) + l.val / 8 := by decide +kernel
theorem idx_perm : ∀ (s : Fin 8) (l : Fin 128), (wrapped permIdx (ix2 s l)).toNat = 8 * (l.val % 16) + l.val / 16 := by decide +kernel

/-- Lanes of a tile taken by an index vector. -/
def lanes (x : FVec F S8x128 .f32) (v : IVec S8x128 32) : FVec F S1x8x128 .f32 :=
  shapeCast S1x8x128 (dynamicGather 1 x (shapeCast S8x128 (shapeCast S8x128x1 (wrapped v) shapeCasts_S8x128_S8x128x1) shapeCasts_S8x128x1_S8x128))
    shapeCasts_S8x128_S1x8x128

theorem lanes_at (x : FVec F S8x128 .f32) (v : IVec S8x128 32) (s : Fin 8) (l : Fin 128) (n : Nat) (hn : n < 128)
    (h : (wrapped v (ix2 s l)).toNat = n) : lanes x v (ix3 0 s l) = x (ix2 s ⟨n, hn⟩) := by
  unfold lanes
  generalize wrapped v = u at h
  pointwise
  simp only [h, Nat.mod_eq_of_lt hn]

/-- A gathered row: lane `16 s + l / 8` of it lies at sublane `s`, lane `l`. -/
theorem gath_at (v : Vec F S1x1x128 .f32) (s : Fin 8) (l : Fin 128) :
    gath k0_pay966 v (ix3 0 s l) = v (ix3 0 0 ⟨16 * s.val + l.val / 8, by omega⟩) := by
  refine (lanes_at (bc v) k0_pay966 s l _ (by omega) (idx_rows s l)).trans ?_
  unfold bc
  pointwise

theorem tileOf_at (v : Vec F S1x8x128 .f32) (s : Fin 8) (l : Fin 128) :
    tileOf v (ix3 0 s l) = v (ix3 0 s ⟨16 * (l.val % 8) + l.val / 8, by omega⟩) := by
  refine (lanes_at (sq v) tileIdx s l _ (by omega) (idx_tile s l)).trans ?_
  pointwise

theorem permOf_at (v : Vec F S1x8x128 .f32) (s : Fin 8) (l : Fin 128) :
    permOf v (ix3 0 s l) = v (ix3 0 s ⟨8 * (l.val % 16) + l.val / 16, by omega⟩) := by
  refine (lanes_at (sq v) permIdx s l _ (by omega) (idx_perm s l)).trans ?_
  pointwise

end Cert.KernelIdeal.Scan

end
-- ==== Proof.Scan.Rec.lean ====
module

public import Mathlib.Data.EReal.Operations
public import Mathlib.Algebra.BigOperators.Fin

@[expose] public section

noncomputable section

/-!
The reverse-time recurrence, head by head, as a recursion over the extended reals. Operands are functions of
time, head and column; `n` counts the steps done, so that the next one is at time `2047 - n`.
-/

namespace Cert.Recur

/-- An operand: its element at a time, a head and a column. -/
abbrev Opd : Type := Nat → Nat → Nat → EReal

/-- The carried gradient of the state with a step's output gradient added. -/
def plus (r d : Opd) (g : Opd) (n h i j : Nat) : EReal := g h i j + d (2047 - n) h i * r (2047 - n) h j

/-- The sum over the columns `j` of that times an operand. -/
def total (x r d : Opd) (g : Opd) (n h i : Nat) : EReal := ∑ j : Fin 64, plus r d g n h i j * x (2047 - n) h j

/-- The carried gradient of the state after `n` steps: of head `h`, at row `i` and column `j`. -/
def carry (a w b r d : Opd) : Nat → Opd
  | 0 => fun _ _ _ => 0
  | n + 1 => fun h i j => plus r d (carry a w b r d n) n h i j * w (2047 - n) h j
      + total b r d (carry a w b r d n) n h i * a (2047 - n) h j

/-- The gradient at time `t`: the sum with operand `x` in the step at `t`. -/
def grad (a w b r d x : Opd) (t h i : Nat) : EReal := total x r d (carry a w b r d (2047 - t)) (2047 - t) h i

end Cert.Recur

end
-- ==== Proof.Scan.Tiles.lean ====
module

public import proofs.«01_k».proof.Proof.Scan.Lanes
public import proofs.«01_k».proof.Proof.Scan.Model
public import proofs.«01_k».proof.Proof.Scan.Rec

@[expose] public section

noncomputable section

/-!
A step of the kernel on the extended reals: the state's tiles hold the recursion's state, a row of sums is
the recursion's sum.
-/

namespace Cert.KernelIdeal.Scan

open Cert.KernelIdeal.Gen
open Idealize.ShloMosaic
open Cert.Recur

/-- The state's tiles hold `g`: tile `8 jh + ih` at sublane `s` and lane `l` is head `l / 8`, row `8 ih + l % 8`, column `8 jh + s`. -/
def HoldsG (G : MC Ideal) (g : Opd) : Prop := ∀ (jh ih : Nat) (s : Fin 8) (l : Fin 128), jh < 8 → ih < 8 →
  sq (tl G (8 * (jh % 8) + ih % 8) (tile_lt jh ih)) (ix2 s l) = g (l.val / 8) (8 * ih + l.val % 8) (8 * jh + s.val)

/-- The tiles of operand `x` at time `t`. -/
def HoldsX (P : Nat → Vec Ideal S1x8x128 .f32) (x : Opd) (t : Nat) : Prop := ∀ (jh : Nat) (s : Fin 8) (l : Fin 128), jh < 8 →
  P jh (ix3 0 s l) = x t (l.val / 8) (8 * jh + s.val)

/-- The rows of the output gradient at time `t`. -/
def HoldsY (dy : Nat → Vec Ideal S1x1x128 .f32) (d : Opd) (t : Nat) : Prop := ∀ (ih : Nat) (l : Fin 128), ih < 8 →
  dy ih (ix3 0 0 l) = d t (l.val / 8) (8 * ih + l.val % 8)

variable {P : Nat → Nat → Vec Ideal S1x8x128 .f32} {dy : Nat → Vec Ideal S1x1x128 .f32} {G : MC Ideal} {g a w b k r d : Opd} {n : Nat}

theorem bc_at (v : Vec Ideal S1x1x128 .f32) (s : Fin 8) (l : Fin 128) : bc v (ix2 s l) = v (ix3 0 0 l) := by
  unfold bc; pointwise

theorem bc1_at (v : FVec Ideal S1x128 .f32) (s : Fin 8) (l : Fin 128) : bc1 v (ix2 s l) = v (ix2 0 l) := by
  unfold bc1; pointwise

theorem rsum_at (v : FVec Ideal S8x128 .f32) (l : Fin 128) : rsum v (ix2 0 l) = ∑ s : Fin 8, v (ix2 s l) := by
  unfold rsum; pointwise

theorem sq_at (v : Vec Ideal S1x8x128 .f32) (s : Fin 8) (l : Fin 128) : sq v (ix2 s l) = v (ix3 0 s l) := by
  pointwise

theorem news_at (hG : HoldsG G g) (hr : HoldsX (P 4) r (2047 - n)) (hd : HoldsY dy d (2047 - n))
    (jh ih : Nat) (s : Fin 8) (l : Fin 128) (hj : jh < 8) (hi : ih < 8) :
    news P dy G jh ih (ix2 s l) = plus r d g n (l.val / 8) (8 * ih + l.val % 8) (8 * jh + s.val) := by
  have e : news P dy G jh ih (ix2 s l)
      = sq (tl G (8 * (jh % 8) + ih % 8) (tile_lt jh ih)) (ix2 s l) + sq (P 4 jh) (ix2 s l) * bc (dy ih) (ix2 s l) := rfl
  rw [e, hG jh ih s l hj hi, sq_at, bc_at, hr jh s l hj, hd ih l hi, mul_comm (r _ _ _)]
  rfl

theorem sumUp_at (f : Nat → FVec Ideal S8x128 .f32) (y : S8x128.Idx) : ∀ N, sumUp f N y = ∑ i ∈ Finset.range (N + 1), f i y
  | 0 => by simp [sumUp]
  | N + 1 => by rw [Finset.sum_range_succ, ← sumUp_at f y N]; rfl

/-- A sum over 64 columns, taken eight at a time. -/
theorem sum_tiles (f : Nat → EReal) : ∑ s : Fin 8, ∑ jh ∈ Finset.range 8, f (8 * jh + s.val) = ∑ j : Fin 64, f j.val := by
  rw [Fin.sum_univ_eq_sum_range (fun s => ∑ jh ∈ Finset.range 8, f (8 * jh + s)) 8, Fin.sum_univ_eq_sum_range f 64]
  simp only [Finset.sum_range_succ, Finset.sum_range_zero, Nat.reduceMul, Nat.reduceAdd, zero_add]
  ac_rfl

theorem gradRow_at {x : Opd} {m : Nat} (hG : HoldsG G g) (hr : HoldsX (P 4) r (2047 - n)) (hd : HoldsY dy d (2047 - n))
    (hx : HoldsX (P m) x (2047 - n)) (ih : Nat) (l : Fin 128) (hi : ih < 8) :
    gradRow P dy G m ih (ix2 0 l) = total x r d g n (l.val / 8) (8 * ih + l.val % 8) := by
  unfold gradRow sums total
  rw [rsum_at, ← sum_tiles (fun j => plus r d g n (l.val / 8) (8 * ih + l.val % 8) j * x (2047 - n) (l.val / 8) j)]
  refine Finset.sum_congr rfl fun s _ => ?_
  rw [sumUp_at]
  refine Finset.sum_congr rfl fun jh hj => ?_
  have hj := Finset.mem_range.mp hj
  have e : mulf (news P dy G jh ih) (sq (P m jh)) (ix2 s l) = news P dy G jh ih (ix2 s l) * sq (P m jh) (ix2 s l) := rfl
  rw [e, news_at hG hr hd jh ih s l (by omega) hi, sq_at, hx jh s l (by omega)]

theorem sq_unsq (v : FVec Ideal S8x128 .f32) : sq (unsq v) = v := by
  funext j; idx_vars j; pointwise

theorem stepG_at (hG : HoldsG G g) (ha : HoldsX (P 0) a (2047 - n)) (hw : HoldsX (P 1) w (2047 - n)) (hb : HoldsX (P 2) b (2047 - n))
    (hr : HoldsX (P 4) r (2047 - n)) (hd : HoldsY dy d (2047 - n)) :
    HoldsG (stepG P dy G) fun h i j => plus r d g n h i j * w (2047 - n) h j + total b r d g n h i * a (2047 - n) h j := by
  intro jh ih s l hj hi
  unfold stepG
  rw [tl_sweepN _ _ _ _ 8 (by omega), if_pos (by omega), tl_sweepN _ _ _ _ 8 (by omega), if_pos (by omega), sq_unsq, sq_unsq]
  have e1 : (8 * (jh % 8) + ih % 8) / 8 = jh := by omega
  have e2 : (8 * (jh % 8) + ih % 8) % 8 = ih := by omega
  rw [e1, e2]
  have e : ∀ (p q u v : FVec Ideal S8x128 .f32) (y : S8x128.Idx), addf (mulf p q) (mulf u v) y = p y * q y + u y * v y := fun _ _ _ _ _ => rfl
  rw [e, bc1_at, gradRow_at hG hr hd hb ih l hi, sq_at, sq_at, ha jh s l hj, hw jh s l hj]
  have en := news_at (P := P) hG hr hd jh ih s l hj hi
  unfold news at en
  rw [en, mul_comm (a _ _ _)]

/-- A block of 64 times from `t₀` on holds an operand: at time `t₀ + τ`, row `p` and lane `q`, head `q % 16`, column `8 p + q / 16`. -/
def HoldsB (X : MC Ideal) (x : Opd) (t₀ : Nat) : Prop := ∀ (τ : Fin 64) (p : Fin 8) (q : Fin 128),
  X (ix3 τ p q) = x (t₀ + τ.val) (q.val % 16) (8 * p.val + q.val / 16)

theorem rw1_at (X : MC Ideal) (t : Nat) (h : t < 64) (p : Nat) (q : Fin 128) (hp : p < 8) :
    rw1 X t h p (ix3 0 0 q) = X (ix3 ⟨t, h⟩ ⟨p, hp⟩ q) := by
  show X _ = X _
  refine congrArg X (funext fun i => Fin.ext ?_)
  fin_cases i
  · show t + 1 * 0 = t; omega
  · show p % 8 + 1 * 0 = p; omega
  · show 0 + 1 * q.val = q.val; omega

theorem tl_at (X : MC Ideal) (t : Nat) (h : t < 64) (p : Fin 8) (q : Fin 128) : tl X t h (ix3 0 p q) = X (ix3 ⟨t, h⟩ p q) := by
  show X _ = X _
  refine congrArg X (funext fun i => Fin.ext ?_)
  fin_cases i
  · show t + 1 * 0 = t; omega
  · show 0 + 1 * p.val = p.val; omega
  · show 0 + 1 * q.val = q.val; omega

theorem PX_at {X : Nat → MC Ideal} {x : Opd} {t₀ m : Nat} (hX : HoldsB (X m) x t₀) (n t : Nat) (ht : t = t₀ + (63 - n)) :
    HoldsX (PX X n m) x t := by
  intro jh s l hj
  unfold PX
  rw [gath_at, rw1_at _ _ _ _ _ hj, hX, ht]
  congr 1
  · show (16 * s.val + l.val / 8) % 16 = l.val / 8; omega
  · show 8 * jh + (16 * s.val + l.val / 8) / 16 = 8 * jh + s.val; omega

theorem dX_at {Y : MC Ideal} {d : Opd} {t₀ : Nat} (hY : HoldsB Y d t₀) (n t : Nat) (ht : t = t₀ + (63 - n)) : HoldsY (dX Y n) d t := by
  intro ih l hi
  show tileOf (tl Y (63 - n) (by omega)) (ix3 0 ⟨ih % 8, Nat.mod_lt _ (by decide)⟩ l) = _
  rw [tileOf_at, tl_at, hY, ht]
  congr 1
  · show (16 * (l.val % 8) + l.val / 8) % 16 = l.val / 8; omega
  · show 8 * (ih % 8) + (16 * (l.val % 8) + l.val / 8) / 16 = 8 * ih + l.val % 8; omega

/-- The five operands' blocks and the output gradient's, from time `t₀` on. -/
structure Blocks (X : Nat → MC Ideal) (Y : MC Ideal) (a w b k r d : Opd) (t₀ : Nat) : Prop where
  a : HoldsB (X 0) a t₀
  w : HoldsB (X 1) w t₀
  b : HoldsB (X 2) b t₀
  k : HoldsB (X 3) k t₀
  r : HoldsB (X 4) r t₀
  d : HoldsB Y d t₀

variable {X : Nat → MC Ideal} {Y : MC Ideal}

/-- The state along a point: `c` points were done before, of 32. -/
theorem gN_at {c : Nat} (hc : c < 32) (B : Blocks X Y a w b k r d (64 * (31 - c))) (hG : HoldsG G (carry a w b r d (64 * c))) :
    ∀ n, n ≤ 64 → HoldsG (gN X Y G n) (carry a w b r d (64 * c + n))
  | 0, _ => hG
  | n + 1, hn => by
    have ih := gN_at hc B hG n (by omega)
    have e : 2047 - (64 * c + n) = 64 * (31 - c) + (63 - n) := by omega
    exact stepG_at ih (PX_at B.a n _ e) (PX_at B.w n _ e) (PX_at B.b n _ e) (PX_at B.r n _ e) (dX_at B.d n _ e)

theorem asRow_at (v : FVec Ideal S1x128 .f32) (l : Fin 128) : asRow v (ix3 0 0 l) = v (ix2 0 l) := by
  pointwise

/-- A result's block: the recursion's gradients with the operand. -/
theorem outF_at {c m : Nat} {x : Opd} (hc : c < 32) (B : Blocks X Y a w b k r d (64 * (31 - c))) (hG : HoldsG G (carry a w b r d (64 * c)))
    (hx : HoldsB (X m) x (64 * (31 - c))) : HoldsB (outF X Y G m) (grad a w b r d x) (64 * (31 - c)) := by
  intro τ p q
  have e : 2047 - (64 * c + (63 - τ.val)) = 64 * (31 - c) + (63 - (63 - τ.val)) := by omega
  show permOf _ (ix3 0 p q) = _
  rw [permOf_at]
  refine (asRow_at (rowN X Y G m (63 - τ.val) p.val) ⟨8 * (q.val % 16) + q.val / 16, by omega⟩).trans ?_
  unfold rowN
  rw [gradRow_at (gN_at hc B hG (63 - τ.val) (by omega)) (PX_at B.r _ _ e) (dX_at B.d _ _ e) (PX_at hx _ _ e) _ _ p.isLt]
  unfold grad
  have e1 : 64 * c + (63 - τ.val) = 2047 - (64 * (31 - c) + τ.val) := by omega
  have e2 : (8 * (q.val % 16) + q.val / 16) / 8 = q.val % 16 := by omega
  have e3 : 8 * p.val + (8 * (q.val % 16) + q.val / 16) % 8 = 8 * p.val + q.val / 16 := by omega
  dsimp only
  rw [e1, e2, e3]

end Cert.KernelIdeal.Scan

end
-- ==== Proof.Scan.Layout.lean ====
module

public import proofs.«01_k».proof.Proof.Scan.Rec
public import Idealize.ShloMosaic.Lib.Pointwise

@[expose] public section

noncomputable section

/-!
The two programs' arrays as operands of the recursion.
-/

namespace Cert.Recur

open Idealize.ShloMosaic

/-- An argument array of times and columns `64 h + j` as an operand. -/
def opd (x : (⟨2, ![2048, 1024]⟩ : Shape).Idx → EReal) : Opd := fun t h j =>
  x (ix2 ⟨t % 2048, Nat.mod_lt _ (by decide)⟩ ⟨(64 * h + j) % 1024, Nat.mod_lt _ (by decide)⟩)

theorem opd_at (x : (⟨2, ![2048, 1024]⟩ : Shape).Idx → EReal) (t : Fin 2048) (h : Nat) (j : Nat) (q : Fin 1024) (e : q.val = 64 * h + j) :
    opd x t.val h j = x (ix2 t q) := by
  unfold opd
  refine congrArg x ?_
  congr 1
  · exact Fin.ext (Nat.mod_eq_of_lt t.isLt)
  · exact Fin.ext (by show (64 * h + j) % 1024 = q.val; omega)

/-- A result: row `p` and lane `q` of a time's tile are head `q % 16`, row `8 p + q / 16`. -/
def laid (g : Nat → Nat → Nat → EReal) : (⟨3, ![2048, 8, 128]⟩ : Shape).Idx → EReal := fun y =>
  g (y 0).val ((y 2).val % 16) (8 * (y 1).val + (y 2).val / 16)

end Cert.Recur

end
-- ==== Proof.Scan.KValue.lean ====
module

public import proofs.«01_k».proof.Proof.Scan.Frame
public import proofs.«01_k».proof.Proof.Scan.Tiles
public import proofs.«01_k».proof.Proof.Scan.Layout
public import Idealize.ShloMosaic.Lib.Pipeline.ValueKit
public import Idealize.ShloMosaic.Lib.StableHlo.RunRead
public import Idealize.ShloMosaic.Lib.Claim

@[expose] public section

set_option maxRecDepth 16384

noncomputable section

/-!
The kernel's run on the extended reals: its results are the recursion's gradients.
-/

namespace Cert.KernelIdeal.Scan

open Cert.KernelIdeal.Gen
open Idealize.ShloMosaic Idealize.ShloMosaic.TcCoe Idealize.ShloMosaic.StableHlo Idealize.ShloMosaic.Pipeline
open Cert.Recur

variable (m : (ℓ : Loc nD τ sig) → Buf (Elt Ideal) ℓ) (ρ : Dev nD → PrngReg) (c : Dev nD)

/-- The host's layout of an argument. -/
def layK (x : FVec Ideal S2048x1024 .f32) : FVec Ideal S2048x8x128 .f32 :=
  shapeCast S2048x8x128 (transpose S2048x64x16 [0, 2, 1] (shapeCast S2048x16x64 x shapeCasts_S2048x1024_S2048x16x64)
    transposes_S2048x16x64_S2048x64x16_0_2_1) shapeCasts_S2048x64x16_S2048x8x128

/-- An argument laid out by the host, element by element. -/
theorem layK_at (x : FVec Ideal S2048x1024 .f32) (t : Fin 2048) (p : Fin 8) (q : Fin 128) :
    layK x (ix3 t p q) = opd x t.val (q.val % 16) (8 * p.val + q.val / 16) := by
  rw [opd_at x t (q.val % 16) (8 * p.val + q.val / 16) ⟨64 * (q.val % 16) + (8 * p.val + q.val / 16), by omega⟩ rfl]
  unfold layK
  pointwise
  refine congrArg x ?_
  congr 1
  exact Fin.ext (by show q.val % 16 * 64 + (p.val * 8 + q.val / 16) = 64 * (q.val % 16) + (8 * p.val + q.val / 16); omega)

/-- The arrays the call reads are the host's layouts of the arguments. -/
theorem V2 : V m c main_v2 = layK (m ((c.tc : Thread nD τ).loc main_arg0)) := by
  unfold_abbrev_sides
  after_reads_simp
  rfl

theorem V5 : V m c main_v5 = layK (m ((c.tc : Thread nD τ).loc main_arg1)) := by
  unfold_abbrev_sides
  after_reads_simp
  rfl

theorem V8 : V m c main_v8 = layK (m ((c.tc : Thread nD τ).loc main_arg2)) := by
  unfold_abbrev_sides
  after_reads_simp
  rfl

theorem V11 : V m c main_v11 = layK (m ((c.tc : Thread nD τ).loc main_arg3)) := by
  unfold_abbrev_sides
  after_reads_simp
  rfl

theorem V14 : V m c main_v14 = layK (m ((c.tc : Thread nD τ).loc main_arg4)) := by
  unfold_abbrev_sides
  after_reads_simp
  rfl

theorem V17 : V m c main_v17 = layK (m ((c.tc : Thread nD τ).loc main_arg5)) := by
  unfold_abbrev_sides
  after_reads_simp
  rfl

/-- Operand `n` of the call: its argument by time, head and column. -/
def arg (n : Fin 6) : Opd := match n with
  | 0 => opd (m ((c.tc : Thread nD τ).loc main_arg0))
  | 1 => opd (m ((c.tc : Thread nD τ).loc main_arg1))
  | 2 => opd (m ((c.tc : Thread nD τ).loc main_arg2))
  | 3 => opd (m ((c.tc : Thread nD τ).loc main_arg3))
  | 4 => opd (m ((c.tc : Thread nD τ).loc main_arg4))
  | 5 => opd (m ((c.tc : Thread nD τ).loc main_arg5))

theorem time_lt (t : Nat) (τ : Fin 64) : 64 * (31 - t) + τ.val < 2048 := by omega

/-- The windows walk the blocks of 64 times from the last to the first. -/
theorem idx0 : ∀ t : Fin cfg0.N, win0_0.index t = ![31 - t.val, 0, 0] := by decide +kernel
theorem idx1 : ∀ t : Fin cfg0.N, win0_1.index t = ![31 - t.val, 0, 0] := by decide +kernel
theorem idx2 : ∀ t : Fin cfg0.N, win0_2.index t = ![31 - t.val, 0, 0] := by decide +kernel
theorem idx3 : ∀ t : Fin cfg0.N, win0_3.index t = ![31 - t.val, 0, 0] := by decide +kernel
theorem idx4 : ∀ t : Fin cfg0.N, win0_4.index t = ![31 - t.val, 0, 0] := by decide +kernel
theorem idx5 : ∀ t : Fin cfg0.N, win0_5.index t = ![31 - t.val, 0, 0] := by decide +kernel
theorem idx6 : ∀ t : Fin cfg0.N, win0_6.index t = ![31 - t.val, 0, 0] := by decide +kernel
theorem idx7 : ∀ t : Fin cfg0.N, win0_7.index t = ![31 - t.val, 0, 0] := by decide +kernel

/-- So each window's block at point `t` holds its operand at 64 times from `64 * (31 - t)`. -/
theorem blk0 (t : Fin cfg0.N) : HoldsB (iblk m c 0 t) (arg m c 0) (64 * (31 - t.val)) := by
  intro τ p q
  have e : iblk m c 0 t (ix3 τ p q) = V m c main_v2 (ix3 ⟨64 * (31 - t.val) + τ.val, time_lt t.val τ⟩ p q) := by
    blk_ext [iblk, idx0 t]
  rw [e, V2, layK_at]
  rfl

theorem blk1 (t : Fin cfg0.N) : HoldsB (iblk m c 1 t) (arg m c 1) (64 * (31 - t.val)) := by
  intro τ p q
  have e : iblk m c 1 t (ix3 τ p q) = V m c main_v5 (ix3 ⟨64 * (31 - t.val) + τ.val, time_lt t.val τ⟩ p q) := by
    blk_ext [iblk, idx1 t]
  rw [e, V5, layK_at]
  rfl

theorem blk2 (t : Fin cfg0.N) : HoldsB (iblk m c 2 t) (arg m c 2) (64 * (31 - t.val)) := by
  intro τ p q
  have e : iblk m c 2 t (ix3 τ p q) = V m c main_v8 (ix3 ⟨64 * (31 - t.val) + τ.val, time_lt t.val τ⟩ p q) := by
    blk_ext [iblk, idx2 t]
  rw [e, V8, layK_at]
  rfl

theorem blk3 (t : Fin cfg0.N) : HoldsB (iblk m c 3 t) (arg m c 3) (64 * (31 - t.val)) := by
  intro τ p q
  have e : iblk m c 3 t (ix3 τ p q) = V m c main_v11 (ix3 ⟨64 * (31 - t.val) + τ.val, time_lt t.val τ⟩ p q) := by
    blk_ext [iblk, idx3 t]
  rw [e, V11, layK_at]
  rfl

theorem blk4 (t : Fin cfg0.N) : HoldsB (iblk m c 4 t) (arg m c 4) (64 * (31 - t.val)) := by
  intro τ p q
  have e : iblk m c 4 t (ix3 τ p q) = V m c main_v14 (ix3 ⟨64 * (31 - t.val) + τ.val, time_lt t.val τ⟩ p q) := by
    blk_ext [iblk, idx4 t]
  rw [e, V14, layK_at]
  rfl

theorem blk5 (t : Fin cfg0.N) : HoldsB (iblk m c 5 t) (arg m c 5) (64 * (31 - t.val)) := by
  intro τ p q
  have e : iblk m c 5 t (ix3 τ p q) = V m c main_v17 (ix3 ⟨64 * (31 - t.val) + τ.val, time_lt t.val τ⟩ p q) := by
    blk_ext [iblk, idx5 t]
  rw [e, V17, layK_at]
  rfl

/-- The blocks a point reads hold its 64 times. -/
theorem blocks (t : Fin cfg0.N) : Blocks (xAt m c t) (yAt m c t) (arg m c 0) (arg m c 1) (arg m c 2) (arg m c 3) (arg m c 4) (arg m c 5)
    (64 * (31 - t.val)) :=
  ⟨blk0 m c t, blk1 m c t, blk2 m c t, blk3 m c t, blk4 m c t, blk5 m c t⟩

/-- The zero gradient that the first point starts from. -/
theorem zero_at (g : Opd) (h : ∀ a b c, g a b c = 0) : HoldsG (k0_pay965 (F := Ideal)) g := by
  intro jh ih s l _ _
  rw [h]
  have z : ∀ y, k0_pay965 (F := Ideal) y = 0 := fun y => by
    unfold k0_pay965
    pointwise
  have z' : k0_pay965 (F := Ideal) = fun _ => (0 : EReal) := funext z
  rw [z']
  rfl

/-- The carried gradient that point `t` starts from is the recursion's after `64 t` steps. -/
theorem gIn_at : ∀ (n : Nat) (h : n < cfg0.N), HoldsG (gIn m c ⟨n, h⟩) (carry (arg m c 0) (arg m c 1) (arg m c 2) (arg m c 4) (arg m c 5) (64 * n))
  | 0, h => by
    unfold gIn
    rw [startF_zero ⟨0, h⟩ rfl]
    exact zero_at _ fun _ _ _ => rfl
  | n + 1, h => by
    have hn : n < cfg0.N := by omega
    have h32 : n < 32 := hn
    unfold gIn
    rw [startF_succ ⟨n + 1, h⟩ (Nat.succ_ne_zero n)]
    have e : gAt m c (n + 1) = _ := gAt_succ m c ⟨n, hn⟩
    show HoldsG (gAt m c (n + 1)) _
    rw [e]
    exact gN_at h32 (blocks m c ⟨n, hn⟩) (gIn_at n hn) 64 (le_refl _)

/-- The array of window 6: the gradient with operand `b`. -/
theorem array6 : (dats m 0 c).arrAt 6 cfg0.N = laid (grad (arg m c 0) (arg m c 1) (arg m c 2) (arg m c 4) (arg m c 5) (arg m c 2)) := by
  refine (dats m 0 c).arrAt_eq_of_covers 6 _ (by decide +kernel) fun t hf y => ?_
  blk_simp
  rw [after6]
  have h : HoldsB _ _ _ := outF_at (m := 2) t.isLt (blocks m c t) (gIn_at m c t.val t.isLt) (blk2 m c t)
  have e : (win0_6.blk t).view.emb y = ix3 ⟨64 * (31 - t.val) + (y 0).val, time_lt t.val (y 0)⟩ (y 1) (y 2) := by
    blk_ext [idx6 t]
  rw [e]
  refine Eq.trans ?_ (h (y 0) (y 1) (y 2))
  exact congrArg _ (by idx_vars y)

/-- The array of window 7: the gradient with operand `k`. -/
theorem array7 : (dats m 0 c).arrAt 7 cfg0.N = laid (grad (arg m c 0) (arg m c 1) (arg m c 2) (arg m c 4) (arg m c 5) (arg m c 3)) := by
  refine (dats m 0 c).arrAt_eq_of_covers 7 _ (by decide +kernel) fun t hf y => ?_
  blk_simp
  rw [after7]
  have h : HoldsB _ _ _ := outF_at (m := 3) t.isLt (blocks m c t) (gIn_at m c t.val t.isLt) (blk3 m c t)
  have e : (win0_7.blk t).view.emb y = ix3 ⟨64 * (31 - t.val) + (y 0).val, time_lt t.val (y 0)⟩ (y 1) (y 2) := by
    blk_ext [idx7 t]
  rw [e]
  refine Eq.trans ?_ (h (y 0) (y 1) (y 2))
  exact congrArg _ (by idx_vars y)

/-- The kernel's run: both results hold the recursion's gradients and the arguments are as they were. -/
theorem run_grad : θ_run (defs (F := Ideal)) (onTc (τ := τ) (main (F := Ideal))) ⟨m, fun _ => 0, ρ⟩ fun r => ∀ c : Dev nD,
      r.2.mem ((c.tc : Thread nD τ).loc main_v18_0) = laid (grad (arg m c 0) (arg m c 1) (arg m c 2) (arg m c 4) (arg m c 5) (arg m c 2))
      ∧ r.2.mem ((c.tc : Thread nD τ).loc main_v18_1) = laid (grad (arg m c 0) (arg m c 1) (arg m c 2) (arg m c 4) (arg m c 5) (arg m c 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have k (b : Ref sig .tc) (h1 h2) := (h.1 c).2 b (Pipeline.mem_restRefs_of b h1 h2)
    ⟨((h.1 c).1 6).trans (array6 m c), ((h.1 c).1 7).trans (array7 m c),
      (k main_arg0 (by decide) (by decide)).trans (V_main_arg0 m c), (k main_arg1 (by decide) (by decide)).trans (V_main_arg1 m c),
      (k main_arg2 (by decide) (by decide)).trans (V_main_arg2 m c), (k main_arg3 (by decide) (by decide)).trans (V_main_arg3 m c),
      (k main_arg4 (by decide) (by decide)).trans (V_main_arg4 m c), (k main_arg5 (by decide) (by decide)).trans (V_main_arg5 m c)⟩)
    (run_main m ρ)

end Cert.KernelIdeal.Scan

end
-- ==== Proof.Scan.RStep.lean ====
module

public import proofs.«01_k».proof.Proof.Gen.ReferenceIdeal.Run
public import proofs.«01_k».proof.Proof.Scan.Rec
public import Idealize.ShloMosaic.Lib.Pointwise
public import Idealize.ShloMosaic.Lib.DynamicIndex

@[expose] public section

noncomputable section

/-!
One trip of the reference's loop on the extended reals: the operations of the trip on plain arrays, each read
at an index.
-/

namespace Cert.ReferenceIdeal.Value

open Cert.ReferenceIdeal.Gen
open Idealize.ShloMosaic
open Cert.Recur

/-- A time's rows of an array of heads. -/
def rows3 (x : FVec Ideal S2048x16x64 .f32) (st : Fin 3 → Int) : FVec Ideal S16x64 .f32 :=
  shapeCast S16x64 (Host.dynamicSlice S1x16x64 x st sliceFits_S2048x16x64_S1x16x64) shapeCasts_S1x16x64_S16x64

/-- A time's rows of an array of heads with a unit axis, spread over the state's rows. -/
def rows4 (x : FVec Ideal S2048x16x1x64 .f32) (st : Fin 4 → Int) : FVec Ideal S16x64x64 .f32 :=
  broadcastInDim S16x64x64 ![0, 1, 2] bcast_S16x1x64_S16x64x64_0_1_2
    (shapeCast S16x1x64 (Host.dynamicSlice S1x16x1x64 x st sliceFits_S2048x16x1x64_S1x16x1x64) shapeCasts_S1x16x1x64_S16x1x64)

/-- A row of head values spread over the state's columns. -/
def cols (x : FVec Ideal S16x64 .f32) : FVec Ideal S16x64x64 .f32 := broadcastInDim S16x64x64 ![0, 1] bcast_S16x64_S16x64x64_0_1 x

/-- The sum over the state's columns. -/
def sumJ (x : FVec Ideal S16x64x64 .f32) : FVec Ideal S16x64 .f32 :=
  Host.reduceAdd (shapeCast S16x64x1 (Host.reduceAdd x (constant S_ .f32 0x00000000#32) reducesTo_S16x64x64_S16x64_d2 h_S_) shapeCasts_S16x64_S16x64x1)
    (constant S_ .f32 0x00000000#32) reducesTo_S16x64x1_S16x64_d2 h_S_

/-- A time's rows replaced. -/
def setRow (x : FVec Ideal S2048x16x64 .f32) (u : FVec Ideal S16x64 .f32) (st : Fin 3 → Int) : FVec Ideal S2048x16x64 .f32 :=
  Host.dynamicUpdateSlice x (broadcastInDim S1x16x64 ![1, 2] bcast_S16x64_S1x16x64_1_2 u) st updateFits_S2048x16x64_S1x16x64

theorem rows3_at (x : FVec Ideal S2048x16x64 .f32) (st : Fin 3 → Int) (t : Fin 2048) (hs : ∀ k, st k = ((![t.val, 0, 0] : Fin 3 → Nat) k : Int))
    (h : Fin 16) (i : Fin 64) : rows3 x st (ix2 h i) = x (ix3 t h i) := by
  unfold rows3
  rw [Host.dynamicSlice_eq_extractStridedSlice S1x16x64 x st ![t.val, 0, 0] _ ⟨rfl, by
    intro a; fin_cases a
    · show t.val + 1 ≤ 2048; omega
    · show 0 + 16 ≤ 16; omega
    · show 0 + 64 ≤ 64; omega⟩ hs]
  pointwise

theorem rows4_at (x : FVec Ideal S2048x16x1x64 .f32) (st : Fin 4 → Int) (t : Fin 2048) (hs : ∀ k, st k = ((![t.val, 0, 0, 0] : Fin 4 → Nat) k : Int))
    (h : Fin 16) (i j : Fin 64) : rows4 x st (ix3 h i j) = x (ix4 t h 0 j) := by
  unfold rows4
  rw [Host.dynamicSlice_eq_extractStridedSlice S1x16x1x64 x st ![t.val, 0, 0, 0] _ ⟨rfl, by
    intro a; fin_cases a
    · show t.val + 1 ≤ 2048; omega
    · show 0 + 16 ≤ 16; omega
    · show 0 + 1 ≤ 1; omega
    · show 0 + 64 ≤ 64; omega⟩ hs]
  pointwise

theorem cols_at (x : FVec Ideal S16x64 .f32) (h : Fin 16) (i j : Fin 64) : cols x (ix3 h i j) = x (ix2 h i) := by
  unfold cols; pointwise

theorem sumJ_at (x : FVec Ideal S16x64x64 .f32) (h : Fin 16) (i : Fin 64) : sumJ x (ix2 h i) = ∑ j : Fin 64, x (ix3 h i j) := by
  unfold sumJ; pointwise; exact Fin.sum_univ_one _

theorem setRow_at (x : FVec Ideal S2048x16x64 .f32) (u : FVec Ideal S16x64 .f32) (st : Fin 3 → Int) (t : Fin 2048)
    (hs : ∀ k, st k = ((![t.val, 0, 0] : Fin 3 → Nat) k : Int)) (t' : Fin 2048) (h : Fin 16) (i : Fin 64) :
    setRow x u st (ix3 t' h i) = if t' = t then u (ix2 h i) else x (ix3 t' h i) := by
  unfold setRow
  refine (congrFun (Host.dynamicUpdateSlice_eq_updateSlice x _ st updateFits_S2048x16x64_S1x16x64 ![t.val, 0, 0] (by
    intro a; rw [hs a]; fin_cases a
    · show (min (max ((t.val : Nat) : Int) 0) ((2048 - 1 : Nat) : Int)).toNat = t.val; omega
    · rfl
    · rfl) ⟨rfl, by
    intro a; fin_cases a
    · show t.val + 1 ≤ 2048; omega
    · show 0 + 16 ≤ 16; omega
    · show 0 + 64 ≤ 64; omega⟩) _).trans ?_
  pointwise
  by_cases e : t' = t
  · rw [if_pos e, dif_pos (by rw [e]; omega)]
  · rw [if_neg e, dif_neg (by intro hh; exact e (Fin.ext (by omega)))]

/-! ## The trip's contents by these operations -/

/-- The starts of the time's rows. -/
abbrev st3 (w : (⟨S_, .i32⟩ : BufTy).Contents (Elt Ideal)) : Fin 3 → Int := fun k =>
  (((![w, constantI S_ 32 0#32, constantI S_ 32 0#32] : Fin 3 → (⟨S_, .i32⟩ : BufTy).Contents (Elt Ideal))) k (Shape.Idx.first h_S_)).toInt
abbrev st4 (w : (⟨S_, .i32⟩ : BufTy).Contents (Elt Ideal)) : Fin 4 → Int := fun k =>
  (((![w, constantI S_ 32 0#32, constantI S_ 32 0#32, constantI S_ 32 0#32] : Fin 4 → (⟨S_, .i32⟩ : BufTy).Contents (Elt Ideal))) k (Shape.Idx.first h_S_)).toInt

variable (V : Valuation τ sig (Elt Ideal))

theorem v36_eq : res_main_while0b_v36 V = addf (V (Proc.devRef .tc main_v16_7))
    (mulf (cols (rows3 (V (Proc.devRef .tc main_v16_0)) (st3 (res_main_while0b_v26 V)))) (rows4 (V (Proc.devRef .tc main_v16_5)) (st4 (res_main_while0b_v26 V)))) := rfl

theorem v46_eq : res_main_while0b_v46 V
    = sumJ (mulf (res_main_while0b_v36 V) (rows4 (V (Proc.devRef .tc main_v16_3)) (st4 (res_main_while0b_v26 V)))) := rfl

theorem step7_eq : step_main_v16_7 V = addf (mulf (res_main_while0b_v36 V) (rows4 (V (Proc.devRef .tc main_v16_1)) (st4 (res_main_while0b_v26 V))))
    (mulf (cols (res_main_while0b_v46 V)) (rows4 (V (Proc.devRef .tc main_v16_2)) (st4 (res_main_while0b_v26 V)))) := rfl

theorem step8_eq : step_main_v16_8 V = setRow (V (Proc.devRef .tc main_v16_8))
    (sumJ (mulf (res_main_while0b_v36 V) (rows4 (V (Proc.devRef .tc main_v16_4)) (st4 (res_main_while0b_v26 V))))) (st3 (res_main_while0b_v26 V)) := by
  unfold step_main_v16_8 setRow sumJ rows4
  refine (id_eq _).trans ?_
  with_reducible_and_instances rfl

theorem step9_eq : step_main_v16_9 V = setRow (V (Proc.devRef .tc main_v16_9)) (res_main_while0b_v46 V) (st3 (res_main_while0b_v26 V)) := by
  unfold step_main_v16_9 setRow
  refine (id_eq _).trans ?_
  with_reducible_and_instances rfl

/-! ## The loop's invariant -/

/-- An array of heads with a unit axis holds an operand. -/
def Holds4 (x : FVec Ideal S2048x16x1x64 .f32) (o : Opd) : Prop := ∀ (t : Fin 2048) (h : Fin 16) (j : Fin 64), x (ix4 t h 0 j) = o t.val h.val j.val

/-- An array of heads holds an operand from time `t₀` on. -/
def Holds3 (x : FVec Ideal S2048x16x64 .f32) (o : Opd) (t₀ : Nat) : Prop :=
  ∀ (t : Fin 2048) (h : Fin 16) (j : Fin 64), t₀ ≤ t.val → x (ix3 t h j) = o t.val h.val j.val

/-- Before trip `n`: the operands as given, the state the recursion's, the two results right from time `2048 - n` on. -/
structure After (a w b k r d : Opd) (n : Nat) : Prop where
  hd : Holds3 (V (Proc.devRef .tc main_v16_0)) d 0
  hw : Holds4 (V (Proc.devRef .tc main_v16_1)) w
  ha : Holds4 (V (Proc.devRef .tc main_v16_2)) a
  hb : Holds4 (V (Proc.devRef .tc main_v16_3)) b
  hk : Holds4 (V (Proc.devRef .tc main_v16_4)) k
  hr : Holds4 (V (Proc.devRef .tc main_v16_5)) r
  hn : V (Proc.devRef .tc main_v16_6) = fun _ => BitVec.ofNat 32 n
  hg : ∀ (h : Fin 16) (i j : Fin 64), (V (Proc.devRef .tc main_v16_7) : FVec Ideal S16x64x64 .f32) (ix3 h i j) = carry a w b r d n h.val i.val j.val
  hdv : Holds3 (V (Proc.devRef .tc main_v16_8)) (grad a w b r d k) (2048 - n)
  hde : Holds3 (V (Proc.devRef .tc main_v16_9)) (grad a w b r d b) (2048 - n)

variable {V} {a w b k r d : Opd} {n : Nat}

theorem time_val (hn : n < 2048) : ((2048#32 - BitVec.ofNat 32 n) - 1#32 : BitVec 32).toInt = ((2047 - n : Nat) : Int) := by
  have h : ((2048#32 - BitVec.ofNat 32 n) - 1#32 : BitVec 32) = BitVec.ofNat 32 (2047 - n) := by
    apply BitVec.eq_of_toNat_eq
    simp only [BitVec.toNat_sub, BitVec.toNat_ofNat]
    omega
  rw [h, BitVec.toInt_eq_toNat_of_lt (by rw [BitVec.toNat_ofNat]; omega), BitVec.toNat_ofNat, Nat.mod_eq_of_lt (by omega)]

theorem v26_at (hV : After V a w b k r d n) : res_main_while0b_v26 V = fun _ => (2048#32 - BitVec.ofNat 32 n) - 1#32 := by
  unfold res_main_while0b_v26
  rw [hV.hn]
  rfl

/-- The time of trip `n`. -/
abbrev tm (hn : n < 2048) : Fin 2048 := ⟨2047 - n, by omega⟩

theorem st3_at (hV : After V a w b k r d n) (hn : n < 2048) : ∀ k, st3 (res_main_while0b_v26 V) k = ((![(tm hn).val, 0, 0] : Fin 3 → Nat) k : Int) := by
  rw [v26_at hV]
  intro k; fin_cases k
  · exact time_val hn
  · rfl
  · rfl

theorem st4_at (hV : After V a w b k r d n) (hn : n < 2048) : ∀ k, st4 (res_main_while0b_v26 V) k = ((![(tm hn).val, 0, 0, 0] : Fin 4 → Nat) k : Int) := by
  rw [v26_at hV]
  intro k; fin_cases k
  · exact time_val hn
  · rfl
  · rfl
  · rfl

theorem v36_at (hV : After V a w b k r d n) (hn : n < 2048) (h : Fin 16) (i j : Fin 64) :
    (res_main_while0b_v36 V : FVec Ideal S16x64x64 .f32) (ix3 h i j) = plus r d (carry a w b r d n) n h.val i.val j.val := by
  rw [v36_eq]
  have e : ∀ (p q u : FVec Ideal S16x64x64 .f32) (y : S16x64x64.Idx), addf p (mulf q u) y = p y + q y * u y := fun _ _ _ _ => rfl
  refine (e _ _ _ _).trans ?_
  rw [cols_at, rows3_at _ _ _ (st3_at hV hn), rows4_at _ _ _ (st4_at hV hn), hV.hd _ _ _ (Nat.zero_le _), hV.hr]
  exact congrArg (· + _) (hV.hg h i j)

theorem tot_at (hV : After V a w b k r d n) (hn : n < 2048) {x : Opd} {X : FVec Ideal S2048x16x1x64 .f32} (hx : Holds4 X x) (h : Fin 16) (i : Fin 64) :
    sumJ (mulf (res_main_while0b_v36 V) (rows4 X (st4 (res_main_while0b_v26 V)))) (ix2 h i) = total x r d (carry a w b r d n) n h.val i.val := by
  rw [sumJ_at]
  refine Finset.sum_congr rfl fun j _ => ?_
  have e : ∀ (p q : FVec Ideal S16x64x64 .f32) (y : S16x64x64.Idx), mulf p q y = p y * q y := fun _ _ _ => rfl
  refine (e _ _ _).trans ?_
  rw [rows4_at _ _ _ (st4_at hV hn), hx]
  exact congrArg (· * _) (v36_at hV hn h i j)

theorem Holds3.set {X : FVec Ideal S2048x16x64 .f32} {x : Opd} (hX : Holds3 X (grad a w b r d x) (2048 - n)) (hn : n < 2048)
    {u : FVec Ideal S16x64 .f32} (hu : ∀ h i, u (ix2 h i) = total x r d (carry a w b r d n) n h.val i.val)
    {st : Fin 3 → Int} (hs : ∀ k, st k = ((![(tm hn).val, 0, 0] : Fin 3 → Nat) k : Int)) :
    Holds3 (setRow X u st) (grad a w b r d x) (2048 - (n + 1)) := by
  intro t h i ht
  rw [setRow_at _ _ _ _ hs]
  by_cases e : t = tm hn
  · rw [if_pos e, hu]
    have e2 : n = 2047 - t.val := by rw [e]; show n = 2047 - (2047 - n); omega
    unfold grad
    rw [← e2]
  · rw [if_neg e]
    refine hX t h i ?_
    have : t.val ≠ 2047 - n := fun hh => e (Fin.ext hh)
    omega

/-- One trip keeps the invariant. -/
theorem After.step (hV : After V a w b k r d n) (hn : n < 2048) : After (STEP V) a w b k r d (n + 1) where
  hd := by rw [STEP_main_v16_0]; exact hV.hd
  hw := by rw [STEP_main_v16_1]; exact hV.hw
  ha := by rw [STEP_main_v16_2]; exact hV.ha
  hb := by rw [STEP_main_v16_3]; exact hV.hb
  hk := by rw [STEP_main_v16_4]; exact hV.hk
  hr := by rw [STEP_main_v16_5]; exact hV.hr
  hn := by
    rw [STEP_main_v16_6]; unfold step_main_v16_6; rw [hV.hn]
    funext j
    exact (BitVec.ofNat_add n 1).symm
  hg := fun h i j => by
    rw [STEP_main_v16_7, step7_eq]
    have e : ∀ (p q u v : FVec Ideal S16x64x64 .f32) (y : S16x64x64.Idx), addf (mulf p q) (mulf u v) y = p y * q y + u y * v y := fun _ _ _ _ _ => rfl
    refine (e _ _ _ _ _).trans ?_
    rw [cols_at, rows4_at _ _ _ (st4_at hV hn), rows4_at _ _ _ (st4_at hV hn), hV.hw, hV.ha, v46_eq, tot_at hV hn hV.hb]
    exact congrArg (· * _ + _) (v36_at hV hn h i j)
  hdv := by
    rw [STEP_main_v16_8, step8_eq]
    exact hV.hdv.set hn (tot_at hV hn hV.hk) (st3_at hV hn)
  hde := by
    rw [STEP_main_v16_9, step9_eq, v46_eq]
    exact hV.hde.set hn (tot_at hV hn hV.hb) (st3_at hV hn)

theorem After.iterate (hV : After V a w b k r d 0) : ∀ n, n ≤ 2048 → After (STEP^[n] V) a w b k r d n
  | 0, _ => hV
  | n + 1, hn => by rw [Function.iterate_succ_apply']; exact (hV.iterate n (by omega)).step (by omega)

end Cert.ReferenceIdeal.Value

end
-- ==== Proof.Scan.RValue.lean ====
module

public import proofs.«01_k».proof.Proof.Scan.RStep
public import proofs.«01_k».proof.Proof.Scan.Layout
public import Idealize.ShloMosaic.Lib.Pointwise

@[expose] public section

set_option maxRecDepth 16384

noncomputable section

/-!
The reference's run on the extended reals: its results are the recursion's gradients.
-/

namespace Cert.ReferenceIdeal.Value

open Cert.ReferenceIdeal.Gen
open Idealize.ShloMosaic Idealize.ShloMosaic.TcCoe Idealize.ShloMosaic.StableHlo
open Cert.Recur

variable (m : (ℓ : Loc nD τ sig) → Buf (Elt Ideal) ℓ) (ρ : Dev nD → PrngReg) (c : Dev nD)

/-- An argument's heads. -/
def heads (x : FVec Ideal S2048x1024 .f32) : FVec Ideal S2048x16x64 .f32 := shapeCast S2048x16x64 x shapeCasts_S2048x1024_S2048x16x64
/-- An argument's heads with a unit axis. -/
def heads1 (x : FVec Ideal S2048x1024 .f32) : FVec Ideal S2048x16x1x64 .f32 :=
  broadcastInDim S2048x16x1x64 ![0, 1, 3] bcast_S2048x16x64_S2048x16x1x64_0_1_3 (heads x)

theorem heads_holds (x : FVec Ideal S2048x1024 .f32) : Holds3 (heads x) (opd x) 0 := by
  intro t h j _
  unfold heads
  rw [opd_at x t h.val j.val ⟨64 * h.val + j.val, by omega⟩ rfl]
  pointwise
  refine congrArg x ?_
  congr 1
  exact Fin.ext (by show h.val * 64 + j.val = 64 * h.val + j.val; omega)

theorem heads1_holds (x : FVec Ideal S2048x1024 .f32) : Holds4 (heads1 x) (opd x) := by
  intro t h j
  rw [← heads_holds x t h j (Nat.zero_le _)]
  unfold heads1
  pointwise

theorem entry0 : entryContents preI m c (Proc.devRef .tc main_v16_0) = heads (m ((c.tc : Thread nD τ).loc main_arg5)) := by
  simp only [entryContents, afterL_cons, afterL_nil]
  after_reads_simp
  rfl
theorem entry1 : entryContents preI m c (Proc.devRef .tc main_v16_1) = heads1 (m ((c.tc : Thread nD τ).loc main_arg1)) := by
  simp only [entryContents, afterL_cons, afterL_nil]
  after_reads_simp
  rfl
theorem entry2 : entryContents preI m c (Proc.devRef .tc main_v16_2) = heads1 (m ((c.tc : Thread nD τ).loc main_arg0)) := by
  simp only [entryContents, afterL_cons, afterL_nil]
  after_reads_simp
  rfl
theorem entry3 : entryContents preI m c (Proc.devRef .tc main_v16_3) = heads1 (m ((c.tc : Thread nD τ).loc main_arg2)) := by
  simp only [entryContents, afterL_cons, afterL_nil]
  after_reads_simp
  rfl
theorem entry4 : entryContents preI m c (Proc.devRef .tc main_v16_4) = heads1 (m ((c.tc : Thread nD τ).loc main_arg3)) := by
  simp only [entryContents, afterL_cons, afterL_nil]
  after_reads_simp
  rfl
theorem entry5 : entryContents preI m c (Proc.devRef .tc main_v16_5) = heads1 (m ((c.tc : Thread nD τ).loc main_arg4)) := by
  simp only [entryContents, afterL_cons, afterL_nil]
  after_reads_simp
  rfl
/-- The state at first: zero. -/
def zeroS : FVec Ideal S16x64x64 .f32 := broadcastInDim S16x64x64 ![] bcast_S_S16x64x64 (constant S_ .f32 0x00000000#32)
theorem zeroS_at (h : Fin 16) (i j : Fin 64) : zeroS (ix3 h i j) = 0 := by
  unfold zeroS; pointwise
theorem entry7 : entryContents preI m c (Proc.devRef .tc main_v16_7) = zeroS := by
  simp only [entryContents, afterL_cons, afterL_nil]
  after_reads_simp
  rfl

/-- The six arguments as operands. -/
abbrev arg (n : Fin 6) : Opd := opd (match n with
  | 0 => m ((c.tc : Thread nD τ).loc main_arg0)
  | 1 => m ((c.tc : Thread nD τ).loc main_arg1)
  | 2 => m ((c.tc : Thread nD τ).loc main_arg2)
  | 3 => m ((c.tc : Thread nD τ).loc main_arg3)
  | 4 => m ((c.tc : Thread nD τ).loc main_arg4)
  | 5 => m ((c.tc : Thread nD τ).loc main_arg5))

theorem start : After (entryContents preI m c) (arg m c 0) (arg m c 1) (arg m c 2) (arg m c 3) (arg m c 4) (arg m c 5) 0 where
  hd := by rw [entry0]; exact heads_holds _
  hw := by rw [entry1]; exact heads1_holds _
  ha := by rw [entry2]; exact heads1_holds _
  hb := by rw [entry3]; exact heads1_holds _
  hk := by rw [entry4]; exact heads1_holds _
  hr := by rw [entry5]; exact heads1_holds _
  hn := ctr_entry m c
  hg := fun h i j => by rw [entry7]; exact zeroS_at h i j
  hdv := fun t _ _ ht => absurd t.isLt (by omega)
  hde := fun t _ _ ht => absurd t.isLt (by omega)

/-- A result's layout. -/
def layR (x : FVec Ideal S2048x16x64 .f32) : FVec Ideal S2048x8x128 .f32 :=
  shapeCast S2048x8x128 (transpose S2048x64x16 [0, 2, 1] (shapeCast S2048x16x64 (shapeCast S2048x1024 x shapeCasts_S2048x16x64_S2048x1024)
    shapeCasts_S2048x1024_S2048x16x64) transposes_S2048x16x64_S2048x64x16_0_2_1) shapeCasts_S2048x64x16_S2048x8x128

theorem layR_at {x : FVec Ideal S2048x16x64 .f32} {g : Opd} (hx : Holds3 x g 0) : layR x = laid g := by
  funext y
  idx_vars y
  unfold layR laid
  pointwise
  rw [hx _ _ _ (Nat.zero_le _), Nat.mul_comm 8 y1.val]

theorem run_grad : θ_run (defs (F := Ideal)) (onTc (τ := τ) (main (F := Ideal))) ⟨m, fun _ => 0, ρ⟩ fun r => ∀ c : Dev nD,
      r.2.mem ((c.tc : Thread nD τ).loc main_v21) = laid (grad (arg m c 0) (arg m c 1) (arg m c 2) (arg m c 4) (arg m c 5) (arg m c 2))
      ∧ r.2.mem ((c.tc : Thread nD τ).loc main_v24) = laid (grad (arg m c 0) (arg m c 1) (arg m c 2) (arg m c 4) (arg m c 5) (arg m c 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (layR_at ((start m c).iterate 2048 (le_refl _)).hde),
    (h c).2.1.trans (layR_at ((start m c).iterate 2048 (le_refl _)).hdv), (h c).2.2⟩) (run m ρ)

end Cert.ReferenceIdeal.Value

end
-- ==== Proof.Ffn.Dw.lean ====
module

public import proofs.«01_k».proof.Defs
public import proofs.«01_k».proof.Proof.Gen.Dw
public import proofs.«01_k».proof.Proof.Gen.DwIdeal.Value
public import proofs.«01_k».proof.Proof.Gen.DwRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The calls f1_dwu, f1_dwg, f2_dwu, f2_dwg: the gradient of an entry matrix of the feed-forward network.
-/

namespace Cert.DwIdeal.Value

open Cert.DwIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The product. -/
def spec (x : FVec Ideal S2048x2048 .f32) (z : FVec Ideal S2048x5632 .f32) : FVec Ideal S2048x5632 .f32 :=
  fun y => ∑ k : Fin 2048, x (ix2 k (y 0)) * z (ix2 k (y 1))

/-- The array that the kernel leaves. -/
theorem array : (dats m 0 c).arrAt 2 cfg0.N = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 spec
  obtain ⟨e0, e1, e2⟩ := index_eq t
  pointwise
  blk_point [iblk, V, e0, e1, e2]

/-- The reference's array. -/
theorem ref_term (x : FVec Ideal S2048x2048 .f32) (z : FVec Ideal S2048x5632 .f32) :
    truncf .bf16 (transpose Cert.DwRefIdeal.S2048x5632 [1, 0] (Host.dotGeneral Cert.DwRefIdeal.dot_S2048x5632_S2048x2048_S5632x2048_0_0_1_1_n_n none z x)
        Cert.DwRefIdeal.Gen.transposes_S5632x2048_S2048x5632_1_0) Cert.DwRefIdeal.Gen.bitsLt_bf16_f32
      = spec x z := by
  funext y
  unfold spec
  pointwise
  exact Finset.sum_congr rfl fun _ _ => mul_comm _ _

/-- Both arrays agree. -/
theorem agree : Cert.algebraic_DwIdeal_DwRefIdeal (hDwIdeal := Cert.DwIdeal.Gen.facts) (hDwRefIdeal := Cert.DwRefIdeal.Gen.facts) := by
  intro m ρ m' ρ' _ hag
  refine ⟨fun c => spec (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.DwRefIdeal.Value.run m' ρ')⟩
  rw [(hag c).1, (hag c).2]
  rfl

/-! ## The frames -/

set_option maxHeartbeats 0 in
theorem main_same : (Cert.Dw.main (F := Bits)) = (Cert.DwIdeal.main (F := Bits)) := rfl

set_option maxHeartbeats 0 in
theorem defs_same : (Cert.Dw.defs (F := Bits)) = (Cert.DwIdeal.defs (F := Bits)) := by sl_kernel_rfl

theorem frame_ideal : Cert.quiescent_DwIdeal (hDwIdeal := Cert.DwIdeal.Gen.facts) := fun m ρ _ => Cert.DwIdeal.Gen.frame m ρ

theorem frame_bits : Cert.quiescent_Dw (hDw := Cert.Dw.Gen.facts) := by
  intro m ρ _
  rw [main_same, defs_same]
  exact Cert.DwIdeal.Gen.frame (F := Bits) m ρ

theorem frame_reference : Cert.quiescent_DwRefIdeal (hDwRefIdeal := Cert.DwRefIdeal.Gen.facts) := fun m ρ _ =>
  (θ_run _ _ _).mono (fun r h => ⟨fun c => (h c).2, sem_eq_zero_of_no_sems (by decide) r.2⟩) (Cert.DwRefIdeal.Value.run (F := Ideal) m ρ)

end Cert.DwIdeal.Value

end
-- ==== Proof.Ffn.Half.lean ====
module

public import Mathlib.Algebra.BigOperators.Fin
public import Idealize.ShloMosaic.PureOps.Ideal.Laws

@[expose] public section

noncomputable section

/-!
One half as an extended real: it distributes over sums.
-/

namespace Cert.Ffn

open Idealize.ShloMosaic

/-- The factor of the macaron half step. -/
def half : EReal := ((1 / 2 : ℝ) : EReal)

/-- The constant as printed. -/
theorem ofBits_half : Ideal.ofBits .f32 0x3F000000#32 = half := by
  unfold half
  simp [Ideal.ofBits, Ideal.ieee, -EReal.coe_mul]
  norm_num

theorem half_add (x y : EReal) : half * (x + y) = half * x + half * y :=
  EReal.left_distrib_of_nonneg_of_ne_top (EReal.coe_nonneg.mpr (by norm_num)) (EReal.coe_ne_top _) x y

theorem half_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

end Cert.Ffn

end
-- ==== Proof.Ffn.Dwd.lean ====
module

public import proofs.«01_k».proof.Defs
public import proofs.«01_k».proof.Proof.Gen.Dwd
public import proofs.«01_k».proof.Proof.Gen.DwdIdeal.Value
public import proofs.«01_k».proof.Proof.Gen.DwdRefIdeal.Run
public import Idealize.ShloMosaic.Lib.Pipeline.ValueKit
public import Idealize.ShloMosaic.Lib.StableHlo.RunRead
public import Idealize.ShloMosaic.Lib.Quiescent
public import Idealize.ShloMosaic.Lib.Claim
public import proofs.«01_k».proof.Proof.Ffn.Half

@[expose] public section

set_option maxRecDepth 16384

noncomputable section

/-!
The calls f1_dwd, f2_dwd: the gradient of the exit matrix of the feed-forward network.
-/

namespace Cert.DwdIdeal.Value

open Cert.DwdIdeal.Gen Cert.Ffn
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The product. -/
def spec (x : FVec Ideal S2048x5632 .f32) (z : FVec Ideal S2048x2048 .f32) : FVec Ideal S5632x2048 .f32 :=
  fun y => half * ∑ k : Fin 2048, x (ix2 k (y 0)) * z (ix2 k (y 1))

/-- The array that the kernel leaves. -/
theorem array : (dats m 0 c).arrAt 2 cfg0.N = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 spec
  obtain ⟨e0, e1, e2⟩ := index_eq t
  pointwise
  rw [show Ideal.ofBits FTy.f32 1056964608#32 = half from ofBits_half, mul_comm]
  refine congrArg (half * ·) ?_
  blk_point [iblk, V, e0, e1, e2]

/-- The reference's array. -/
theorem ref_term (x : FVec Ideal S2048x5632 .f32) (z : FVec Ideal S2048x2048 .f32) :
    truncf .bf16 (transpose Cert.DwdRefIdeal.S5632x2048 [1, 0] (Host.dotGeneral Cert.DwdRefIdeal.dot_S2048x2048_S2048x5632_S2048x5632_0_0_1_1_n_n none
        (mulf (broadcastInDim Cert.DwdRefIdeal.S2048x2048 ![] Cert.DwdRefIdeal.Gen.bcast_S_S2048x2048 (constant Cert.DwdRefIdeal.S_ .f32 0x3F000000#32)) z) x)
        Cert.DwdRefIdeal.Gen.transposes_S2048x5632_S5632x2048_1_0) Cert.DwdRefIdeal.Gen.bitsLt_bf16_f32
      = spec x z := by
  funext y
  unfold spec
  pointwise
  rw [half_sum]
  refine Finset.sum_congr rfl fun _ _ => ?_
  rw [show Ideal.ofBits FTy.f32 1056964608#32 = half from ofBits_half, mul_assoc, mul_comm (z _)]

/-- Both arrays agree. -/
theorem agree : Cert.algebraic_DwdIdeal_DwdRefIdeal (hDwdIdeal := Cert.DwdIdeal.Gen.facts) (hDwdRefIdeal := Cert.DwdRefIdeal.Gen.facts) := by
  intro m ρ m' ρ' _ hag
  refine ⟨fun c => spec (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.DwdRefIdeal.Value.run m' ρ')⟩
  rw [(hag c).1, (hag c).2]
  rfl

/-! ## The frames -/

set_option maxHeartbeats 0 in
theorem main_same : (Cert.Dwd.main (F := Bits)) = (Cert.DwdIdeal.main (F := Bits)) := rfl

set_option maxHeartbeats 0 in
theorem defs_same : (Cert.Dwd.defs (F := Bits)) = (Cert.DwdIdeal.defs (F := Bits)) := by sl_kernel_rfl

theorem frame_ideal : Cert.quiescent_DwdIdeal (hDwdIdeal := Cert.DwdIdeal.Gen.facts) := fun m ρ _ => Cert.DwdIdeal.Gen.frame m ρ

theorem frame_bits : Cert.quiescent_Dwd (hDwd := Cert.Dwd.Gen.facts) := by
  intro m ρ _
  rw [main_same, defs_same]
  exact Cert.DwdIdeal.Gen.frame (F := Bits) m ρ

theorem frame_reference : Cert.quiescent_DwdRefIdeal (hDwdRefIdeal := Cert.DwdRefIdeal.Gen.facts) := fun m ρ _ =>
  (θ_run _ _ _).mono (fun r h => ⟨fun c => (h c).2, sem_eq_zero_of_no_sems (by decide) r.2⟩) (Cert.DwdRefIdeal.Value.run (F := Ideal) m ρ)

end Cert.DwdIdeal.Value

end
-- ==== Proof.Ffn.Silu.lean ====
module

public import Mathlib.Tactic.Ring
public import Mathlib.Tactic.NormNum
public import Idealize.ShloMosaic.PureOps.Ideal.Laws

@[expose] public section

noncomputable section

/-!
The derivative of `g * logistic g`, as the call writes it and as the product rule writes it.
-/

namespace Cert.Ffn

open Idealize.ShloMosaic

/-- The derivative as the call writes it. -/
def siluSlope (g : EReal) : EReal := Ideal.logistic g * (1 + g * (1 - Ideal.logistic g))

/-- The product rule's form, at every extended real: at `⊥` both are zero, at `⊤` both are one. -/
theorem product_rule (g : EReal) : Ideal.logistic g + g * (Ideal.logistic g * (1 - Ideal.logistic g)) = siluSlope g := by
  unfold siluSlope
  induction g using EReal.rec with
  | bot => simp
  | top =>
    have h : (1 : EReal) - 1 = 0 := EReal.sub_self (EReal.coe_ne_top 1) (EReal.coe_ne_bot 1)
    simp [h]
  | coe r =>
    rw [Ideal.logistic_coe]
    norm_cast
    ring

end Cert.Ffn

end
-- ==== Proof.Ffn.Dact.lean ====
module

public import proofs.«01_k».proof.Defs
public import proofs.«01_k».proof.Proof.Gen.Dact
public import proofs.«01_k».proof.Proof.Gen.DactIdeal.Value
public import proofs.«01_k».proof.Proof.Gen.DactRefIdeal.Run
public import Idealize.ShloMosaic.Lib.Pipeline.ValueKit
public import Idealize.ShloMosaic.Lib.StableHlo.RunRead
public import Idealize.ShloMosaic.Lib.Quiescent
public import Idealize.ShloMosaic.Lib.Claim
public import proofs.«01_k».proof.Proof.Ffn.Half
public import proofs.«01_k».proof.Proof.Ffn.Silu

@[expose] public section

set_option maxRecDepth 16384

noncomputable section

/-!
The calls f1_dact, f2_dact: the cotangents of the two products in front of the activation.
-/

namespace Cert.DactIdeal.Value

open Cert.DactIdeal.Gen Cert.Ffn
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] := by decide +kernel

/-- The cotangent of the activation. -/
def da (x : FVec Ideal S2048x2048 .f32) (w : FVec Ideal S5632x2048 .f32) : FVec Ideal S2048x5632 .f32 :=
  fun y => half * ∑ k : Fin 2048, x (ix2 (y 0) k) * w (ix2 (y 1) k)

/-- The cotangent of the gate's product. -/
def specG (x : FVec Ideal S2048x2048 .f32) (w : FVec Ideal S5632x2048 .f32) (g u : FVec Ideal S2048x5632 .f32) : FVec Ideal S2048x5632 .f32 :=
  fun y => da x w y * u y * siluSlope (g y)

/-- The cotangent of the other product. -/
def specU (x : FVec Ideal S2048x2048 .f32) (w : FVec Ideal S5632x2048 .f32) (g : FVec Ideal S2048x5632 .f32) : FVec Ideal S2048x5632 .f32 :=
  fun y => da x w y * (g y * Ideal.logistic (g y))

/-- The first array that the kernel leaves. -/
theorem arrayG : (dats m 0 c).arrAt 4 cfg0.N = specG (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  unfold k0_pay3 k0_pay2 k0_pay1 specG da siluSlope
  obtain ⟨e0, e1, e2, e3, e4, e5⟩ := index_eq t
  pointwise
  rw [show Ideal.ofBits FTy.f32 1056964608#32 = half from ofBits_half]
  refine congrArg₂ (· * ·) (congrArg₂ (fun a u : EReal => half * a * u) ?_ ?_)
    (congrArg (fun g : EReal => Ideal.logistic g * (1 + g * (1 - Ideal.logistic g))) ?_)
  · blk_point [iblk, V, e0, e1, e4]
  · blk_point [iblk, V, e3, e4]
  · blk_point [iblk, V, e2, e4]

/-- The second array. -/
theorem arrayU : (dats m 0 c).arrAt 5 cfg0.N = specU (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  unfold k0_pay4 k0_pay2 k0_pay1 specU da
  obtain ⟨e0, e1, e2, e3, e4, e5⟩ := index_eq t
  pointwise
  rw [show Ideal.ofBits FTy.f32 1056964608#32 = half from ofBits_half]
  refine congrArg₂ (fun a g : EReal => half * a * (g * Ideal.logistic g)) ?_ ?_
  · blk_point [iblk, V, e0, e1, e5]
  · blk_point [iblk, V, e2, e5]

/-- The reference's first array. -/
theorem ref_termG (x : FVec Ideal S2048x2048 .f32) (w : FVec Ideal S5632x2048 .f32) (g u : FVec Ideal S2048x5632 .f32) :
    truncf .bf16 (mulf (mulf (Host.dotGeneral Cert.DactRefIdeal.dot_S2048x2048_S5632x2048_S2048x5632_1_1_0_0_n_n none
        (mulf (broadcastInDim Cert.DactRefIdeal.S2048x2048 ![] Cert.DactRefIdeal.Gen.bcast_S_S2048x2048 (constant Cert.DactRefIdeal.S_ .f32 0x3F000000#32)) x) w) u) (addf (mulf (broadcastInDim Cert.DactRefIdeal.S2048x5632 ![] Cert.DactRefIdeal.Gen.bcast_S_S2048x5632 (constant Cert.DactRefIdeal.S_ .f32 0x3F800000#32)) (Host.divf (broadcastInDim Cert.DactRefIdeal.S2048x5632 ![] Cert.DactRefIdeal.Gen.bcast_S_S2048x5632 (constant Cert.DactRefIdeal.S_ .f32 0x3F800000#32))
        (addf (broadcastInDim Cert.DactRefIdeal.S2048x5632 ![] Cert.DactRefIdeal.Gen.bcast_S_S2048x5632 (constant Cert.DactRefIdeal.S_ .f32 0x3F800000#32)) (Host.exp (Host.negf g)))))
        (mulf (mulf g (broadcastInDim Cert.DactRefIdeal.S2048x5632 ![] Cert.DactRefIdeal.Gen.bcast_S_S2048x5632 (constant Cert.DactRefIdeal.S_ .f32 0x3F800000#32))) (mulf (Host.divf (broadcastInDim Cert.DactRefIdeal.S2048x5632 ![] Cert.DactRefIdeal.Gen.bcast_S_S2048x5632 (constant Cert.DactRefIdeal.S_ .f32 0x3F800000#32))
        (addf (broadcastInDim Cert.DactRefIdeal.S2048x5632 ![] Cert.DactRefIdeal.Gen.bcast_S_S2048x5632 (constant Cert.DactRefIdeal.S_ .f32 0x3F800000#32)) (Host.exp (Host.negf g)))) (subf (broadcastInDim Cert.DactRefIdeal.S2048x5632 ![] Cert.DactRefIdeal.Gen.bcast_S_S2048x5632 (constant Cert.DactRefIdeal.S_ .f32 0x3F800000#32)) (Host.divf (broadcastInDim Cert.DactRefIdeal.S2048x5632 ![] Cert.DactRefIdeal.Gen.bcast_S_S2048x5632 (constant Cert.DactRefIdeal.S_ .f32 0x3F800000#32))
        (addf (broadcastInDim Cert.DactRefIdeal.S2048x5632 ![] Cert.DactRefIdeal.Gen.bcast_S_S2048x5632 (constant Cert.DactRefIdeal.S_ .f32 0x3F800000#32)) (Host.exp (Host.negf g))))))))) Cert.DactRefIdeal.Gen.bitsLt_bf16_f32
      = specG x w g u := by
  funext y
  unfold specG da
  rw [← product_rule]
  pointwise
  rw [show Ideal.ofBits FTy.f32 1056964608#32 = half from ofBits_half, half_sum]
  simp only [mul_assoc]
  rfl

/-- The reference's second array. -/
theorem ref_termU (x : FVec Ideal S2048x2048 .f32) (w : FVec Ideal S5632x2048 .f32) (g : FVec Ideal S2048x5632 .f32) :
    truncf .bf16 (mulf (Host.dotGeneral Cert.DactRefIdeal.dot_S2048x2048_S5632x2048_S2048x5632_1_1_0_0_n_n none
        (mulf (broadcastInDim Cert.DactRefIdeal.S2048x2048 ![] Cert.DactRefIdeal.Gen.bcast_S_S2048x2048 (constant Cert.DactRefIdeal.S_ .f32 0x3F000000#32)) x) w) (mulf g (Host.divf (broadcastInDim Cert.DactRefIdeal.S2048x5632 ![] Cert.DactRefIdeal.Gen.bcast_S_S2048x5632 (constant Cert.DactRefIdeal.S_ .f32 0x3F800000#32))
        (addf (broadcastInDim Cert.DactRefIdeal.S2048x5632 ![] Cert.DactRefIdeal.Gen.bcast_S_S2048x5632 (constant Cert.DactRefIdeal.S_ .f32 0x3F800000#32)) (Host.exp (Host.negf g)))))) Cert.DactRefIdeal.Gen.bitsLt_bf16_f32
      = specU x w g := by
  funext y
  unfold specU da
  pointwise
  rw [show Ideal.ofBits FTy.f32 1056964608#32 = half from ofBits_half, half_sum]
  simp only [mul_assoc]
  rfl

/-- Both arrays agree. -/
theorem agree : Cert.algebraic_DactIdeal_DactRefIdeal (hDactIdeal := Cert.DactIdeal.Gen.facts) (hDactRefIdeal := Cert.DactRefIdeal.Gen.facts) := by
  intro m ρ m' ρ' _ hag
  refine ⟨fun c => specG (m ((c.tc : Thread nD τ).loc main_arg0)) (m ((c.tc : Thread nD τ).loc main_arg1)) (m ((c.tc : Thread nD τ).loc main_arg2)) (m ((c.tc : Thread nD τ).loc main_arg3)),
    fun c => specU (m ((c.tc : Thread nD τ).loc main_arg0)) (m ((c.tc : Thread nD τ).loc main_arg1)) (m ((c.tc : Thread nD τ).loc main_arg2)),
    (θ_run _ _ _).mono (fun r h c => ⟨(h c).1.trans (arrayG m c), (h c).2.1.trans (arrayU m c), (h c).2.2⟩) (run_blocks m ρ),
    (θ_run _ _ _).mono (fun r h c => ⟨(h c).1.trans ((ref_termG _ _ _ _).trans ?_), (h c).2.1.trans ((ref_termU _ _ _).trans ?_), (h c).2.2⟩)
      (Cert.DactRefIdeal.Value.run m' ρ')⟩
  · rw [(hag c).1, (hag c).2.1, (hag c).2.2.1, (hag c).2.2.2]
    rfl
  · rw [(hag c).1, (hag c).2.1, (hag c).2.2.1]
    rfl

/-! ## The frames -/

set_option maxHeartbeats 0 in
theorem main_same : (Cert.Dact.main (F := Bits)) = (Cert.DactIdeal.main (F := Bits)) := rfl

set_option maxHeartbeats 0 in
theorem defs_same : (Cert.Dact.defs (F := Bits)) = (Cert.DactIdeal.defs (F := Bits)) := by sl_kernel_rfl

theorem frame_ideal : Cert.quiescent_DactIdeal (hDactIdeal := Cert.DactIdeal.Gen.facts) := fun m ρ _ => Cert.DactIdeal.Gen.frame m ρ

theorem frame_bits : Cert.quiescent_Dact (hDact := Cert.Dact.Gen.facts) := by
  intro m ρ _
  rw [main_same, defs_same]
  exact Cert.DactIdeal.Gen.frame (F := Bits) m ρ

theorem frame_reference : Cert.quiescent_DactRefIdeal (hDactRefIdeal := Cert.DactRefIdeal.Gen.facts) := fun m ρ _ =>
  (θ_run _ _ _).mono (fun r h => ⟨fun c => (h c).2.2, sem_eq_zero_of_no_sems (by decide) r.2⟩) (Cert.DactRefIdeal.Value.run (F := Ideal) m ρ)

end Cert.DactIdeal.Value

end
-- ==== Proof.Ffn.Dh.lean ====
module

public import proofs.«01_k».proof.Defs
public import proofs.«01_k».proof.Proof.Gen.Dh
public import proofs.«01_k».proof.Proof.Gen.DhIdeal.Value
public import proofs.«01_k».proof.Proof.Gen.DhRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The calls f1_dh, f2_dh: the gradient of the input of the feed-forward network.
-/

namespace Cert.DhIdeal.Value

open Cert.DhIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at the points of a run of four. -/
theorem index_run : ∀ (t : Fin cfg0.N) (s : Fin 4) (h : 4 * (t.val / 4) + s.val < cfg0.N),
    win0_0.index ⟨4 * (t.val / 4) + s.val, h⟩ = ![win0_4.index t 0, s.val]
    ∧ win0_1.index ⟨4 * (t.val / 4) + s.val, h⟩ = ![win0_4.index t 1, s.val]
    ∧ win0_2.index ⟨4 * (t.val / 4) + s.val, h⟩ = ![win0_4.index t 0, s.val]
    ∧ win0_3.index ⟨4 * (t.val / 4) + s.val, h⟩ = ![win0_4.index t 1, s.val] := by decide +kernel

/-- The sum of the two products. -/
def spec (g : FVec Ideal S2048x5632 .f32) (wg : FVec Ideal S2048x5632 .f32) (u : FVec Ideal S2048x5632 .f32) (wu : FVec Ideal S2048x5632 .f32) :
    FVec Ideal S2048x2048 .f32 :=
  fun y => ∑ k : Fin 5632, g (ix2 (y 0) k) * wg (ix2 (y 1) k) + ∑ k : Fin 5632, u (ix2 (y 0) k) * wu (ix2 (y 1) k)

/-- The first point of a run stores its products. -/
theorem first (t : Fin cfg0.N) (h : t.val % 4 = 0) : (outsAt0 m c t.val t.isLt).2 = k0_pay2 (iblk m c 0 t) (iblk m c 1 t) (iblk m c 2 t) (iblk m c 3 t) := by
  rw [outsAt0_A m c t h (by omega) (by omega)]
  dsimp only
  unfold sout0_A_0
  frame_out

/-- A point in the middle adds its products. -/
theorem middle (t : Fin cfg0.N) (h : ¬t.val % 4 = 0) (h' : ¬t.val % 4 = 3) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  rw [outsAt0_B m c t h (by omega) h']
  dsimp only
  unfold sout0_B_0
  frame_out
  exact congrArg (k0_pay3 _ _ _ _) ((Memref.isWhole_whole cc0_scratch0).read_unread _)

/-- The last point adds its products. -/
theorem last (t : Fin cfg0.N) (h' : t.val % 4 = 3) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  rw [outsAt0_C m c t (by omega) (by omega) h']
  dsimp only
  unfold sout0_C_0
  frame_out
  exact congrArg (k0_pay3 _ _ _ _) ((Memref.isWhole_whole cc0_scratch0).read_unread _)

/-- The last point stores what it leaves in the accumulator. -/
theorem stored (t : Fin cfg0.N) (h' : t.val % 4 = 3) : (outsAt0 m c t.val t.isLt).1 = (outsAt0 m c t.val t.isLt).2 := by
  rw [last m c t h', outsAt0_C m c t (by omega) (by omega) h']
  dsimp only
  unfold out0_C_4
  frame_out
  exact congrArg (k0_pay3 _ _ _ _) ((Memref.isWhole_whole cc0_scratch0).read_unread _)

/-- The accumulator at the end of a run: the products of the run's four points. -/
theorem acc_eq (t : Fin cfg0.N) (h' : t.val % 4 = 3) (j : S1024x1024.Idx) :
    (outsAt0 m c t.val t.isLt).2 j = 0 + ∑ s : Fin 4,
      k0_pay1 (iblk m c 0 ⟨4 * (t.val / 4) + s.val, Pipeline.run_point_lt_of_flush t h' s⟩)
        (iblk m c 1 ⟨4 * (t.val / 4) + s.val, Pipeline.run_point_lt_of_flush t h' s⟩)
        (iblk m c 2 ⟨4 * (t.val / 4) + s.val, Pipeline.run_point_lt_of_flush t h' s⟩)
        (iblk m c 3 ⟨4 * (t.val / 4) + s.val, Pipeline.run_point_lt_of_flush t h' s⟩) j := by
  refine Pipeline.eq_sum_fin_of_reset_step_apply_of_flush (fun n h => (outsAt0 m c n h).2) 4 (fun _ => (0 : EReal))
    (fun t j => k0_pay1 (iblk m c 0 t) (iblk m c 1 t) (iblk m c 2 t) (iblk m c 3 t) j) (fun t h j => ?_) (fun t h j => ?_) t h' j
  · show (outsAt0 m c t.val t.isLt).2 j = _
    rw [first m c t h]
    unfold k0_pay2
    pointwise
  · show (outsAt0 m c t.val t.isLt).2 j = (outsAt0 m c (t.val - 1) _).2 j + _
    rw [show (outsAt0 m c t.val t.isLt).2 = k0_pay3 (iblk m c 0 t) (iblk m c 1 t) (iblk m c 2 t) (iblk m c 3 t) (outsAt0 m c (t.val - 1) (Nat.lt_of_le_of_lt (Nat.sub_le _ _) t.isLt)).2 from
      if h3 : t.val % 4 = 3 then last m c t h3 else middle m c t h h3]
    unfold k0_pay3
    pointwise

/-- The array that the kernel leaves. -/
theorem array : (dats m 0 c).arrAt 4 cfg0.N = spec (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have h' : t.val % 4 = 3 := (flush0_4 t).mp hf
  blk_simp
  rw [after0_4, stored m c t h']
  refine (acc_eq m c t h' y).trans ?_
  rw [zero_add]
  unfold k0_pay1 spec
  pointwise
  rw [Finset.sum_add_distrib]
  refine congrArg₂ (fun a b : EReal => a + b) ?_ ?_
  · refine Eq.trans (Finset.sum_congr rfl fun s _ => Finset.sum_congr rfl fun k _ => ?_) (Fin.sum_mul_add_fin 4 1408 _ rfl)
    obtain ⟨e0, e1, -, -⟩ := index_run t s (Pipeline.run_point_lt_of_flush t h' s)
    blk_point [iblk, V, e0, e1]
  · refine Eq.trans (Finset.sum_congr rfl fun s _ => Finset.sum_congr rfl fun k _ => ?_) (Fin.sum_mul_add_fin 4 1408 _ rfl)
    obtain ⟨-, -, e2, e3⟩ := index_run t s (Pipeline.run_point_lt_of_flush t h' s)
    blk_point [iblk, V, e2, e3]

/-- The reference's array. -/
theorem ref_term (g wg u wu : FVec Ideal S2048x5632 .f32) :
    addf (Host.dotGeneral Cert.DhRefIdeal.dot_S2048x5632_S2048x5632_S2048x2048_1_1_0_0_n_n none u wu)
        (Host.dotGeneral Cert.DhRefIdeal.dot_S2048x5632_S2048x5632_S2048x2048_1_1_0_0_n_n none g wg)
      = spec g wg u wu := by
  funext y
  unfold spec
  pointwise
  exact add_comm _ _

/-- Both arrays agree. -/
theorem agree : Cert.algebraic_DhIdeal_DhRefIdeal (hDhIdeal := Cert.DhIdeal.Gen.facts) (hDhRefIdeal := Cert.DhRefIdeal.Gen.facts) := by
  intro m ρ m' ρ' _ hag
  refine ⟨fun c => spec (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (array m c), (h c).2⟩) (run_blocks m ρ),
    (θ_run _ _ _).mono (fun r h c => ⟨(h c).1.trans ((ref_term _ _ _ _).trans ?_), (h c).2⟩) (Cert.DhRefIdeal.Value.run m' ρ')⟩
  rw [(hag c).1, (hag c).2.1, (hag c).2.2.1, (hag c).2.2.2]
  rfl

/-! ## The frames -/

set_option maxHeartbeats 0 in
theorem main_same : (Cert.Dh.main (F := Bits)) = (Cert.DhIdeal.main (F := Bits)) := rfl

set_option maxHeartbeats 0 in
theorem defs_same : (Cert.Dh.defs (F := Bits)) = (Cert.DhIdeal.defs (F := Bits)) := by sl_kernel_rfl

theorem frame_ideal : Cert.quiescent_DhIdeal (hDhIdeal := Cert.DhIdeal.Gen.facts) := fun m ρ _ => Cert.DhIdeal.Gen.frame m ρ

theorem frame_bits : Cert.quiescent_Dh (hDh := Cert.Dh.Gen.facts) := by
  intro m ρ _
  rw [main_same, defs_same]
  exact Cert.DhIdeal.Gen.frame (F := Bits) m ρ

theorem frame_reference : Cert.quiescent_DhRefIdeal (hDhRefIdeal := Cert.DhRefIdeal.Gen.facts) := fun m ρ _ =>
  (θ_run _ _ _).mono (fun r h => ⟨fun c => (h c).2, sem_eq_zero_of_no_sems (by decide) r.2⟩) (Cert.DhRefIdeal.Value.run (F := Ideal) m ρ)

end Cert.DhIdeal.Value

end
-- ==== Proof.Ffn.Up.lean ====
module

public import proofs.«01_k».proof.Defs
public import proofs.«01_k».proof.Proof.Gen.Up
public import proofs.«01_k».proof.Proof.Gen.UpIdeal.Value
public import proofs.«01_k».proof.Proof.Gen.UpRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The calls f1_up, f2_up: the two products of the feed-forward network and their activation.
-/

namespace Cert.UpIdeal.Value

open Cert.UpIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![0, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] := by decide +kernel

/-- A product. -/
def prod (h : FVec Ideal S2048x2048 .f32) (w : FVec Ideal S2048x5632 .f32) : FVec Ideal S2048x5632 .f32 :=
  fun y => ∑ k : Fin 2048, h (ix2 (y 0) k) * w (ix2 k (y 1))

/-- The activation. -/
def act (h : FVec Ideal S2048x2048 .f32) (wg wu : FVec Ideal S2048x5632 .f32) : FVec Ideal S2048x5632 .f32 :=
  fun y => prod h wg y * Ideal.logistic (prod h wg y) * prod h wu y

/-- The first array that the kernel leaves. -/
theorem arrayG : (dats m 0 c).arrAt 3 cfg0.N = prod (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  unfold k0_pay1 prod
  obtain ⟨e0, e1, e2, e3, e4, e5⟩ := index_eq t
  pointwise
  blk_point [iblk, V, e0, e1, e3]

/-- The second array. -/
theorem arrayU : (dats m 0 c).arrAt 4 cfg0.N = prod (m ((c.tc : Thread nD τ).loc main_arg0)) (m ((c.tc : Thread nD τ).loc main_arg2)) := by
  refine (dats m 0 c).arrAt_eq_of_covers 4 _ (by decide +kernel) fun t hf y => ?_
  blk_simp
  rw [after0_4]
  frame_out
  unfold k0_pay2 prod
  obtain ⟨e0, e1, e2, e3, e4, e5⟩ := index_eq t
  pointwise
  blk_point [iblk, V, e0, e2, e4]

/-- The third array. -/
theorem arrayA : (dats m 0 c).arrAt 5 cfg0.N = act (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  unfold k0_pay3 k0_pay2 k0_pay1 act prod
  obtain ⟨e0, e1, e2, e3, e4, e5⟩ := index_eq t
  pointwise
  refine congrArg₂ (fun g u : EReal => g * Ideal.logistic g * u) ?_ ?_
  · blk_point [iblk, V, e0, e1, e5]
  · blk_point [iblk, V, e0, e2, e5]

/-- A product of the reference. -/
theorem ref_prod (h : FVec Ideal S2048x2048 .f32) (w : FVec Ideal S2048x5632 .f32) : (Host.dotGeneral Cert.UpRefIdeal.dot_S2048x2048_S2048x5632_S2048x5632_1_0_0_1_n_n none h w) = prod h w := by
  funext y
  unfold prod
  pointwise

/-- The reference's activation. -/
theorem ref_act (h : FVec Ideal S2048x2048 .f32) (wg wu : FVec Ideal S2048x5632 .f32) :
    truncf .bf16 (mulf (mulf (Host.dotGeneral Cert.UpRefIdeal.dot_S2048x2048_S2048x5632_S2048x5632_1_0_0_1_n_n none h wg) (Host.divf (broadcastInDim Cert.UpRefIdeal.S2048x5632 ![] Cert.UpRefIdeal.Gen.bcast_S_S2048x5632 (constant Cert.UpRefIdeal.S_ .f32 0x3F800000#32))
        (addf (broadcastInDim Cert.UpRefIdeal.S2048x5632 ![] Cert.UpRefIdeal.Gen.bcast_S_S2048x5632 (constant Cert.UpRefIdeal.S_ .f32 0x3F800000#32)) (Host.exp (Host.negf (Host.dotGeneral Cert.UpRefIdeal.dot_S2048x2048_S2048x5632_S2048x5632_1_0_0_1_n_n none h wg)))))) (Host.dotGeneral Cert.UpRefIdeal.dot_S2048x2048_S2048x5632_S2048x5632_1_0_0_1_n_n none h wu)) Cert.UpRefIdeal.Gen.bitsLt_bf16_f32
      = act h wg wu := by
  rw [ref_prod, ref_prod]
  funext y
  unfold act
  pointwise
  rfl

/-- The arrays agree. -/
theorem agree : Cert.algebraic_UpIdeal_UpRefIdeal (hUpIdeal := Cert.UpIdeal.Gen.facts) (hUpRefIdeal := Cert.UpRefIdeal.Gen.facts) := by
  intro m ρ m' ρ' _ hag
  refine ⟨fun c => prod (m ((c.tc : Thread nD τ).loc main_arg0)) (m ((c.tc : Thread nD τ).loc main_arg1)),
    fun c => prod (m ((c.tc : Thread nD τ).loc main_arg0)) (m ((c.tc : Thread nD τ).loc main_arg2)),
    fun c => act (m ((c.tc : Thread nD τ).loc main_arg0)) (m ((c.tc : Thread nD τ).loc main_arg1)) (m ((c.tc : Thread nD τ).loc main_arg2)),
    (θ_run _ _ _).mono (fun r h c => ⟨(h c).1.trans (arrayG m c), (h c).2.1.trans (arrayU m c), (h c).2.2.1.trans (arrayA m c), (h c).2.2.2⟩) (run_blocks m ρ),
    (θ_run _ _ _).mono (fun r h c => ⟨(h c).1.trans ((ref_prod _ _).trans ?_), (h c).2.1.trans ((ref_prod _ _).trans ?_),
      (h c).2.2.1.trans ((ref_act _ _ _).trans ?_), (h c).2.2.2⟩) (Cert.UpRefIdeal.Value.run m' ρ')⟩
  · rw [(hag c).1, (hag c).2.1]
    rfl
  · rw [(hag c).1, (hag c).2.2]
    rfl
  · rw [(hag c).1, (hag c).2.1, (hag c).2.2]
    rfl

/-! ## The frames -/

set_option maxHeartbeats 0 in
theorem main_same : (Cert.Up.main (F := Bits)) = (Cert.UpIdeal.main (F := Bits)) := rfl

set_option maxHeartbeats 0 in
theorem defs_same : (Cert.Up.defs (F := Bits)) = (Cert.UpIdeal.defs (F := Bits)) := by sl_kernel_rfl

theorem frame_ideal : Cert.quiescent_UpIdeal (hUpIdeal := Cert.UpIdeal.Gen.facts) := fun m ρ _ => Cert.UpIdeal.Gen.frame m ρ

theorem frame_bits : Cert.quiescent_Up (hUp := Cert.Up.Gen.facts) := by
  intro m ρ _
  rw [main_same, defs_same]
  exact Cert.UpIdeal.Gen.frame (F := Bits) m ρ

theorem frame_reference : Cert.quiescent_UpRefIdeal (hUpRefIdeal := Cert.UpRefIdeal.Gen.facts) := fun m ρ _ =>
  (θ_run _ _ _).mono (fun r h => ⟨fun c => (h c).2.2.2, sem_eq_zero_of_no_sems (by decide) r.2⟩) (Cert.UpRefIdeal.Value.run (F := Ideal) m ρ)

end Cert.UpIdeal.Value

end
-- ==== Proof.Ffn.Down.lean ====
module

public import proofs.«01_k».proof.Defs
public import proofs.«01_k».proof.Proof.Gen.Down
public import proofs.«01_k».proof.Proof.Gen.DownIdeal.Value
public import proofs.«01_k».proof.Proof.Gen.DownRefIdeal.Run
public import Idealize.ShloMosaic.Lib.Pipeline.ValueKit
public import Idealize.ShloMosaic.Lib.StableHlo.RunRead
public import Idealize.ShloMosaic.Lib.Quiescent
public import Idealize.ShloMosaic.Lib.Claim
public import proofs.«01_k».proof.Proof.Ffn.Half

@[expose] public section

set_option maxRecDepth 16384

noncomputable section

/-!
The calls f1_down, f2_down: the exit product of the feed-forward network, halved, over the residual.
-/

namespace Cert.DownIdeal.Value

open Cert.DownIdeal.Gen Cert.Ffn
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at the points of a run of four. -/
theorem index_run : ∀ (t : Fin cfg0.N) (s : Fin 4) (h : 4 * (t.val / 4) + s.val < cfg0.N),
    win0_0.index ⟨4 * (t.val / 4) + s.val, h⟩ = ![win0_3.index t 0, s.val]
    ∧ win0_1.index ⟨4 * (t.val / 4) + s.val, h⟩ = ![s.val, win0_3.index t 1] := by decide +kernel

/-- The residual's block is the result's. -/
theorem index_res : ∀ t : Fin cfg0.N, win0_2.index t = ![win0_3.index t 0, win0_3.index t 1] := by decide +kernel

/-- The residual and half the product. -/
def spec (x : FVec Ideal S2048x2048 .f32) (a : FVec Ideal S2048x5632 .f32) (w : FVec Ideal S5632x2048 .f32) : FVec Ideal S2048x2048 .f32 :=
  fun y => x y + half * ∑ k : Fin 5632, a (ix2 (y 0) k) * w (ix2 k (y 1))

/-- The first point of a run stores its product. -/
theorem first (t : Fin cfg0.N) (h : t.val % 4 = 0) :
    (outsAt0 m c t.val t.isLt).2 = k0_pay2 (iblk m c 0 t) (iblk m c 1 t) := by
  rw [outsAt0_A m c t h (by omega) (by omega)]
  dsimp only
  unfold sout0_A_0
  frame_out

/-- A point in the middle adds its product. -/
theorem middle (t : Fin cfg0.N) (h : ¬t.val % 4 = 0) (h' : ¬t.val % 4 = 3) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h (by omega) h']
  dsimp only
  unfold sout0_B_0
  frame_out
  exact congrArg (k0_pay3 _ _) ((Memref.isWhole_whole cc0_scratch0).read_unread _)

/-- The last point adds its product. -/
theorem last (t : Fin cfg0.N) (h' : t.val % 4 = 3) :
    (outsAt0 m c t.val t.isLt).2
      = k0_pay3 (iblk m c 0 t) (iblk m c 1 t) (outsAt0 m c (t.val - 1) (Nat.lt_of_le_of_lt (Nat.sub_le _ _) t.isLt)).2 := by
  rw [outsAt0_C m c t (by omega) (by omega) h']
  dsimp only
  unfold sout0_C_0
  frame_out
  exact congrArg (k0_pay3 _ _) ((Memref.isWhole_whole cc0_scratch0).read_unread _)

/-- The last point stores the result from what it leaves in the accumulator. -/
theorem stored (t : Fin cfg0.N) (h' : t.val % 4 = 3) :
    (outsAt0 m c t.val t.isLt).1 = k0_pay4 (outsAt0 m c t.val t.isLt).2 (iblk m c 2 t) := by
  rw [last m c t h', outsAt0_C m c t (by omega) (by omega) h']
  dsimp only
  unfold out0_C_3
  frame_out
  exact congrArg (fun z => k0_pay4 (k0_pay3 _ _ z) _) ((Memref.isWhole_whole cc0_scratch0).read_unread _)

/-- The accumulator at the end of a run: the run's four products. -/
theorem acc_eq (t : Fin cfg0.N) (h' : t.val % 4 = 3) (j : S1024x1024.Idx) :
    (outsAt0 m c t.val t.isLt).2 j = 0 + ∑ s : Fin 4,
      k0_pay1 (iblk m c 0 ⟨4 * (t.val / 4) + s.val, Pipeline.run_point_lt_of_flush t h' s⟩)
        (iblk m c 1 ⟨4 * (t.val / 4) + s.val, Pipeline.run_point_lt_of_flush t h' s⟩) j := by
  refine Pipeline.eq_sum_fin_of_reset_step_apply_of_flush (fun n h => (outsAt0 m c n h).2) 4 (fun _ => (0 : EReal))
    (fun t j => k0_pay1 (iblk m c 0 t) (iblk m c 1 t) j) (fun t h j => ?_) (fun t h j => ?_) t h' j
  · show (outsAt0 m c t.val t.isLt).2 j = _
    rw [first m c t h]
    unfold k0_pay2
    pointwise
  · show (outsAt0 m c t.val t.isLt).2 j = (outsAt0 m c (t.val - 1) _).2 j + _
    rw [show (outsAt0 m c t.val t.isLt).2 = k0_pay3 (iblk m c 0 t) (iblk m c 1 t) (outsAt0 m c (t.val - 1) (Nat.lt_of_le_of_lt (Nat.sub_le _ _) t.isLt)).2 from
      if h3 : t.val % 4 = 3 then last m c t h3 else middle m c t h h3]
    unfold k0_pay3
    pointwise

/-- The array that the kernel leaves. -/
theorem array : (dats m 0 c).arrAt 3 cfg0.N = spec (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h' : t.val % 4 = 3 := (flush0_3 t).mp hf
  blk_simp
  rw [after0_3, stored m c t h']
  unfold k0_pay4 spec
  pointwise
  rw [acc_eq m c t h' y, zero_add, show Ideal.ofBits FTy.f32 1056964608#32 = half from ofBits_half, add_comm, mul_comm _ half]
  refine congrArg₂ (fun x a : EReal => x + half * a) ?_ ?_
  · have e := index_res t
    blk_point [iblk, V, e]
  · unfold k0_pay1
    pointwise
    refine Eq.trans (Finset.sum_congr rfl fun s _ => Finset.sum_congr rfl fun k _ => ?_) (Fin.sum_mul_add_fin 4 1408 _ rfl)
    obtain ⟨e0, e1⟩ := index_run t s (Pipeline.run_point_lt_of_flush t h' s)
    blk_point [iblk, V, e0, e1]

/-- The reference's array. -/
theorem ref_term (x : FVec Ideal S2048x2048 .f32) (a : FVec Ideal S2048x5632 .f32) (w : FVec Ideal S5632x2048 .f32) :
    addf x (mulf (broadcastInDim Cert.DownRefIdeal.S2048x2048 ![] Cert.DownRefIdeal.Gen.bcast_S_S2048x2048 (constant Cert.DownRefIdeal.S_ .f32 0x3F000000#32))
        (Host.dotGeneral Cert.DownRefIdeal.dot_S2048x5632_S5632x2048_S2048x2048_1_0_0_1_n_n none a w))
      = spec x a w := by
  funext y
  unfold spec
  pointwise
  rw [show Ideal.ofBits FTy.f32 1056964608#32 = half from ofBits_half]

/-- Both arrays agree. -/
theorem agree : Cert.algebraic_DownIdeal_DownRefIdeal (hDownIdeal := Cert.DownIdeal.Gen.facts) (hDownRefIdeal := Cert.DownRefIdeal.Gen.facts) := by
  intro m ρ m' ρ' _ hag
  refine ⟨fun c => spec (m ((c.tc : Thread nD τ).loc main_arg0)) (m ((c.tc : Thread nD τ).loc main_arg1)) (m ((c.tc : Thread nD τ).loc main_arg2)),
    (θ_run _ _ _).mono (fun r h c => ⟨(h c).1.trans (array m c), (h c).2⟩) (run_blocks m ρ),
    (θ_run _ _ _).mono (fun r h c => ⟨(h c).1.trans ((ref_term _ _ _).trans ?_), (h c).2⟩) (Cert.DownRefIdeal.Value.run m' ρ')⟩
  rw [(hag c).1, (hag c).2.1, (hag c).2.2]
  rfl

/-! ## The frames -/

set_option maxHeartbeats 0 in
theorem main_same : (Cert.Down.main (F := Bits)) = (Cert.DownIdeal.main (F := Bits)) := rfl

set_option maxHeartbeats 0 in
theorem defs_same : (Cert.Down.defs (F := Bits)) = (Cert.DownIdeal.defs (F := Bits)) := by sl_kernel_rfl

theorem frame_ideal : Cert.quiescent_DownIdeal (hDownIdeal := Cert.DownIdeal.Gen.facts) := fun m ρ _ => Cert.DownIdeal.Gen.frame m ρ

theorem frame_bits : Cert.quiescent_Down (hDown := Cert.Down.Gen.facts) := by
  intro m ρ _
  rw [main_same, defs_same]
  exact Cert.DownIdeal.Gen.frame (F := Bits) m ρ

theorem frame_reference : Cert.quiescent_DownRefIdeal (hDownRefIdeal := Cert.DownRefIdeal.Gen.facts) := fun m ρ _ =>
  (θ_run _ _ _).mono (fun r h => ⟨fun c => (h c).2, sem_eq_zero_of_no_sems (by decide) r.2⟩) (Cert.DownRefIdeal.Value.run (F := Ideal) m ρ)

end Cert.DownIdeal.Value

end
-- ==== Proof.Ffn.In.lean ====
module

public import proofs.«01_k».proof.Defs
public import proofs.«01_k».proof.Proof.Gen.In
public import proofs.«01_k».proof.Proof.Gen.InIdeal.Value
public import proofs.«01_k».proof.Proof.Gen.InRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The call in_rkv: the projection to r, k and v.
-/

namespace Cert.InIdeal.Value

open Cert.InIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

/-- The product. -/
def spec (x : FVec Ideal S2048x2048 .f32) (z : FVec Ideal S3072x2048 .f32) : FVec Ideal S2048x3072 .f32 :=
  fun y => ∑ k : Fin 2048, x (ix2 (y 0) k) * z (ix2 (y 1) k)

/-- The array that the kernel leaves. -/
theorem array : (dats m 0 c).arrAt 2 cfg0.N = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 spec
  obtain ⟨e0, e1, e2⟩ := index_eq t
  pointwise
  blk_point [iblk, V, e0, e1, e2]

/-- The reference's array. -/
theorem ref_term (x : FVec Ideal S2048x2048 .f32) (z : FVec Ideal S3072x2048 .f32) :
    Host.dotGeneral (F := Ideal) Cert.InRefIdeal.dot_S2048x2048_S2048x3072_S2048x3072_1_0_0_1_n_n none x (transpose Cert.InRefIdeal.S2048x3072 [1, 0] z
        Cert.InRefIdeal.Gen.transposes_S3072x2048_S2048x3072_1_0)
      = spec x z := by
  funext y
  unfold spec
  pointwise

/-- Both arrays agree. -/
theorem agree : Cert.algebraic_InIdeal_InRefIdeal (hInIdeal := Cert.InIdeal.Gen.facts) (hInRefIdeal := Cert.InRefIdeal.Gen.facts) := by
  intro m ρ m' ρ' _ hag
  refine ⟨fun c => spec (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.InRefIdeal.Value.run m' ρ')⟩
  rw [(hag c).1, (hag c).2]
  rfl

/-! ## The frames -/

set_option maxHeartbeats 0 in
theorem main_same : (Cert.In.main (F := Bits)) = (Cert.InIdeal.main (F := Bits)) := rfl

set_option maxHeartbeats 0 in
theorem defs_same : (Cert.In.defs (F := Bits)) = (Cert.InIdeal.defs (F := Bits)) := by sl_kernel_rfl

theorem frame_ideal : Cert.quiescent_InIdeal (hInIdeal := Cert.InIdeal.Gen.facts) := fun m ρ _ => Cert.InIdeal.Gen.frame m ρ

theorem frame_bits : Cert.quiescent_In (hIn := Cert.In.Gen.facts) := by
  intro m ρ _
  rw [main_same, defs_same]
  exact Cert.InIdeal.Gen.frame (F := Bits) m ρ

theorem frame_reference : Cert.quiescent_InRefIdeal (hInRefIdeal := Cert.InRefIdeal.Gen.facts) := fun m ρ _ =>
  (θ_run _ _ _).mono (fun r h => ⟨fun c => (h c).2, sem_eq_zero_of_no_sems (by decide) r.2⟩) (Cert.InRefIdeal.Value.run (F := Ideal) m ρ)

end Cert.InIdeal.Value

end
-- ==== Proof.Ffn.InDw.lean ====
module

public import proofs.«01_k».proof.Defs
public import proofs.«01_k».proof.Proof.Gen.InDw
public import proofs.«01_k».proof.Proof.Gen.InDwIdeal.Value
public import proofs.«01_k».proof.Proof.Gen.InDwRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The call in_dw_rkv: the gradient of the projection to r, k and v.
-/

namespace Cert.InDwIdeal.Value

open Cert.InDwIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The product. -/
def spec (x : FVec Ideal S2048x3072 .f32) (z : FVec Ideal S2048x2048 .f32) : FVec Ideal S3072x2048 .f32 :=
  fun y => ∑ k : Fin 2048, x (ix2 k (y 0)) * z (ix2 k (y 1))

/-- The array that the kernel leaves. -/
theorem array : (dats m 0 c).arrAt 2 cfg0.N = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 spec
  obtain ⟨e0, e1, e2⟩ := index_eq t
  pointwise
  blk_point [iblk, V, e0, e1, e2]

/-- The reference's array. -/
theorem ref_term (x : FVec Ideal S2048x3072 .f32) (z : FVec Ideal S2048x2048 .f32) :
    transpose Cert.InDwRefIdeal.S3072x2048 [1, 0] (transpose Cert.InDwRefIdeal.S2048x3072 [1, 0] (Host.dotGeneral Cert.InDwRefIdeal.dot_S2048x3072_S2048x2048_S3072x2048_0_0_1_1_n_n none x z)
        Cert.InDwRefIdeal.Gen.transposes_S3072x2048_S2048x3072_1_0) Cert.InDwRefIdeal.Gen.transposes_S2048x3072_S3072x2048_1_0
      = spec x z := by
  funext y
  unfold spec
  pointwise

/-- Both arrays agree. -/
theorem agree : Cert.algebraic_InDwIdeal_InDwRefIdeal (hInDwIdeal := Cert.InDwIdeal.Gen.facts) (hInDwRefIdeal := Cert.InDwRefIdeal.Gen.facts) := by
  intro m ρ m' ρ' _ hag
  refine ⟨fun c => spec (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.InDwRefIdeal.Value.run m' ρ')⟩
  rw [(hag c).1, (hag c).2]
  rfl

/-! ## The frames -/

set_option maxHeartbeats 0 in
theorem main_same : (Cert.InDw.main (F := Bits)) = (Cert.InDwIdeal.main (F := Bits)) := rfl

set_option maxHeartbeats 0 in
theorem defs_same : (Cert.InDw.defs (F := Bits)) = (Cert.InDwIdeal.defs (F := Bits)) := by sl_kernel_rfl

theorem frame_ideal : Cert.quiescent_InDwIdeal (hInDwIdeal := Cert.InDwIdeal.Gen.facts) := fun m ρ _ => Cert.InDwIdeal.Gen.frame m ρ

theorem frame_bits : Cert.quiescent_InDw (hInDw := Cert.InDw.Gen.facts) := by
  intro m ρ _
  rw [main_same, defs_same]
  exact Cert.InDwIdeal.Gen.frame (F := Bits) m ρ

theorem frame_reference : Cert.quiescent_InDwRefIdeal (hInDwRefIdeal := Cert.InDwRefIdeal.Gen.facts) := fun m ρ _ =>
  (θ_run _ _ _).mono (fun r h => ⟨fun c => (h c).2, sem_eq_zero_of_no_sems (by decide) r.2⟩) (Cert.InDwRefIdeal.Value.run (F := Ideal) m ρ)

end Cert.InDwIdeal.Value

end
-- ==== Proof.Ffn.InDh.lean ====
module

public import proofs.«01_k».proof.Defs
public import proofs.«01_k».proof.Proof.Gen.InDh
public import proofs.«01_k».proof.Proof.Gen.InDhIdeal.Value
public import proofs.«01_k».proof.Proof.Gen.InDhRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The call in_dh_rkv: the gradient of the input of the fused projection.
-/

namespace Cert.InDhIdeal.Value

open Cert.InDhIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at the two points of a run. -/
theorem index_run : ∀ (t : Fin cfg0.N) (s : Fin 2) (h : 2 * (t.val / 2) + s.val < cfg0.N),
    win0_0.index ⟨2 * (t.val / 2) + s.val, h⟩ = ![win0_2.index t 0, s.val]
    ∧ win0_1.index ⟨2 * (t.val / 2) + s.val, h⟩ = ![s.val, win0_2.index t 1] := by decide +kernel

/-- The product. -/
def spec (d : FVec Ideal S2048x3072 .f32) (w : FVec Ideal S3072x2048 .f32) : FVec Ideal S2048x2048 .f32 :=
  fun y => ∑ k : Fin 3072, d (ix2 (y 0) k) * w (ix2 k (y 1))

/-- The first point of a run stores its product. -/
theorem first (t : Fin cfg0.N) (h : t.val % 2 = 0) :
    (outsAt0 m c t.val t.isLt).2 = k0_pay2 (iblk m c 0 t) (iblk m c 1 t) := by
  rw [outsAt0_A m c t h (by omega) (by omega)]
  dsimp only
  unfold sout0_A_0
  frame_out

/-- The second adds its own. -/
theorem last (t : Fin cfg0.N) (h : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h (by omega) (by omega)]
  dsimp only
  unfold sout0_B_0
  frame_out
  exact congrArg (k0_pay3 _ _) ((Memref.isWhole_whole cc0_scratch0).read_unread _)

/-- The second stores what it leaves in the accumulator. -/
theorem stored (t : Fin cfg0.N) (h : ¬t.val % 2 = 0) : (outsAt0 m c t.val t.isLt).1 = (outsAt0 m c t.val t.isLt).2 := by
  rw [last m c t h, outsAt0_B m c t h (by omega) (by omega)]
  dsimp only
  unfold out0_B_2
  frame_out
  exact congrArg (k0_pay3 _ _) ((Memref.isWhole_whole cc0_scratch0).read_unread _)

/-- The accumulator at the end of a run: the run's two products. -/
theorem acc_eq (t : Fin cfg0.N) (h' : t.val % 2 = 1) (j : S1024x1024.Idx) :
    (outsAt0 m c t.val t.isLt).2 j = 0 + ∑ s : Fin 2,
      k0_pay1 (iblk m c 0 ⟨2 * (t.val / 2) + s.val, Pipeline.run_point_lt_of_flush t h' s⟩)
        (iblk m c 1 ⟨2 * (t.val / 2) + s.val, Pipeline.run_point_lt_of_flush t h' s⟩) j := by
  refine Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h' j
  · show (outsAt0 m c t.val t.isLt).2 j = _
    rw [first m c t h]
    unfold k0_pay2
    pointwise
  · show (outsAt0 m c t.val t.isLt).2 j = (outsAt0 m c (t.val - 1) _).2 j + _
    rw [last m c t h]
    unfold k0_pay3
    pointwise

/-- The array that the kernel leaves. -/
theorem array : (dats m 0 c).arrAt 2 cfg0.N = spec (m ((c.tc : Thread nD τ).loc main_arg0)) (m ((c.tc : Thread nD τ).loc main_arg1)) := by
  refine (dats m 0 c).arrAt_eq_of_covers 2 _ (by decide +kernel) fun t hf y => ?_
  have h' : t.val % 2 = 1 := (flush0_2 t).mp hf
  blk_simp
  rw [after0_2, stored m c t (by omega)]
  refine (acc_eq m c t h' y).trans ?_
  rw [zero_add]
  unfold k0_pay1 spec
  pointwise
  refine Eq.trans (Finset.sum_congr rfl fun s _ => Finset.sum_congr rfl fun k _ => ?_) (Fin.sum_mul_add_fin 2 1536 _ rfl)
  obtain ⟨e0, e1⟩ := index_run t s (Pipeline.run_point_lt_of_flush t h' s)
  blk_point [iblk, V, e0, e1]

/-- The reference's array. -/
theorem ref_term (d : FVec Ideal S2048x3072 .f32) (w : FVec Ideal S3072x2048 .f32) :
    Host.dotGeneral Cert.InDhRefIdeal.dot_S2048x3072_S2048x3072_S2048x2048_1_1_0_0_n_n none d
        (transpose Cert.InDhRefIdeal.S2048x3072 [1, 0] w Cert.InDhRefIdeal.Gen.transposes_S3072x2048_S2048x3072_1_0)
      = spec d w := by
  funext y
  unfold spec
  pointwise

/-- Both arrays agree. -/
theorem agree : Cert.algebraic_InDhIdeal_InDhRefIdeal (hInDhIdeal := Cert.InDhIdeal.Gen.facts) (hInDhRefIdeal := Cert.InDhRefIdeal.Gen.facts) := by
  intro m ρ m' ρ' _ hag
  refine ⟨fun c => spec (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.InDhRefIdeal.Value.run m' ρ')⟩
  rw [(hag c).1, (hag c).2]
  rfl

/-! ## The frames -/

set_option maxHeartbeats 0 in
theorem main_same : (Cert.InDh.main (F := Bits)) = (Cert.InDhIdeal.main (F := Bits)) := rfl

set_option maxHeartbeats 0 in
theorem defs_same : (Cert.InDh.defs (F := Bits)) = (Cert.InDhIdeal.defs (F := Bits)) := by sl_kernel_rfl

theorem frame_ideal : Cert.quiescent_InDhIdeal (hInDhIdeal := Cert.InDhIdeal.Gen.facts) := fun m ρ _ => Cert.InDhIdeal.Gen.frame m ρ

theorem frame_bits : Cert.quiescent_InDh (hInDh := Cert.InDh.Gen.facts) := by
  intro m ρ _
  rw [main_same, defs_same]
  exact Cert.InDhIdeal.Gen.frame (F := Bits) m ρ

theorem frame_reference : Cert.quiescent_InDhRefIdeal (hInDhRefIdeal := Cert.InDhRefIdeal.Gen.facts) := fun m ρ _ =>
  (θ_run _ _ _).mono (fun r h => ⟨fun c => (h c).2, sem_eq_zero_of_no_sems (by decide) r.2⟩) (Cert.InDhRefIdeal.Value.run (F := Ideal) m ρ)

end Cert.InDhIdeal.Value

end
-- ==== Proof.Proj.Product.lean ====
module

public import Idealize.ShloMosaic.Lib.Pipeline.ValueKit

@[expose] public section

noncomputable section

/-!
The products of two matrices that the projections and their gradients are made of.
-/

namespace Cert.Proj

open Idealize.ShloMosaic

/-- The shape of a matrix. -/
abbrev Mat (I J : ℕ) : Shape := ⟨2, ![I, J]⟩

variable (I K J : ℕ)

/-- Rows of the first by columns of the second: a projection. -/
def nn (a : FVec Ideal (Mat I K) .f32) (b : FVec Ideal (Mat K J) .f32) : FVec Ideal (Mat I J) .f32 :=
  fun y => ∑ k : Fin K, a (ix2 (y 0) k) * b (ix2 k (y 1))

/-- Rows by rows: the gradient of a projection's input. -/
def nt (a : FVec Ideal (Mat I K) .f32) (b : FVec Ideal (Mat J K) .f32) : FVec Ideal (Mat I J) .f32 :=
  fun y => ∑ k : Fin K, a (ix2 (y 0) k) * b (ix2 (y 1) k)

/-- Columns by columns: the gradient of a projection's matrix. -/
def tn (a : FVec Ideal (Mat K I) .f32) (b : FVec Ideal (Mat K J) .f32) : FVec Ideal (Mat I J) .f32 :=
  fun y => ∑ k : Fin K, a (ix2 k (y 0)) * b (ix2 k (y 1))

/-- A projection over a residual. -/
def over (a : FVec Ideal (Mat I K) .f32) (b : FVec Ideal (Mat K J) .f32) (x : FVec Ideal (Mat I J) .f32) : FVec Ideal (Mat I J) .f32 :=
  fun y => x y + nn I K J a b y

/-- A projection with a bias over a residual. -/
def biased (a : FVec Ideal (Mat I K) .f32) (b : FVec Ideal (Mat K J) .f32) (x : FVec Ideal (Mat I J) .f32) (d : FVec Ideal (Mat 1 J) .f32) :
    FVec Ideal (Mat I J) .f32 := fun y => x y + nn I K J a b y + d (ix2 0 (y 1))

end Cert.Proj

end
-- ==== Proof.Proj.Xq.lean ====
module

public import proofs.«01_k».proof.Defs
public import proofs.«01_k».proof.Proof.Gen.Xq
public import proofs.«01_k».proof.Proof.Gen.XqIdeal.Value
public import proofs.«01_k».proof.Proof.Gen.XqRefIdeal.Run
public import proofs.«01_k».proof.Proof.Gen.XqDh
public import proofs.«01_k».proof.Proof.Gen.XqDhIdeal.Value
public import proofs.«01_k».proof.Proof.Gen.XqDhRefIdeal.Run
public import proofs.«01_k».proof.Proof.Gen.XqDw
public import proofs.«01_k».proof.Proof.Gen.XqDwIdeal.Value
public import proofs.«01_k».proof.Proof.Gen.XqDwRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline
open Cert.Proj

/-!
The calls xq, xq_dh, xq_dw: the queries of the attention to the memory, and their gradients.
-/

namespace Cert.XqIdeal.Value

open Cert.XqIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = nn 2048 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nn
  obtain ⟨e0, e1, e2⟩ := index_eq t
  pointwise
  blk_point [iblk, V, e0, e1, e2]

/-- The reference's array. -/
theorem ref_term (h : FVec Ideal (Mat 2048 2048) .f32) (w : FVec Ideal (Mat 2048 2048) .f32) :
    truncf .bf16 (Host.dotGeneral Cert.XqRefIdeal.dot_S2048x2048_S2048x2048_S2048x2048_1_0_0_1_n_n none h w) Cert.XqRefIdeal.Gen.bitsLt_bf16_f32
      = nn 2048 2048 2048 h w := by
  funext y
  unfold nn
  pointwise

/-- Both arrays agree. -/
theorem agree : Cert.algebraic_XqIdeal_XqRefIdeal (hXqIdeal := Cert.XqIdeal.Gen.facts) (hXqRefIdeal := Cert.XqRefIdeal.Gen.facts) := by
  intro m ρ m' ρ' _ hag
  refine ⟨fun c => nn 2048 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XqRefIdeal.Value.run m' ρ')⟩
  rw [(hag c).1, (hag c).2]
  rfl

theorem frame_ideal : Cert.quiescent_XqIdeal (hXqIdeal := Cert.XqIdeal.Gen.facts) := fun m ρ _ => Cert.XqIdeal.Gen.frame m ρ

set_option maxHeartbeats 0 in
theorem frame_bits : Cert.quiescent_Xq (hXq := Cert.Xq.Gen.facts) := by
  intro m ρ _
  rw [show (Cert.Xq.main (F := Bits)) = Cert.XqIdeal.main from rfl,
    show (Cert.Xq.defs (F := Bits)) = Cert.XqIdeal.defs by sl_kernel_rfl]
  exact Cert.XqIdeal.Gen.frame (F := Bits) m ρ

theorem frame_reference : Cert.quiescent_XqRefIdeal (hXqRefIdeal := Cert.XqRefIdeal.Gen.facts) := fun m ρ _ =>
  (θ_run _ _ _).mono (fun r h => ⟨fun c => (h c).2, sem_eq_zero_of_no_sems (by decide) r.2⟩) (Cert.XqRefIdeal.Value.run (F := Ideal) m ρ)

end Cert.XqIdeal.Value

namespace Cert.XqDhIdeal.Value

open Cert.XqDhIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

/-- The array that the kernel leaves. -/
theorem array : (dats m 0 c).arrAt 2 cfg0.N = nt 2048 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nt
  obtain ⟨e0, e1, e2⟩ := index_eq t
  pointwise
  blk_point [iblk, V, e0, e1, e2]

/-- The reference's array. -/
theorem ref_term (d : FVec Ideal (Mat 2048 2048) .f32) (w : FVec Ideal (Mat 2048 2048) .f32) :
    Host.dotGeneral (F := Ideal) Cert.XqDhRefIdeal.dot_S2048x2048_S2048x2048_S2048x2048_1_1_0_0_n_n none d w
      = nt 2048 2048 2048 d w := by
  funext y
  unfold nt
  pointwise

/-- Both arrays agree. -/
theorem agree : Cert.algebraic_XqDhIdeal_XqDhRefIdeal (hXqDhIdeal := Cert.XqDhIdeal.Gen.facts) (hXqDhRefIdeal := Cert.XqDhRefIdeal.Gen.facts) := by
  intro m ρ m' ρ' _ hag
  refine ⟨fun c => nt 2048 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XqDhRefIdeal.Value.run m' ρ')⟩
  rw [(hag c).1, (hag c).2]
  rfl

theorem frame_ideal : Cert.quiescent_XqDhIdeal (hXqDhIdeal := Cert.XqDhIdeal.Gen.facts) := fun m ρ _ => Cert.XqDhIdeal.Gen.frame m ρ

set_option maxHeartbeats 0 in
theorem frame_bits : Cert.quiescent_XqDh (hXqDh := Cert.XqDh.Gen.facts) := by
  intro m ρ _
  rw [show (Cert.XqDh.main (F := Bits)) = Cert.XqDhIdeal.main from rfl,
    show (Cert.XqDh.defs (F := Bits)) = Cert.XqDhIdeal.defs by sl_kernel_rfl]
  exact Cert.XqDhIdeal.Gen.frame (F := Bits) m ρ

theorem frame_reference : Cert.quiescent_XqDhRefIdeal (hXqDhRefIdeal := Cert.XqDhRefIdeal.Gen.facts) := fun m ρ _ =>
  (θ_run _ _ _).mono (fun r h => ⟨fun c => (h c).2, sem_eq_zero_of_no_sems (by decide) r.2⟩) (Cert.XqDhRefIdeal.Value.run (F := Ideal) m ρ)

end Cert.XqDhIdeal.Value

namespace Cert.XqDwIdeal.Value

open Cert.XqDwIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = tn 2048 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 tn
  obtain ⟨e0, e1, e2⟩ := index_eq t
  pointwise
  blk_point [iblk, V, e0, e1, e2]

/-- The reference's array. -/
theorem ref_term (h : FVec Ideal (Mat 2048 2048) .f32) (d : FVec Ideal (Mat 2048 2048) .f32) :
    truncf .bf16 (transpose Cert.XqDwRefIdeal.S2048x2048 [1, 0] (Host.dotGeneral Cert.XqDwRefIdeal.dot_S2048x2048_S2048x2048_S2048x2048_0_0_1_1_n_n none d h) Cert.XqDwRefIdeal.Gen.transposes_S2048x2048_S2048x2048_1_0) Cert.XqDwRefIdeal.Gen.bitsLt_bf16_f32
      = tn 2048 2048 2048 h d := by
  funext y
  unfold tn
  pointwise
  exact Finset.sum_congr rfl fun _ _ => mul_comm _ _

/-- Both arrays agree. -/
theorem agree : Cert.algebraic_XqDwIdeal_XqDwRefIdeal (hXqDwIdeal := Cert.XqDwIdeal.Gen.facts) (hXqDwRefIdeal := Cert.XqDwRefIdeal.Gen.facts) := by
  intro m ρ m' ρ' _ hag
  refine ⟨fun c => tn 2048 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XqDwRefIdeal.Value.run m' ρ')⟩
  rw [(hag c).1, (hag c).2]
  rfl

theorem frame_ideal : Cert.quiescent_XqDwIdeal (hXqDwIdeal := Cert.XqDwIdeal.Gen.facts) := fun m ρ _ => Cert.XqDwIdeal.Gen.frame m ρ

set_option maxHeartbeats 0 in
theorem frame_bits : Cert.quiescent_XqDw (hXqDw := Cert.XqDw.Gen.facts) := by
  intro m ρ _
  rw [show (Cert.XqDw.main (F := Bits)) = Cert.XqDwIdeal.main from rfl,
    show (Cert.XqDw.defs (F := Bits)) = Cert.XqDwIdeal.defs by sl_kernel_rfl]
  exact Cert.XqDwIdeal.Gen.frame (F := Bits) m ρ

theorem frame_reference : Cert.quiescent_XqDwRefIdeal (hXqDwRefIdeal := Cert.XqDwRefIdeal.Gen.facts) := fun m ρ _ =>
  (θ_run _ _ _).mono (fun r h => ⟨fun c => (h c).2, sem_eq_zero_of_no_sems (by decide) r.2⟩) (Cert.XqDwRefIdeal.Value.run (F := Ideal) m ρ)

end Cert.XqDwIdeal.Value

end
-- ==== Proof.Proj.Xo.lean ====
module

public import proofs.«01_k».proof.Defs
public import proofs.«01_k».proof.Proof.Gen.Xo
public import proofs.«01_k».proof.Proof.Gen.XoIdeal.Value
public import proofs.«01_k».proof.Proof.Gen.XoRefIdeal.Run
public import proofs.«01_k».proof.Proof.Gen.XoDo
public import proofs.«01_k».proof.Proof.Gen.XoDoIdeal.Value
public import proofs.«01_k».proof.Proof.Gen.XoDoRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline
open Cert.Proj

/-!
The calls xo, xo_do: the way out of the attention to the memory, and the gradient of its input.
-/

namespace Cert.XoIdeal.Value

open Cert.XoIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel

/-- The array that the kernel leaves. -/
theorem array : (dats m 0 c).arrAt 3 cfg0.N = over 2048 2048 2048 (m ((c.tc : Thread nD τ).loc main_arg1)) (m ((c.tc : Thread nD τ).loc main_arg2)) (m ((c.tc : Thread nD τ).loc main_arg0)) := by
  refine (dats m 0 c).arrAt_eq_of_covers 3 _ (by decide +kernel) fun t hf y => ?_
  blk_simp
  rw [after0_3]
  frame_out
  unfold k0_pay1 over nn
  obtain ⟨e0, e1, e2, e3⟩ := index_eq t
  pointwise
  rw [add_comm]
  refine congrArg₂ (fun x a : EReal => x + a) ?_ ?_
  · blk_point [iblk, V, e2, e3]
  · blk_point [iblk, V, e0, e1, e3]

/-- The reference's array. -/
theorem ref_term (o w x : FVec Ideal (Mat 2048 2048) .f32) :
    addf x (Host.dotGeneral Cert.XoRefIdeal.dot_S2048x2048_S2048x2048_S2048x2048_1_0_0_1_n_n none o w) = over 2048 2048 2048 o w x := by
  funext y
  unfold over nn
  pointwise

/-- Both arrays agree. -/
theorem agree : Cert.algebraic_XoIdeal_XoRefIdeal (hXoIdeal := Cert.XoIdeal.Gen.facts) (hXoRefIdeal := Cert.XoRefIdeal.Gen.facts) := by
  intro m ρ m' ρ' _ hag
  refine ⟨fun c => over 2048 2048 2048 (m ((c.tc : Thread nD τ).loc main_arg1)) (m ((c.tc : Thread nD τ).loc main_arg2)) (m ((c.tc : Thread nD τ).loc main_arg0)),
    (θ_run _ _ _).mono (fun r h c => ⟨(h c).1.trans (array m c), (h c).2⟩) (run_blocks m ρ),
    (θ_run _ _ _).mono (fun r h c => ⟨(h c).1.trans ((ref_term _ _ _).trans ?_), (h c).2⟩) (Cert.XoRefIdeal.Value.run m' ρ')⟩
  rw [(hag c).1, (hag c).2.1, (hag c).2.2]
  rfl

theorem frame_ideal : Cert.quiescent_XoIdeal (hXoIdeal := Cert.XoIdeal.Gen.facts) := fun m ρ _ => Cert.XoIdeal.Gen.frame m ρ

set_option maxHeartbeats 0 in
theorem frame_bits : Cert.quiescent_Xo (hXo := Cert.Xo.Gen.facts) := by
  intro m ρ _
  rw [show (Cert.Xo.main (F := Bits)) = Cert.XoIdeal.main from rfl,
    show (Cert.Xo.defs (F := Bits)) = Cert.XoIdeal.defs by sl_kernel_rfl]
  exact Cert.XoIdeal.Gen.frame (F := Bits) m ρ

theorem frame_reference : Cert.quiescent_XoRefIdeal (hXoRefIdeal := Cert.XoRefIdeal.Gen.facts) := fun m ρ _ =>
  (θ_run _ _ _).mono (fun r h => ⟨fun c => (h c).2, sem_eq_zero_of_no_sems (by decide) r.2⟩) (Cert.XoRefIdeal.Value.run (F := Ideal) m ρ)

end Cert.XoIdeal.Value

namespace Cert.XoDoIdeal.Value

open Cert.XoDoIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

/-- The array that the kernel leaves. -/
theorem array : (dats m 0 c).arrAt 2 cfg0.N = nt 2048 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nt
  obtain ⟨e0, e1, e2⟩ := index_eq t
  pointwise
  blk_point [iblk, V, e0, e1, e2]

/-- The reference's array. -/
theorem ref_term (d : FVec Ideal (Mat 2048 2048) .f32) (w : FVec Ideal (Mat 2048 2048) .f32) :
    truncf .bf16 (Host.dotGeneral Cert.XoDoRefIdeal.dot_S2048x2048_S2048x2048_S2048x2048_1_1_0_0_n_n none d w) Cert.XoDoRefIdeal.Gen.bitsLt_bf16_f32
      = nt 2048 2048 2048 d w := by
  funext y
  unfold nt
  pointwise

/-- Both arrays agree. -/
theorem agree : Cert.algebraic_XoDoIdeal_XoDoRefIdeal (hXoDoIdeal := Cert.XoDoIdeal.Gen.facts) (hXoDoRefIdeal := Cert.XoDoRefIdeal.Gen.facts) := by
  intro m ρ m' ρ' _ hag
  refine ⟨fun c => nt 2048 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XoDoRefIdeal.Value.run m' ρ')⟩
  rw [(hag c).1, (hag c).2]
  rfl

theorem frame_ideal : Cert.quiescent_XoDoIdeal (hXoDoIdeal := Cert.XoDoIdeal.Gen.facts) := fun m ρ _ => Cert.XoDoIdeal.Gen.frame m ρ

set_option maxHeartbeats 0 in
theorem frame_bits : Cert.quiescent_XoDo (hXoDo := Cert.XoDo.Gen.facts) := by
  intro m ρ _
  rw [show (Cert.XoDo.main (F := Bits)) = Cert.XoDoIdeal.main from rfl,
    show (Cert.XoDo.defs (F := Bits)) = Cert.XoDoIdeal.defs by sl_kernel_rfl]
  exact Cert.XoDoIdeal.Gen.frame (F := Bits) m ρ

theorem frame_reference : Cert.quiescent_XoDoRefIdeal (hXoDoRefIdeal := Cert.XoDoRefIdeal.Gen.facts) := fun m ρ _ =>
  (θ_run _ _ _).mono (fun r h => ⟨fun c => (h c).2, sem_eq_zero_of_no_sems (by decide) r.2⟩) (Cert.XoDoRefIdeal.Value.run (F := Ideal) m ρ)

end Cert.XoDoIdeal.Value

end
-- ==== Proof.Proj.Out.lean ====
module

public import proofs.«01_k».proof.Defs
public import proofs.«01_k».proof.Proof.Gen.Out
public import proofs.«01_k».proof.Proof.Gen.OutIdeal.Value
public import proofs.«01_k».proof.Proof.Gen.OutRefIdeal.Run
public import proofs.«01_k».proof.Proof.Gen.OutDw
public import proofs.«01_k».proof.Proof.Gen.OutDwIdeal.Value
public import proofs.«01_k».proof.Proof.Gen.OutDwRefIdeal.Run
public import proofs.«01_k».proof.Proof.Gen.OutDy
public import proofs.«01_k».proof.Proof.Gen.OutDyIdeal.Value
public import proofs.«01_k».proof.Proof.Gen.OutDyRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline
open Cert.Proj

/-!
The calls out_proj, out_dy, out_dw and xo_dw: the projection behind the scan and the window attention, and its gradients.
-/

namespace Cert.OutIdeal.Value

open Cert.OutIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![0, (grid0.coords t 1).val]
    ∧ win0_4.index t = ![(grid0.coords t 0).val, (grid0.coords t 1).val] := by decide +kernel

/-- The array that the kernel leaves. -/
theorem array : (dats m 0 c).arrAt 4 cfg0.N = biased 2048 2048 2048 (m ((c.tc : Thread nD τ).loc main_arg1)) (m ((c.tc : Thread nD τ).loc main_arg2)) (m ((c.tc : Thread nD τ).loc main_arg0)) (m ((c.tc : Thread nD τ).loc main_arg3)) := by
  refine (dats m 0 c).arrAt_eq_of_covers 4 _ (by decide +kernel) fun t hf y => ?_
  blk_simp
  rw [after0_4]
  frame_out
  unfold k0_pay1 biased nn
  obtain ⟨e0, e1, e2, e3, e4⟩ := index_eq t
  pointwise
  rw [add_comm (∑ _, _)]
  refine congrArg₂ (fun x d : EReal => x + d) (congrArg₂ (fun x a : EReal => x + a) ?_ ?_) ?_
  · blk_point [iblk, V, e2, e4]
  · blk_point [iblk, V, e0, e1, e4]
  · blk_point [iblk, V, e3, e4]

/-- The reference's array. -/
theorem ref_term (o w x : FVec Ideal (Mat 2048 2048) .f32) (d : FVec Ideal (Mat 1 2048) .f32) :
    addf (addf x (Host.dotGeneral Cert.OutRefIdeal.dot_S2048x2048_S2048x2048_S2048x2048_1_0_0_1_n_n none o w)) (broadcastInDim Cert.OutRefIdeal.S2048x2048 ![0, 1] Cert.OutRefIdeal.Gen.bcast_S1x2048_S2048x2048_0_1 d)
      = biased 2048 2048 2048 o w x d := by
  funext y
  unfold biased nn
  pointwise

/-- Both arrays agree. -/
theorem agree : Cert.algebraic_OutIdeal_OutRefIdeal (hOutIdeal := Cert.OutIdeal.Gen.facts) (hOutRefIdeal := Cert.OutRefIdeal.Gen.facts) := by
  intro m ρ m' ρ' _ hag
  refine ⟨fun c => biased 2048 2048 2048 (m ((c.tc : Thread nD τ).loc main_arg1)) (m ((c.tc : Thread nD τ).loc main_arg2)) (m ((c.tc : Thread nD τ).loc main_arg0)) (m ((c.tc : Thread nD τ).loc main_arg3)),
    (θ_run _ _ _).mono (fun r h c => ⟨(h c).1.trans (array m c), (h c).2⟩) (run_blocks m ρ),
    (θ_run _ _ _).mono (fun r h c => ⟨(h c).1.trans ((ref_term _ _ _ _).trans ?_), (h c).2⟩) (Cert.OutRefIdeal.Value.run m' ρ')⟩
  rw [(hag c).1, (hag c).2.1, (hag c).2.2.1, (hag c).2.2.2]
  rfl

theorem frame_ideal : Cert.quiescent_OutIdeal (hOutIdeal := Cert.OutIdeal.Gen.facts) := fun m ρ _ => Cert.OutIdeal.Gen.frame m ρ

set_option maxHeartbeats 0 in
theorem frame_bits : Cert.quiescent_Out (hOut := Cert.Out.Gen.facts) := by
  intro m ρ _
  rw [show (Cert.Out.main (F := Bits)) = Cert.OutIdeal.main from rfl,
    show (Cert.Out.defs (F := Bits)) = Cert.OutIdeal.defs by sl_kernel_rfl]
  exact Cert.OutIdeal.Gen.frame (F := Bits) m ρ

theorem frame_reference : Cert.quiescent_OutRefIdeal (hOutRefIdeal := Cert.OutRefIdeal.Gen.facts) := fun m ρ _ =>
  (θ_run _ _ _).mono (fun r h => ⟨fun c => (h c).2, sem_eq_zero_of_no_sems (by decide) r.2⟩) (Cert.OutRefIdeal.Value.run (F := Ideal) m ρ)

end Cert.OutIdeal.Value

namespace Cert.OutDyIdeal.Value

open Cert.OutDyIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

/-- The array that the kernel leaves. -/
theorem array : (dats m 0 c).arrAt 2 cfg0.N = nt 2048 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nt
  obtain ⟨e0, e1, e2⟩ := index_eq t
  pointwise
  blk_point [iblk, V, e0, e1, e2]

/-- The reference's array. -/
theorem ref_term (d : FVec Ideal (Mat 2048 2048) .f32) (w : FVec Ideal (Mat 2048 2048) .f32) :
    Host.dotGeneral (F := Ideal) Cert.OutDyRefIdeal.dot_S2048x2048_S2048x2048_S2048x2048_1_1_0_0_n_n none d w
      = nt 2048 2048 2048 d w := by
  funext y
  unfold nt
  pointwise

/-- Both arrays agree. -/
theorem agree : Cert.algebraic_OutDyIdeal_OutDyRefIdeal (hOutDyIdeal := Cert.OutDyIdeal.Gen.facts) (hOutDyRefIdeal := Cert.OutDyRefIdeal.Gen.facts) := by
  intro m ρ m' ρ' _ hag
  refine ⟨fun c => nt 2048 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.OutDyRefIdeal.Value.run m' ρ')⟩
  rw [(hag c).1, (hag c).2]
  rfl

theorem frame_ideal : Cert.quiescent_OutDyIdeal (hOutDyIdeal := Cert.OutDyIdeal.Gen.facts) := fun m ρ _ => Cert.OutDyIdeal.Gen.frame m ρ

set_option maxHeartbeats 0 in
theorem frame_bits : Cert.quiescent_OutDy (hOutDy := Cert.OutDy.Gen.facts) := by
  intro m ρ _
  rw [show (Cert.OutDy.main (F := Bits)) = Cert.OutDyIdeal.main from rfl,
    show (Cert.OutDy.defs (F := Bits)) = Cert.OutDyIdeal.defs by sl_kernel_rfl]
  exact Cert.OutDyIdeal.Gen.frame (F := Bits) m ρ

theorem frame_reference : Cert.quiescent_OutDyRefIdeal (hOutDyRefIdeal := Cert.OutDyRefIdeal.Gen.facts) := fun m ρ _ =>
  (θ_run _ _ _).mono (fun r h => ⟨fun c => (h c).2, sem_eq_zero_of_no_sems (by decide) r.2⟩) (Cert.OutDyRefIdeal.Value.run (F := Ideal) m ρ)

end Cert.OutDyIdeal.Value

namespace Cert.OutDwIdeal.Value

open Cert.OutDwIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = tn 2048 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 tn
  obtain ⟨e0, e1, e2⟩ := index_eq t
  pointwise
  blk_point [iblk, V, e0, e1, e2]

/-- The reference's array. -/
theorem ref_term (y : FVec Ideal (Mat 2048 2048) .f32) (d : FVec Ideal (Mat 2048 2048) .f32) :
    truncf .bf16 (transpose Cert.OutDwRefIdeal.S2048x2048 [1, 0] (Host.dotGeneral Cert.OutDwRefIdeal.dot_S2048x2048_S2048x2048_S2048x2048_0_0_1_1_n_n none d y) Cert.OutDwRefIdeal.Gen.transposes_S2048x2048_S2048x2048_1_0) Cert.OutDwRefIdeal.Gen.bitsLt_bf16_f32
      = tn 2048 2048 2048 y d := by
  funext y
  unfold tn
  pointwise
  exact Finset.sum_congr rfl fun _ _ => mul_comm _ _

/-- Both arrays agree. -/
theorem agree : Cert.algebraic_OutDwIdeal_OutDwRefIdeal (hOutDwIdeal := Cert.OutDwIdeal.Gen.facts) (hOutDwRefIdeal := Cert.OutDwRefIdeal.Gen.facts) := by
  intro m ρ m' ρ' _ hag
  refine ⟨fun c => tn 2048 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.OutDwRefIdeal.Value.run m' ρ')⟩
  rw [(hag c).1, (hag c).2]
  rfl

theorem frame_ideal : Cert.quiescent_OutDwIdeal (hOutDwIdeal := Cert.OutDwIdeal.Gen.facts) := fun m ρ _ => Cert.OutDwIdeal.Gen.frame m ρ

set_option maxHeartbeats 0 in
theorem frame_bits : Cert.quiescent_OutDw (hOutDw := Cert.OutDw.Gen.facts) := by
  intro m ρ _
  rw [show (Cert.OutDw.main (F := Bits)) = Cert.OutDwIdeal.main from rfl,
    show (Cert.OutDw.defs (F := Bits)) = Cert.OutDwIdeal.defs by sl_kernel_rfl]
  exact Cert.OutDwIdeal.Gen.frame (F := Bits) m ρ

theorem frame_reference : Cert.quiescent_OutDwRefIdeal (hOutDwRefIdeal := Cert.OutDwRefIdeal.Gen.facts) := fun m ρ _ =>
  (θ_run _ _ _).mono (fun r h => ⟨fun c => (h c).2, sem_eq_zero_of_no_sems (by decide) r.2⟩) (Cert.OutDwRefIdeal.Value.run (F := Ideal) m ρ)

end Cert.OutDwIdeal.Value

end
-- ==== Proof.Proj.Lora.lean ====
module

public import proofs.«01_k».proof.Defs
public import proofs.«01_k».proof.Proof.Gen.Lora
public import proofs.«01_k».proof.Proof.Gen.LoraIdeal.Value
public import proofs.«01_k».proof.Proof.Gen.LoraRefIdeal.Run
public import proofs.«01_k».proof.Proof.Gen.LoraDw
public import proofs.«01_k».proof.Proof.Gen.LoraDwIdeal.Value
public import proofs.«01_k».proof.Proof.Gen.LoraDwRefIdeal.Run
public import proofs.«01_k».proof.Proof.Gen.LoraDh
public import proofs.«01_k».proof.Proof.Gen.LoraDhIdeal.Value
public import proofs.«01_k».proof.Proof.Gen.LoraDhRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline
open Cert.Proj

/-!
The calls in_lora, in_dw_lora, in_dh_lora: the projection to the low-rank inputs, and its gradients.
-/

namespace Cert.LoraIdeal.Value

open Cert.LoraIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

/-- The array that the kernel leaves. -/
theorem array : (dats m 0 c).arrAt 2 cfg0.N = nt 2048 2048 288 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nt
  obtain ⟨e0, e1, e2⟩ := index_eq t
  pointwise
  blk_point [iblk, V, e0, e1, e2]

/-- The reference's array. -/
theorem ref_term (h : FVec Ideal (Mat 2048 2048) .f32) (w : FVec Ideal (Mat 288 2048) .f32) :
    Host.dotGeneral (F := Ideal) Cert.LoraRefIdeal.dot_S2048x2048_S2048x288_S2048x288_1_0_0_1_n_n none h (transpose Cert.LoraRefIdeal.S2048x288 [1, 0] w Cert.LoraRefIdeal.Gen.transposes_S288x2048_S2048x288_1_0)
      = nt 2048 2048 288 h w := by
  funext y
  unfold nt
  pointwise

/-- Both arrays agree. -/
theorem agree : Cert.algebraic_LoraIdeal_LoraRefIdeal (hLoraIdeal := Cert.LoraIdeal.Gen.facts) (hLoraRefIdeal := Cert.LoraRefIdeal.Gen.facts) := by
  intro m ρ m' ρ' _ hag
  refine ⟨fun c => nt 2048 2048 288 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.LoraRefIdeal.Value.run m' ρ')⟩
  rw [(hag c).1, (hag c).2]
  rfl

theorem frame_ideal : Cert.quiescent_LoraIdeal (hLoraIdeal := Cert.LoraIdeal.Gen.facts) := fun m ρ _ => Cert.LoraIdeal.Gen.frame m ρ

set_option maxHeartbeats 0 in
theorem frame_bits : Cert.quiescent_Lora (hLora := Cert.Lora.Gen.facts) := by
  intro m ρ _
  rw [show (Cert.Lora.main (F := Bits)) = Cert.LoraIdeal.main from rfl,
    show (Cert.Lora.defs (F := Bits)) = Cert.LoraIdeal.defs by sl_kernel_rfl]
  exact Cert.LoraIdeal.Gen.frame (F := Bits) m ρ

theorem frame_reference : Cert.quiescent_LoraRefIdeal (hLoraRefIdeal := Cert.LoraRefIdeal.Gen.facts) := fun m ρ _ =>
  (θ_run _ _ _).mono (fun r h => ⟨fun c => (h c).2, sem_eq_zero_of_no_sems (by decide) r.2⟩) (Cert.LoraRefIdeal.Value.run (F := Ideal) m ρ)

end Cert.LoraIdeal.Value

namespace Cert.LoraDwIdeal.Value

open Cert.LoraDwIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = tn 288 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 tn
  obtain ⟨e0, e1, e2⟩ := index_eq t
  pointwise
  blk_point [iblk, V, e0, e1, e2]

/-- The reference's array. -/
theorem ref_term (d : FVec Ideal (Mat 2048 288) .f32) (h : FVec Ideal (Mat 2048 2048) .f32) :
    transpose Cert.LoraDwRefIdeal.S288x2048 [1, 0] (transpose Cert.LoraDwRefIdeal.S2048x288 [1, 0] (Host.dotGeneral (F := Ideal) Cert.LoraDwRefIdeal.dot_S2048x288_S2048x2048_S288x2048_0_0_1_1_n_n none d h)
        Cert.LoraDwRefIdeal.Gen.transposes_S288x2048_S2048x288_1_0) Cert.LoraDwRefIdeal.Gen.transposes_S2048x288_S288x2048_1_0
      = tn 288 2048 2048 d h := by
  funext y
  unfold tn
  pointwise

/-- Both arrays agree. -/
theorem agree : Cert.algebraic_LoraDwIdeal_LoraDwRefIdeal (hLoraDwIdeal := Cert.LoraDwIdeal.Gen.facts) (hLoraDwRefIdeal := Cert.LoraDwRefIdeal.Gen.facts) := by
  intro m ρ m' ρ' _ hag
  refine ⟨fun c => tn 288 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.LoraDwRefIdeal.Value.run m' ρ')⟩
  rw [(hag c).1, (hag c).2]
  rfl

theorem frame_ideal : Cert.quiescent_LoraDwIdeal (hLoraDwIdeal := Cert.LoraDwIdeal.Gen.facts) := fun m ρ _ => Cert.LoraDwIdeal.Gen.frame m ρ

set_option maxHeartbeats 0 in
theorem frame_bits : Cert.quiescent_LoraDw (hLoraDw := Cert.LoraDw.Gen.facts) := by
  intro m ρ _
  rw [show (Cert.LoraDw.main (F := Bits)) = Cert.LoraDwIdeal.main from rfl,
    show (Cert.LoraDw.defs (F := Bits)) = Cert.LoraDwIdeal.defs by sl_kernel_rfl]
  exact Cert.LoraDwIdeal.Gen.frame (F := Bits) m ρ

theorem frame_reference : Cert.quiescent_LoraDwRefIdeal (hLoraDwRefIdeal := Cert.LoraDwRefIdeal.Gen.facts) := fun m ρ _ =>
  (θ_run _ _ _).mono (fun r h => ⟨fun c => (h c).2, sem_eq_zero_of_no_sems (by decide) r.2⟩) (Cert.LoraDwRefIdeal.Value.run (F := Ideal) m ρ)

end Cert.LoraDwIdeal.Value

namespace Cert.LoraDhIdeal.Value

open Cert.LoraDhIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel

/-- The array that the kernel leaves. -/
theorem array : (dats m 0 c).arrAt 3 cfg0.N = over 2048 288 2048 (m ((c.tc : Thread nD τ).loc main_arg1)) (m ((c.tc : Thread nD τ).loc main_arg2)) (m ((c.tc : Thread nD τ).loc main_arg0)) := by
  refine (dats m 0 c).arrAt_eq_of_covers 3 _ (by decide +kernel) fun t hf y => ?_
  blk_simp
  rw [after0_3]
  frame_out
  unfold k0_pay1 over nn
  obtain ⟨e0, e1, e2, e3⟩ := index_eq t
  pointwise
  rw [add_comm]
  refine congrArg₂ (fun x a : EReal => x + a) ?_ ?_
  · blk_point [iblk, V, e2, e3]
  · blk_point [iblk, V, e0, e1, e3]

/-- The reference's array. -/
theorem ref_term (d : FVec Ideal (Mat 2048 288) .f32) (w : FVec Ideal (Mat 288 2048) .f32) (x : FVec Ideal (Mat 2048 2048) .f32) :
    addf x (Host.dotGeneral Cert.LoraDhRefIdeal.dot_S2048x288_S2048x288_S2048x2048_1_1_0_0_n_n none d
        (transpose Cert.LoraDhRefIdeal.S2048x288 [1, 0] w Cert.LoraDhRefIdeal.Gen.transposes_S288x2048_S2048x288_1_0)) = over 2048 288 2048 d w x := by
  funext y
  unfold over nn
  pointwise

/-- Both arrays agree. -/
theorem agree : Cert.algebraic_LoraDhIdeal_LoraDhRefIdeal (hLoraDhIdeal := Cert.LoraDhIdeal.Gen.facts) (hLoraDhRefIdeal := Cert.LoraDhRefIdeal.Gen.facts) := by
  intro m ρ m' ρ' _ hag
  refine ⟨fun c => over 2048 288 2048 (m ((c.tc : Thread nD τ).loc main_arg1)) (m ((c.tc : Thread nD τ).loc main_arg2)) (m ((c.tc : Thread nD τ).loc main_arg0)),
    (θ_run _ _ _).mono (fun r h c => ⟨(h c).1.trans (array m c), (h c).2⟩) (run_blocks m ρ),
    (θ_run _ _ _).mono (fun r h c => ⟨(h c).1.trans ((ref_term _ _ _).trans ?_), (h c).2⟩) (Cert.LoraDhRefIdeal.Value.run m' ρ')⟩
  rw [(hag c).1, (hag c).2.1, (hag c).2.2]
  rfl

theorem frame_ideal : Cert.quiescent_LoraDhIdeal (hLoraDhIdeal := Cert.LoraDhIdeal.Gen.facts) := fun m ρ _ => Cert.LoraDhIdeal.Gen.frame m ρ

set_option maxHeartbeats 0 in
theorem frame_bits : Cert.quiescent_LoraDh (hLoraDh := Cert.LoraDh.Gen.facts) := by
  intro m ρ _
  rw [show (Cert.LoraDh.main (F := Bits)) = Cert.LoraDhIdeal.main from rfl,
    show (Cert.LoraDh.defs (F := Bits)) = Cert.LoraDhIdeal.defs by sl_kernel_rfl]
  exact Cert.LoraDhIdeal.Gen.frame (F := Bits) m ρ

theorem frame_reference : Cert.quiescent_LoraDhRefIdeal (hLoraDhRefIdeal := Cert.LoraDhRefIdeal.Gen.facts) := fun m ρ _ =>
  (θ_run _ _ _).mono (fun r h => ⟨fun c => (h c).2, sem_eq_zero_of_no_sems (by decide) r.2⟩) (Cert.LoraDhRefIdeal.Value.run (F := Ideal) m ρ)

end Cert.LoraDhIdeal.Value

end
-- ==== Proof.Proj.Swa.lean ====
module

public import proofs.«01_k».proof.Defs
public import proofs.«01_k».proof.Proof.Gen.Swa
public import proofs.«01_k».proof.Proof.Gen.SwaIdeal.Value
public import proofs.«01_k».proof.Proof.Gen.SwaRefIdeal.Run
public import proofs.«01_k».proof.Proof.Gen.SwaDw
public import proofs.«01_k».proof.Proof.Gen.SwaDwIdeal.Value
public import proofs.«01_k».proof.Proof.Gen.SwaDwRefIdeal.Run
public import proofs.«01_k».proof.Proof.Gen.SwaDh
public import proofs.«01_k».proof.Proof.Gen.SwaDhIdeal.Value
public import proofs.«01_k».proof.Proof.Gen.SwaDhRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline
open Cert.Proj

/-!
The calls in_swa, in_dw_swa, in_dh_swa: the projection to the window attention, and its gradients.
-/

namespace Cert.SwaIdeal.Value

open Cert.SwaIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![(grid0.coords t 1).val, 0]
    ∧ win0_2.index t = ![(grid0.coords t 0).val, (grid0.coords t 1).val] := by decide +kernel

/-- The array that the kernel leaves. -/
theorem array : (dats m 0 c).arrAt 2 cfg0.N = nt 2048 2048 1280 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nt
  obtain ⟨e0, e1, e2⟩ := index_eq t
  pointwise
  blk_point [iblk, V, e0, e1, e2]

/-- The reference's array. -/
theorem ref_term (h : FVec Ideal (Mat 2048 2048) .f32) (w : FVec Ideal (Mat 1280 2048) .f32) :
    Host.dotGeneral (F := Ideal) Cert.SwaRefIdeal.dot_S2048x2048_S2048x1280_S2048x1280_1_0_0_1_n_n none h (transpose Cert.SwaRefIdeal.S2048x1280 [1, 0] w Cert.SwaRefIdeal.Gen.transposes_S1280x2048_S2048x1280_1_0)
      = nt 2048 2048 1280 h w := by
  funext y
  unfold nt
  pointwise

/-- Both arrays agree. -/
theorem agree : Cert.algebraic_SwaIdeal_SwaRefIdeal (hSwaIdeal := Cert.SwaIdeal.Gen.facts) (hSwaRefIdeal := Cert.SwaRefIdeal.Gen.facts) := by
  intro m ρ m' ρ' _ hag
  refine ⟨fun c => nt 2048 2048 1280 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.SwaRefIdeal.Value.run m' ρ')⟩
  rw [(hag c).1, (hag c).2]
  rfl

theorem frame_ideal : Cert.quiescent_SwaIdeal (hSwaIdeal := Cert.SwaIdeal.Gen.facts) := fun m ρ _ => Cert.SwaIdeal.Gen.frame m ρ

set_option maxHeartbeats 0 in
theorem frame_bits : Cert.quiescent_Swa (hSwa := Cert.Swa.Gen.facts) := by
  intro m ρ _
  rw [show (Cert.Swa.main (F := Bits)) = Cert.SwaIdeal.main from rfl,
    show (Cert.Swa.defs (F := Bits)) = Cert.SwaIdeal.defs by sl_kernel_rfl]
  exact Cert.SwaIdeal.Gen.frame (F := Bits) m ρ

theorem frame_reference : Cert.quiescent_SwaRefIdeal (hSwaRefIdeal := Cert.SwaRefIdeal.Gen.facts) := fun m ρ _ =>
  (θ_run _ _ _).mono (fun r h => ⟨fun c => (h c).2, sem_eq_zero_of_no_sems (by decide) r.2⟩) (Cert.SwaRefIdeal.Value.run (F := Ideal) m ρ)

end Cert.SwaIdeal.Value

namespace Cert.SwaDwIdeal.Value

open Cert.SwaDwIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = tn 1280 2048 2048 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 tn
  obtain ⟨e0, e1, e2⟩ := index_eq t
  pointwise
  blk_point [iblk, V, e0, e1, e2]

/-- The reference's array. -/
theorem ref_term (d : FVec Ideal (Mat 2048 1280) .f32) (h : FVec Ideal (Mat 2048 2048) .f32) :
    transpose Cert.SwaDwRefIdeal.S1280x2048 [1, 0] (transpose Cert.SwaDwRefIdeal.S2048x1280 [1, 0] (Host.dotGeneral (F := Ideal) Cert.SwaDwRefIdeal.dot_S2048x1280_S2048x2048_S1280x2048_0_0_1_1_n_n none d h)
        Cert.SwaDwRefIdeal.Gen.transposes_S1280x2048_S2048x1280_1_0) Cert.SwaDwRefIdeal.Gen.transposes_S2048x1280_S1280x2048_1_0
      = tn 1280 2048 2048 d h := by
  funext y
  unfold tn
  pointwise

/-- Both arrays agree. -/
theorem agree : Cert.algebraic_SwaDwIdeal_SwaDwRefIdeal (hSwaDwIdeal := Cert.SwaDwIdeal.Gen.facts) (hSwaDwRefIdeal := Cert.SwaDwRefIdeal.Gen.facts) := by
  intro m ρ m' ρ' _ hag
  refine ⟨fun c => tn 1280 2048 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.SwaDwRefIdeal.Value.run m' ρ')⟩
  rw [(hag c).1, (hag c).2]
  rfl

theorem frame_ideal : Cert.quiescent_SwaDwIdeal (hSwaDwIdeal := Cert.SwaDwIdeal.Gen.facts) := fun m ρ _ => Cert.SwaDwIdeal.Gen.frame m ρ

set_option maxHeartbeats 0 in
theorem frame_bits : Cert.quiescent_SwaDw (hSwaDw := Cert.SwaDw.Gen.facts) := by
  intro m ρ _
  rw [show (Cert.SwaDw.main (F := Bits)) = Cert.SwaDwIdeal.main from rfl,
    show (Cert.SwaDw.defs (F := Bits)) = Cert.SwaDwIdeal.defs by sl_kernel_rfl]
  exact Cert.SwaDwIdeal.Gen.frame (F := Bits) m ρ

theorem frame_reference : Cert.quiescent_SwaDwRefIdeal (hSwaDwRefIdeal := Cert.SwaDwRefIdeal.Gen.facts) := fun m ρ _ =>
  (θ_run _ _ _).mono (fun r h => ⟨fun c => (h c).2, sem_eq_zero_of_no_sems (by decide) r.2⟩) (Cert.SwaDwRefIdeal.Value.run (F := Ideal) m ρ)

end Cert.SwaDwIdeal.Value

namespace Cert.SwaDhIdeal.Value

open Cert.SwaDhIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel

/-- The array that the kernel leaves. -/
theorem array : (dats m 0 c).arrAt 3 cfg0.N = over 2048 1280 2048 (m ((c.tc : Thread nD τ).loc main_arg1)) (m ((c.tc : Thread nD τ).loc main_arg2)) (m ((c.tc : Thread nD τ).loc main_arg0)) := by
  refine (dats m 0 c).arrAt_eq_of_covers 3 _ (by decide +kernel) fun t hf y => ?_
  blk_simp
  rw [after0_3]
  frame_out
  unfold k0_pay1 over nn
  obtain ⟨e0, e1, e2, e3⟩ := index_eq t
  pointwise
  rw [add_comm]
  refine congrArg₂ (fun x a : EReal => x + a) ?_ ?_
  · blk_point [iblk, V, e2, e3]
  · blk_point [iblk, V, e0, e1, e3]

/-- The reference's array. -/
theorem ref_term (d : FVec Ideal (Mat 2048 1280) .f32) (w : FVec Ideal (Mat 1280 2048) .f32) (x : FVec Ideal (Mat 2048 2048) .f32) :
    addf x (Host.dotGeneral Cert.SwaDhRefIdeal.dot_S2048x1280_S2048x1280_S2048x2048_1_1_0_0_n_n none d
        (transpose Cert.SwaDhRefIdeal.S2048x1280 [1, 0] w Cert.SwaDhRefIdeal.Gen.transposes_S1280x2048_S2048x1280_1_0)) = over 2048 1280 2048 d w x := by
  funext y
  unfold over nn
  pointwise

/-- Both arrays agree. -/
theorem agree : Cert.algebraic_SwaDhIdeal_SwaDhRefIdeal (hSwaDhIdeal := Cert.SwaDhIdeal.Gen.facts) (hSwaDhRefIdeal := Cert.SwaDhRefIdeal.Gen.facts) := by
  intro m ρ m' ρ' _ hag
  refine ⟨fun c => over 2048 1280 2048 (m ((c.tc : Thread nD τ).loc main_arg1)) (m ((c.tc : Thread nD τ).loc main_arg2)) (m ((c.tc : Thread nD τ).loc main_arg0)),
    (θ_run _ _ _).mono (fun r h c => ⟨(h c).1.trans (array m c), (h c).2⟩) (run_blocks m ρ),
    (θ_run _ _ _).mono (fun r h c => ⟨(h c).1.trans ((ref_term _ _ _).trans ?_), (h c).2⟩) (Cert.SwaDhRefIdeal.Value.run m' ρ')⟩
  rw [(hag c).1, (hag c).2.1, (hag c).2.2]
  rfl

theorem frame_ideal : Cert.quiescent_SwaDhIdeal (hSwaDhIdeal := Cert.SwaDhIdeal.Gen.facts) := fun m ρ _ => Cert.SwaDhIdeal.Gen.frame m ρ

set_option maxHeartbeats 0 in
theorem frame_bits : Cert.quiescent_SwaDh (hSwaDh := Cert.SwaDh.Gen.facts) := by
  intro m ρ _
  rw [show (Cert.SwaDh.main (F := Bits)) = Cert.SwaDhIdeal.main from rfl,
    show (Cert.SwaDh.defs (F := Bits)) = Cert.SwaDhIdeal.defs by sl_kernel_rfl]
  exact Cert.SwaDhIdeal.Gen.frame (F := Bits) m ρ

theorem frame_reference : Cert.quiescent_SwaDhRefIdeal (hSwaDhRefIdeal := Cert.SwaDhRefIdeal.Gen.facts) := fun m ρ _ =>
  (θ_run _ _ _).mono (fun r h => ⟨fun c => (h c).2, sem_eq_zero_of_no_sems (by decide) r.2⟩) (Cert.SwaDhRefIdeal.Value.run (F := Ideal) m ρ)

end Cert.SwaDhIdeal.Value

end
-- ==== Proof.Proj.Xkv.lean ====
module

public import proofs.«01_k».proof.Defs
public import proofs.«01_k».proof.Proof.Gen.Xkv
public import proofs.«01_k».proof.Proof.Gen.XkvIdeal.Value
public import proofs.«01_k».proof.Proof.Gen.XkvRefIdeal.Run
public import proofs.«01_k».proof.Proof.Gen.XkvDw
public import proofs.«01_k».proof.Proof.Gen.XkvDwIdeal.Value
public import proofs.«01_k».proof.Proof.Gen.XkvDwRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline
open Cert.Proj

/-!
The calls xkv, xkv_dw: keys and values of the memory, and the gradient of their matrix.
-/

namespace Cert.XkvIdeal.Value

open Cert.XkvIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = nn 256 2048 4096 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 nn
  obtain ⟨e0, e1, e2⟩ := index_eq t
  pointwise
  blk_point [iblk, V, e0, e1, e2]

/-- The reference's array. -/
theorem ref_term (h : FVec Ideal (Mat 256 2048) .f32) (w : FVec Ideal (Mat 2048 4096) .f32) :
    truncf .bf16 (Host.dotGeneral Cert.XkvRefIdeal.dot_S256x2048_S2048x4096_S256x4096_1_0_0_1_n_n none h w) Cert.XkvRefIdeal.Gen.bitsLt_bf16_f32
      = nn 256 2048 4096 h w := by
  funext y
  unfold nn
  pointwise

/-- Both arrays agree. -/
theorem agree : Cert.algebraic_XkvIdeal_XkvRefIdeal (hXkvIdeal := Cert.XkvIdeal.Gen.facts) (hXkvRefIdeal := Cert.XkvRefIdeal.Gen.facts) := by
  intro m ρ m' ρ' _ hag
  refine ⟨fun c => nn 256 2048 4096 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XkvRefIdeal.Value.run m' ρ')⟩
  rw [(hag c).1, (hag c).2]
  rfl

theorem frame_ideal : Cert.quiescent_XkvIdeal (hXkvIdeal := Cert.XkvIdeal.Gen.facts) := fun m ρ _ => Cert.XkvIdeal.Gen.frame m ρ

set_option maxHeartbeats 0 in
theorem frame_bits : Cert.quiescent_Xkv (hXkv := Cert.Xkv.Gen.facts) := by
  intro m ρ _
  rw [show (Cert.Xkv.main (F := Bits)) = Cert.XkvIdeal.main from rfl,
    show (Cert.Xkv.defs (F := Bits)) = Cert.XkvIdeal.defs by sl_kernel_rfl]
  exact Cert.XkvIdeal.Gen.frame (F := Bits) m ρ

theorem frame_reference : Cert.quiescent_XkvRefIdeal (hXkvRefIdeal := Cert.XkvRefIdeal.Gen.facts) := fun m ρ _ =>
  (θ_run _ _ _).mono (fun r h => ⟨fun c => (h c).2, sem_eq_zero_of_no_sems (by decide) r.2⟩) (Cert.XkvRefIdeal.Value.run (F := Ideal) m ρ)

end Cert.XkvIdeal.Value

namespace Cert.XkvDwIdeal.Value

open Cert.XkvDwIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![0, (grid0.coords t 0).val]
    ∧ win0_1.index t = ![0, (grid0.coords t 1).val]
    ∧ win0_2.index t = ![(grid0.coords t 0).val, (grid0.coords t 1).val] := by decide +kernel

/-- The array that the kernel leaves. -/
theorem array : (dats m 0 c).arrAt 2 cfg0.N = tn 2048 256 4096 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 tn
  obtain ⟨e0, e1, e2⟩ := index_eq t
  pointwise
  blk_point [iblk, V, e0, e1, e2]

/-- The reference's array. -/
theorem ref_term (h : FVec Ideal (Mat 256 2048) .f32) (d : FVec Ideal (Mat 256 4096) .f32) :
    truncf .bf16 (transpose Cert.XkvDwRefIdeal.S2048x4096 [1, 0] (Host.dotGeneral Cert.XkvDwRefIdeal.dot_S256x4096_S256x2048_S4096x2048_0_0_1_1_n_n none d h) Cert.XkvDwRefIdeal.Gen.transposes_S4096x2048_S2048x4096_1_0) Cert.XkvDwRefIdeal.Gen.bitsLt_bf16_f32
      = tn 2048 256 4096 h d := by
  funext y
  unfold tn
  pointwise
  exact Finset.sum_congr rfl fun _ _ => mul_comm _ _

/-- Both arrays agree. -/
theorem agree : Cert.algebraic_XkvDwIdeal_XkvDwRefIdeal (hXkvDwIdeal := Cert.XkvDwIdeal.Gen.facts) (hXkvDwRefIdeal := Cert.XkvDwRefIdeal.Gen.facts) := by
  intro m ρ m' ρ' _ hag
  refine ⟨fun c => tn 2048 256 4096 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XkvDwRefIdeal.Value.run m' ρ')⟩
  rw [(hag c).1, (hag c).2]
  rfl

theorem frame_ideal : Cert.quiescent_XkvDwIdeal (hXkvDwIdeal := Cert.XkvDwIdeal.Gen.facts) := fun m ρ _ => Cert.XkvDwIdeal.Gen.frame m ρ

set_option maxHeartbeats 0 in
theorem frame_bits : Cert.quiescent_XkvDw (hXkvDw := Cert.XkvDw.Gen.facts) := by
  intro m ρ _
  rw [show (Cert.XkvDw.main (F := Bits)) = Cert.XkvDwIdeal.main from rfl,
    show (Cert.XkvDw.defs (F := Bits)) = Cert.XkvDwIdeal.defs by sl_kernel_rfl]
  exact Cert.XkvDwIdeal.Gen.frame (F := Bits) m ρ

theorem frame_reference : Cert.quiescent_XkvDwRefIdeal (hXkvDwRefIdeal := Cert.XkvDwRefIdeal.Gen.facts) := fun m ρ _ =>
  (θ_run _ _ _).mono (fun r h => ⟨fun c => (h c).2, sem_eq_zero_of_no_sems (by decide) r.2⟩) (Cert.XkvDwRefIdeal.Value.run (F := Ideal) m ρ)

end Cert.XkvDwIdeal.Value

end
-- ==== Proof.Proj.XkvDh.lean ====
module

public import proofs.«01_k».proof.Defs
public import proofs.«01_k».proof.Proof.Gen.XkvDh
public import proofs.«01_k».proof.Proof.Gen.XkvDhIdeal.Value
public import proofs.«01_k».proof.Proof.Gen.XkvDhRefIdeal.Run
public import proofs.«01_k».proof.Proof.Proj.Product
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

/-!
The call xkv_dmn: the gradient of the normed memory, added up over two points of the grid.
-/

namespace Cert.XkvDhIdeal.Value

open Cert.XkvDhIdeal.Gen Cert.Proj
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-- Which blocks the windows show at the two points of a run. -/
theorem index_run : ∀ (t : Fin cfg0.N) (s : Fin 2) (h : 2 * (t.val / 2) + s.val < cfg0.N),
    win0_0.index ⟨2 * (t.val / 2) + s.val, h⟩ = ![win0_2.index t 0, s.val]
    ∧ win0_1.index ⟨2 * (t.val / 2) + s.val, h⟩ = ![win0_2.index t 1, s.val] := by decide +kernel

/-- The first point of a run stores its product. -/
theorem first (t : Fin cfg0.N) (h : t.val % 2 = 0) :
    (outsAt0 m c t.val t.isLt).2 = k0_pay2 (iblk m c 0 t) (iblk m c 1 t) := by
  rw [outsAt0_A m c t h (by omega) (by omega)]
  dsimp only
  unfold sout0_A_0
  frame_out

/-- The second adds its own. -/
theorem last (t : Fin cfg0.N) (h : ¬t.val % 2 = 0) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h (by omega) (by omega)]
  dsimp only
  unfold sout0_B_0
  frame_out
  exact congrArg (k0_pay3 _ _) ((Memref.isWhole_whole cc0_scratch0).read_unread _)

/-- The second stores what it leaves in the accumulator. -/
theorem stored (t : Fin cfg0.N) (h : ¬t.val % 2 = 0) : (outsAt0 m c t.val t.isLt).1 = (outsAt0 m c t.val t.isLt).2 := by
  rw [last m c t h, outsAt0_B m c t h (by omega) (by omega)]
  dsimp only
  unfold out0_B_2
  frame_out
  exact congrArg (k0_pay3 _ _) ((Memref.isWhole_whole cc0_scratch0).read_unread _)

/-- The accumulator at the end of a run: the run's two products. -/
theorem acc_eq (t : Fin cfg0.N) (h' : t.val % 2 = 1) (j : S256x1024.Idx) :
    (outsAt0 m c t.val t.isLt).2 j = 0 + ∑ s : Fin 2,
      k0_pay1 (iblk m c 0 ⟨2 * (t.val / 2) + s.val, Pipeline.run_point_lt_of_flush t h' s⟩)
        (iblk m c 1 ⟨2 * (t.val / 2) + s.val, Pipeline.run_point_lt_of_flush t h' s⟩) j := by
  refine Pipeline.eq_sum_fin_of_reset_step_apply_of_flush (fun n h => (outsAt0 m c n h).2) 2 (fun _ => (0 : EReal))
    (fun t j => k0_pay1 (iblk m c 0 t) (iblk m c 1 t) j) (fun t h j => ?_) (fun t h j => ?_) t h' j
  · show (outsAt0 m c t.val t.isLt).2 j = _
    rw [first m c t h]
    unfold k0_pay2
    pointwise
  · show (outsAt0 m c t.val t.isLt).2 j = (outsAt0 m c (t.val - 1) _).2 j + _
    rw [last m c t h]
    unfold k0_pay3
    pointwise

/-- The array that the kernel leaves. -/
theorem array : (dats m 0 c).arrAt 2 cfg0.N = nt 256 4096 2048 (m ((c.tc : Thread nD τ).loc main_arg0)) (m ((c.tc : Thread nD τ).loc main_arg1)) := by
  refine (dats m 0 c).arrAt_eq_of_covers 2 _ (by decide +kernel) fun t hf y => ?_
  have h' : t.val % 2 = 1 := (flush0_2 t).mp hf
  blk_simp
  rw [after0_2, stored m c t (by omega)]
  refine (acc_eq m c t h' y).trans ?_
  rw [zero_add]
  unfold k0_pay1 nt
  pointwise
  refine Eq.trans (Finset.sum_congr rfl fun s _ => Finset.sum_congr rfl fun k _ => ?_) (Fin.sum_mul_add_fin 2 2048 _ rfl)
  obtain ⟨e0, e1⟩ := index_run t s (Pipeline.run_point_lt_of_flush t h' s)
  blk_point [iblk, V, e0, e1]

/-- The reference's array. -/
theorem ref_term (d : FVec Ideal (Mat 256 4096) .f32) (w : FVec Ideal (Mat 2048 4096) .f32) :
    Host.dotGeneral (F := Ideal) Cert.XkvDhRefIdeal.dot_S256x4096_S2048x4096_S256x2048_1_1_0_0_n_n none d w = nt 256 4096 2048 d w := by
  funext y
  unfold nt
  pointwise

/-- Both arrays agree. -/
theorem agree : Cert.algebraic_XkvDhIdeal_XkvDhRefIdeal (hXkvDhIdeal := Cert.XkvDhIdeal.Gen.facts) (hXkvDhRefIdeal := Cert.XkvDhRefIdeal.Gen.facts) := by
  intro m ρ m' ρ' _ hag
  refine ⟨fun c => nt 256 4096 2048 (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.XkvDhRefIdeal.Value.run m' ρ')⟩
  rw [(hag c).1, (hag c).2]
  rfl

/-! ## The frames -/

set_option maxHeartbeats 0 in
theorem main_same : (Cert.XkvDh.main (F := Bits)) = (Cert.XkvDhIdeal.main (F := Bits)) := rfl

set_option maxHeartbeats 0 in
theorem defs_same : (Cert.XkvDh.defs (F := Bits)) = (Cert.XkvDhIdeal.defs (F := Bits)) := by sl_kernel_rfl

theorem frame_ideal : Cert.quiescent_XkvDhIdeal (hXkvDhIdeal := Cert.XkvDhIdeal.Gen.facts) := fun m ρ _ => Cert.XkvDhIdeal.Gen.frame m ρ

theorem frame_bits : Cert.quiescent_XkvDh (hXkvDh := Cert.XkvDh.Gen.facts) := by
  intro m ρ _
  rw [main_same, defs_same]
  exact Cert.XkvDhIdeal.Gen.frame (F := Bits) m ρ

theorem frame_reference : Cert.quiescent_XkvDhRefIdeal (hXkvDhRefIdeal := Cert.XkvDhRefIdeal.Gen.facts) := fun m ρ _ =>
  (θ_run _ _ _).mono (fun r h => ⟨fun c => (h c).2, sem_eq_zero_of_no_sems (by decide) r.2⟩) (Cert.XkvDhRefIdeal.Value.run (F := Ideal) m ρ)

end Cert.XkvDhIdeal.Value

end
-- ==== Proof.Proj.Norm.lean ====
module

public import proofs.«01_k».proof.Defs
public import proofs.«01_k».proof.Proof.Gen.Norm
public import proofs.«01_k».proof.Proof.Gen.NormIdeal.Value
public import proofs.«01_k».proof.Proof.Gen.NormRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline

/-!
The calls f1_norm, mix_norm, xa_norm, f2_norm: a norm of the rows.
-/

namespace Cert.NormIdeal.Value

open Cert.NormIdeal.Gen

variable (m : (ℓ : Loc nD τ sig) → Buf (Elt Ideal) ℓ) (ρ : Dev nD → PrngReg) (c : Dev nD)

/-- Which blocks the windows show at a point. -/
theorem index_eq : ∀ t : Fin cfg0.N, win0_0.index t = ![(grid0.coords t 0).val, 0]
    ∧ win0_1.index t = ![0, 0]
    ∧ win0_2.index t = ![(grid0.coords t 0).val, 0] := by decide +kernel

/-- One over the root of a row's mean square. -/
def inv (x : FVec Ideal S2048x2048 .f32) (i : Fin 2048) : EReal :=
  Ideal.rsqrt (Ideal.div (∑ k : Fin 2048, x (ix2 i k) * x (ix2 i k)) (Ideal.ofBits .f32 0x45000000#32)
    + Ideal.ofBits .f32 0x358637BD#32)

/-- The normed rows, scaled. -/
def spec (x : FVec Ideal S2048x2048 .f32) (g : FVec Ideal S1x2048 .f32) : FVec Ideal S2048x2048 .f32 :=
  fun y => x y * inv x (y 0) * g (ix2 0 (y 1))

/-- The array that the kernel leaves. -/
theorem array : (dats m 0 c).arrAt 2 cfg0.N = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold k0_pay1 spec inv
  obtain ⟨e0, e1, e2⟩ := index_eq t
  pointwise
  refine congrArg₂ (fun a b : EReal => a * b) (congrArg₂ (fun a b : EReal => a * b) ?_ (congrArg Ideal.rsqrt
    (congrArg (fun a : EReal => Ideal.div a (Ideal.ofBits .f32 0x45000000#32) + Ideal.ofBits .f32 0x358637BD#32)
      (Finset.sum_congr rfl fun k _ => congrArg₂ (fun a b : EReal => a * b) ?_ ?_)))) ?_
  · blk_point [iblk, V, e0, e2]
  · blk_point [iblk, V, e0, e2]
  · blk_point [iblk, V, e0, e2]
  · blk_point [iblk, V, e1, e2]

/-- The reference's array. -/
theorem ref_term (x : FVec Ideal S2048x2048 .f32) (g : FVec Ideal S1x2048 .f32) :
    truncf .bf16 (mulf (mulf x (broadcastInDim Cert.NormRefIdeal.S2048x2048 ![0, 1] Cert.NormRefIdeal.Gen.bcast_S2048x1_S2048x2048_0_1 (Host.rsqrt (addf (Host.divf (broadcastInDim Cert.NormRefIdeal.S2048x1 ![0] Cert.NormRefIdeal.Gen.bcast_S2048_S2048x1_0 (Host.reduceAdd (mulf x x) (constant Cert.NormRefIdeal.S_ .f32 0x00000000#32) Cert.NormRefIdeal.Gen.reducesTo_S2048x2048_S2048_d1 Cert.NormRefIdeal.Gen.h_S_)) (broadcastInDim Cert.NormRefIdeal.S2048x1 ![] Cert.NormRefIdeal.Gen.bcast_S_S2048x1 (constant Cert.NormRefIdeal.S_ .f32 0x45000000#32))) (broadcastInDim Cert.NormRefIdeal.S2048x1 ![] Cert.NormRefIdeal.Gen.bcast_S_S2048x1 (constant Cert.NormRefIdeal.S_ .f32 0x358637BD#32)))))) (broadcastInDim Cert.NormRefIdeal.S2048x2048 ![0, 1] Cert.NormRefIdeal.Gen.bcast_S1x2048_S2048x2048_0_1 g)) Cert.NormRefIdeal.Gen.bitsLt_bf16_f32 = spec x g := by
  funext y
  unfold spec inv
  pointwise

/-- Both arrays agree. -/
theorem agree : Cert.algebraic_NormIdeal_NormRefIdeal (hNormIdeal := Cert.NormIdeal.Gen.facts) (hNormRefIdeal := Cert.NormRefIdeal.Gen.facts) := by
  intro m ρ m' ρ' _ hag
  refine ⟨fun c => spec (m ((c.tc : Thread nD τ).loc main_arg0)) (m ((c.tc : Thread nD τ).loc main_arg1)),
    (θ_run _ _ _).mono (fun r h c => ⟨(h c).1.trans (array m c), (h c).2⟩) (run_blocks m ρ),
    (θ_run _ _ _).mono (fun r h c => ⟨(h c).1.trans ((ref_term _ _).trans ?_), (h c).2⟩) (Cert.NormRefIdeal.Value.run m' ρ')⟩
  rw [(hag c).1, (hag c).2]

theorem frame_ideal : Cert.quiescent_NormIdeal (hNormIdeal := Cert.NormIdeal.Gen.facts) := fun m ρ _ => Cert.NormIdeal.Gen.frame m ρ

set_option maxHeartbeats 0 in
theorem frame_bits : Cert.quiescent_Norm (hNorm := Cert.Norm.Gen.facts) := by
  intro m ρ _
  rw [show (Cert.Norm.main (F := Bits)) = Cert.NormIdeal.main from rfl,
    show (Cert.Norm.defs (F := Bits)) = Cert.NormIdeal.defs by sl_kernel_rfl]
  exact Cert.NormIdeal.Gen.frame (F := Bits) m ρ

theorem frame_reference : Cert.quiescent_NormRefIdeal (hNormRefIdeal := Cert.NormRefIdeal.Gen.facts) := fun m ρ _ =>
  (θ_run _ _ _).mono (fun r h => ⟨fun c => (h c).2, sem_eq_zero_of_no_sems (by decide) r.2⟩) (Cert.NormRefIdeal.Value.run (F := Ideal) m ρ)

end Cert.NormIdeal.Value

end
-- ==== Proof.Proj.NormBwd.lean ====
module

public import proofs.«01_k».proof.Defs
public import proofs.«01_k».proof.Proof.Gen.NormBwd
public import proofs.«01_k».proof.Proof.Gen.NormBwdIdeal.Value
public import proofs.«01_k».proof.Proof.Gen.NormBwdRefIdeal.Run
public import Idealize.ShloMosaic.Lib.Pipeline.ValueKit
public import Idealize.ShloMosaic.Lib.StableHlo.RunRead
public import Idealize.ShloMosaic.Lib.Quiescent
public import Idealize.ShloMosaic.Lib.Claim

@[expose] public section

set_option maxRecDepth 16384

noncomputable section

open Idealize.SL.Sem Idealize.ShloMosaic Idealize.ShloMosaic.TcCoe Idealize.ShloMosaic.StableHlo Idealize.ShloMosaic.Pipeline

/-!
The calls f1_norm_bwd, mix_norm_bwd, xa_norm_bwd, f2_norm_bwd: the gradients of a norm of the rows.
-/

namespace Cert.NormBwdIdeal.Value

open Cert.NormBwdIdeal.Gen
open Idealize.SL.Sem Idealize.ShloMosaic Idealize.ShloMosaic.TcCoe Idealize.ShloMosaic.StableHlo Idealize.ShloMosaic.Pipeline

variable (m : (ℓ : Loc nD τ sig) → Buf (Elt Ideal) ℓ) (ρ : Dev nD → PrngReg) (c : Dev nD)

/-! ## One row -/

/-- The mean square of a row, and the small constant. -/
def mean (r : Fin 2048 → EReal) : EReal :=
  Ideal.div (∑ k, r k * r k) (Ideal.ofBits .f32 0x45000000#32) + Ideal.ofBits .f32 0x358637BD#32

/-- How the mean square takes part in the gradient of a row. -/
def part (r h g : Fin 2048 → EReal) : EReal :=
  Ideal.div ((∑ k, r k * (h k * g k)) * (Ideal.ofBits .f32 0xBF000000#32 * Ideal.div (Ideal.rsqrt (mean r)) (mean r)))
    (Ideal.ofBits .f32 0x45000000#32)

/-- The gradient at one entry of a row, with what arrives past the norm. -/
def dxAt (r h g : Fin 2048 → EReal) (x y z w : EReal) : EReal :=
  y * z * Ideal.rsqrt (mean r) + x * part r h g + part r h g * x + w

/-- What one entry of a row gives to the gradient of the scale. -/
def dgAt (r : Fin 2048 → EReal) (x y : EReal) : EReal := x * Ideal.rsqrt (mean r) * y

theorem dxAt_congr {r r' h h' g g' : Fin 2048 → EReal} {x x' y y' z z' w w' : EReal} (hr : ∀ k, r k = r' k) (hh : ∀ k, h k = h' k)
    (hg : ∀ k, g k = g' k) (hx : x = x') (hy : y = y') (hz : z = z') (hw : w = w') : dxAt r h g x y z w = dxAt r' h' g' x' y' z' w' := by
  rw [funext hr, funext hh, funext hg, hx, hy, hz, hw]

theorem dgAt_congr {r r' : Fin 2048 → EReal} {x x' y y' : EReal} (hr : ∀ k, r k = r' k) (hx : x = x') (hy : y = y') :
    dgAt r x y = dgAt r' x' y' := by
  rw [funext hr, hx, hy]

/-! ## The blocks -/

/-- One block of the gradient. -/
theorem pay8_apply (v0 v1 v2 : FVec Ideal S256x2048 .f32) (v3 : FVec Ideal S1x2048 .f32) (y : S256x2048.Idx) :
    k0_pay8 (F := Ideal) v0 v1 v2 v3 y
      = dxAt (fun k => v0 (ix2 (y 0) k)) (fun k => v1 (ix2 (y 0) k)) (fun k => v3 (ix2 0 k)) (v0 y) (v1 y) (v3 (ix2 0 (y 1))) (v2 y) := by
  unfold k0_pay8 k0_pay6 k0_pay5 dxAt part mean
  pointwise
  exact congrArg (fun a : EReal => a + v2 y) (congrArg₂ (fun a b : EReal => a + b)
    (congrArg (fun a : EReal => _ + v0 y * a) (Fin.sum_univ_one _)) (congrArg (fun a : EReal => a * v0 y) (Fin.sum_univ_one _)))

/-- What a block gives to the gradient of the scale. -/
theorem pay7_apply (v0 v1 : FVec Ideal S256x2048 .f32) (y : S1x2048.Idx) :
    k0_pay7 (F := Ideal) v0 v1 y = ∑ p : Fin 256, dgAt (fun k => v0 (ix2 p k)) (v0 (ix2 p (y 1))) (v1 (ix2 p (y 1))) := by
  unfold k0_pay7 k0_pay6 k0_pay5 dgAt mean
  pointwise

/-- The sum over the rows of a block. -/
theorem pay9_apply (v0 v1 v2 : FVec Ideal S256x2048 .f32) (v3 : FVec Ideal S1x2048 .f32) (y : S1x2048.Idx) :
    k0_pay9 (F := Ideal) v0 v1 v2 v3 y = ∑ p : Fin 256, k0_pay8 (F := Ideal) v0 v1 v2 v3 (ix2 p (y 1)) := by
  unfold k0_pay9
  pointwise

/-! ## The reference -/

/-- The reference's mean squares. -/
def ms (x : FVec Ideal S2048x2048 .f32) := addf (Host.divf (broadcastInDim Cert.NormBwdRefIdeal.S2048x1 ![0] Cert.NormBwdRefIdeal.Gen.bcast_S2048_S2048x1_0 (Host.reduceAdd (mulf x x) (constant Cert.NormBwdRefIdeal.S_ .f32 0x00000000#32) Cert.NormBwdRefIdeal.Gen.reducesTo_S2048x2048_S2048_d1 Cert.NormBwdRefIdeal.Gen.h_S_)) (broadcastInDim Cert.NormBwdRefIdeal.S2048x1 ![] Cert.NormBwdRefIdeal.Gen.bcast_S_S2048x1 (constant Cert.NormBwdRefIdeal.S_ .f32 0x45000000#32))) (broadcastInDim Cert.NormBwdRefIdeal.S2048x1 ![] Cert.NormBwdRefIdeal.Gen.bcast_S_S2048x1 (constant Cert.NormBwdRefIdeal.S_ .f32 0x358637BD#32))

/-- How they take part in the gradient, a number for a row. -/
def cs (x : FVec Ideal S2048x2048 .f32) (h : FVec Ideal S2048x2048 .f32) (g : FVec Ideal S1x2048 .f32) := Host.reduceAdd (Host.divf (mulf (shapeCast Cert.NormBwdRefIdeal.S2048x1 (Host.reduceAdd (mulf x (mulf h (broadcastInDim Cert.NormBwdRefIdeal.S2048x2048 ![0, 1] Cert.NormBwdRefIdeal.Gen.bcast_S1x2048_S2048x2048_0_1 g))) (constant Cert.NormBwdRefIdeal.S_ .f32 0x00000000#32) Cert.NormBwdRefIdeal.Gen.reducesTo_S2048x2048_S2048_d1 Cert.NormBwdRefIdeal.Gen.h_S_) Cert.NormBwdRefIdeal.Gen.shapeCasts_S2048_S2048x1) (mulf (broadcastInDim Cert.NormBwdRefIdeal.S2048x1 ![] Cert.NormBwdRefIdeal.Gen.bcast_S_S2048x1 (constant Cert.NormBwdRefIdeal.S_ .f32 0xBF000000#32)) (Host.divf (Host.rsqrt (ms x)) (ms x)))) (broadcastInDim Cert.NormBwdRefIdeal.S2048x1 ![] Cert.NormBwdRefIdeal.Gen.bcast_S_S2048x1 (constant Cert.NormBwdRefIdeal.S_ .f32 0x45000000#32))) (constant Cert.NormBwdRefIdeal.S_ .f32 0x00000000#32) Cert.NormBwdRefIdeal.Gen.reducesTo_S2048x1_S2048_d1 Cert.NormBwdRefIdeal.Gen.h_S_

/-- The reference's gradient. -/
def dxs (x : FVec Ideal S2048x2048 .f32) (g : FVec Ideal S1x2048 .f32) (h : FVec Ideal S2048x2048 .f32) (d : FVec Ideal S2048x2048 .f32) : FVec Ideal S2048x2048 .f32 := addf (addf (addf (mulf (mulf h (broadcastInDim Cert.NormBwdRefIdeal.S2048x2048 ![0, 1] Cert.NormBwdRefIdeal.Gen.bcast_S1x2048_S2048x2048_0_1 g)) (broadcastInDim Cert.NormBwdRefIdeal.S2048x2048 ![0, 1] Cert.NormBwdRefIdeal.Gen.bcast_S2048x1_S2048x2048_0_1 (Host.rsqrt (ms x)))) (mulf x (broadcastInDim Cert.NormBwdRefIdeal.S2048x2048 ![0] Cert.NormBwdRefIdeal.Gen.bcast_S2048_S2048x2048_0 (cs x h g)))) (mulf (broadcastInDim Cert.NormBwdRefIdeal.S2048x2048 ![0] Cert.NormBwdRefIdeal.Gen.bcast_S2048_S2048x2048_0 (cs x h g)) x)) d

theorem cs_apply (x : FVec Ideal S2048x2048 .f32) (h : FVec Ideal S2048x2048 .f32) (g : FVec Ideal S1x2048 .f32) (y : Cert.NormBwdRefIdeal.S2048.Idx) : cs x h g y = part (fun k => x (ix2 (y 0) k)) (fun k => h (ix2 (y 0) k)) (fun k => g (ix2 0 k)) := by
  unfold cs ms part mean
  pointwise
  exact Fin.sum_univ_one _

theorem dxs_apply (x : FVec Ideal S2048x2048 .f32) (g : FVec Ideal S1x2048 .f32) (h : FVec Ideal S2048x2048 .f32) (d : FVec Ideal S2048x2048 .f32) (y : S2048x2048.Idx) : dxs x g h d y
      = dxAt (fun k => x (ix2 (y 0) k)) (fun k => h (ix2 (y 0) k)) (fun k => g (ix2 0 k)) (x y) (h y) (g (ix2 0 (y 1))) (d y) := by
  unfold dxs dxAt ms mean
  pointwise
  rw [cs_apply]
  rfl

/-- The reference's gradient of the scale. -/
def dgs (x : FVec Ideal S2048x2048 .f32) (h : FVec Ideal S2048x2048 .f32) : FVec Ideal S1x2048 .f32 := shapeCast Cert.NormBwdRefIdeal.S1x2048 (Host.reduceAdd (mulf (mulf x (broadcastInDim Cert.NormBwdRefIdeal.S2048x2048 ![0, 1] Cert.NormBwdRefIdeal.Gen.bcast_S2048x1_S2048x2048_0_1 (Host.rsqrt (ms x)))) h) (constant Cert.NormBwdRefIdeal.S_ .f32 0x00000000#32) Cert.NormBwdRefIdeal.Gen.reducesTo_S2048x2048_S2048_d0 Cert.NormBwdRefIdeal.Gen.h_S_) Cert.NormBwdRefIdeal.Gen.shapeCasts_S2048_S1x2048

theorem dgs_apply (x : FVec Ideal S2048x2048 .f32) (h : FVec Ideal S2048x2048 .f32) (y : S1x2048.Idx) : dgs x h y = ∑ i : Fin 2048, dgAt (fun k => x (ix2 i k)) (x (ix2 i (y 1))) (h (ix2 i (y 1))) := by
  unfold dgs dgAt ms mean
  pointwise

/-- The reference's sum of the rows. -/
def sums (x : FVec Ideal S2048x2048 .f32) (g : FVec Ideal S1x2048 .f32) (h : FVec Ideal S2048x2048 .f32) (d : FVec Ideal S2048x2048 .f32) : FVec Ideal S1x2048 .f32 := broadcastInDim Cert.NormBwdRefIdeal.S1x2048 ![1] Cert.NormBwdRefIdeal.Gen.bcast_S2048_S1x2048_1 (Host.reduceAdd (dxs x g h d) (constant Cert.NormBwdRefIdeal.S_ .f32 0x00000000#32) Cert.NormBwdRefIdeal.Gen.reducesTo_S2048x2048_S2048_d0 Cert.NormBwdRefIdeal.Gen.h_S_)

theorem sums_apply (x : FVec Ideal S2048x2048 .f32) (g : FVec Ideal S1x2048 .f32) (h : FVec Ideal S2048x2048 .f32) (d : FVec Ideal S2048x2048 .f32) (y : S1x2048.Idx) : sums x g h d y = ∑ i : Fin 2048, dxs x g h d (ix2 i (y 1)) := by
  unfold sums
  pointwise

/-! ## The arrays that the kernel leaves -/

/-- Which blocks the windows show at a point. -/
theorem index_eq : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, 0]
    ∧ win0_4.index t = ![(grid0.coords t 0).val, 0] := by decide +kernel

/-- Which blocks the windows show at the eight points. -/
theorem index_run : ∀ (t : Fin cfg0.N) (s : Fin 8) (h : 8 * (t.val / 8) + s.val < cfg0.N),
    win0_0.index ⟨8 * (t.val / 8) + s.val, h⟩ = ![s.val, 0]
    ∧ win0_1.index ⟨8 * (t.val / 8) + s.val, h⟩ = ![s.val, 0]
    ∧ win0_2.index ⟨8 * (t.val / 8) + s.val, h⟩ = ![s.val, 0]
    ∧ win0_3.index ⟨8 * (t.val / 8) + s.val, h⟩ = ![0, 0]
    ∧ win0_5.index t = ![0, 0]
    ∧ win0_6.index t = ![0, 0] := by decide +kernel

/-- A point's block of the gradient. -/
theorem block (t : Fin cfg0.N) :
    (outsAt0 m c t.val t.isLt).1 = k0_pay8 (iblk m c 0 t) (iblk m c 1 t) (iblk m c 2 t) (iblk m c 3 t) := by
  by_cases h : t.val % 8 = 0
  · rw [outsAt0_A m c t h h]
    dsimp only
    unfold out0_A_4
    frame_out
  · rw [outsAt0_B m c t h h]
    dsimp only
    unfold out0_B_4
    frame_out

/-- The first point starts both sums. -/
theorem first5 (t : Fin cfg0.N) (h : t.val % 8 = 0) :
    (outsAt0 m c t.val t.isLt).2.1 = k0_pay2 (k0_pay7 (iblk m c 0 t) (iblk m c 1 t)) (k0_pay1 (F := Ideal)) := by
  rw [outsAt0_A m c t h h]
  dsimp only
  unfold out0_A_5
  frame_out

theorem first6 (t : Fin cfg0.N) (h : t.val % 8 = 0) :
    (outsAt0 m c t.val t.isLt).2.2
      = k0_pay4 (k0_pay9 (iblk m c 0 t) (iblk m c 1 t) (iblk m c 2 t) (iblk m c 3 t)) (k0_pay3 (F := Ideal)) := by
  rw [outsAt0_A m c t h h]
  dsimp only
  unfold out0_A_6
  frame_out

/-- The others add to them. -/
theorem next5 (t : Fin cfg0.N) (h : ¬t.val % 8 = 0) :
    (outsAt0 m c t.val t.isLt).2.1
      = k0_pay2 (k0_pay7 (iblk m c 0 t) (iblk m c 1 t)) (outsAt0 m c (t.val - 1) (Nat.lt_of_le_of_lt (Nat.sub_le _ _) t.isLt)).2.1 := by
  rw [outsAt0_B m c t h h]
  dsimp only
  unfold out0_B_5
  frame_out

theorem next6 (t : Fin cfg0.N) (h : ¬t.val % 8 = 0) :
    (outsAt0 m c t.val t.isLt).2.2
      = k0_pay4 (k0_pay9 (iblk m c 0 t) (iblk m c 1 t) (iblk m c 2 t) (iblk m c 3 t))
        (outsAt0 m c (t.val - 1) (Nat.lt_of_le_of_lt (Nat.sub_le _ _) t.isLt)).2.2 := by
  rw [outsAt0_B m c t h h]
  dsimp only
  unfold out0_B_6
  frame_out

/-- The first sum at the last point. -/
theorem acc5 (t : Fin cfg0.N) (h' : t.val % 8 = 7) (j : S1x2048.Idx) :
    (outsAt0 m c t.val t.isLt).2.1 j = 0 + ∑ s : Fin 8,
      k0_pay7 (F := Ideal) (iblk m c 0 ⟨8 * (t.val / 8) + s.val, Pipeline.run_point_lt_of_flush t h' s⟩)
        (iblk m c 1 ⟨8 * (t.val / 8) + s.val, Pipeline.run_point_lt_of_flush t h' s⟩) j := by
  refine Pipeline.eq_sum_fin_of_reset_step_apply_of_flush (fun n h => (outsAt0 m c n h).2.1) 8 (fun _ => (0 : EReal))
    (fun t j => k0_pay7 (F := Ideal) (iblk m c 0 t) (iblk m c 1 t) j) (fun t h j => ?_) (fun t h j => ?_) t h' j
  · show (outsAt0 m c t.val t.isLt).2.1 j = _
    rw [first5 m c t h]
    unfold k0_pay2 k0_pay1
    pointwise
  · show (outsAt0 m c t.val t.isLt).2.1 j = (outsAt0 m c (t.val - 1) _).2.1 j + _
    rw [next5 m c t h]
    unfold k0_pay2
    pointwise

/-- The second sum at the last point. -/
theorem acc6 (t : Fin cfg0.N) (h' : t.val % 8 = 7) (j : S1x2048.Idx) :
    (outsAt0 m c t.val t.isLt).2.2 j = 0 + ∑ s : Fin 8,
      k0_pay9 (F := Ideal) (iblk m c 0 ⟨8 * (t.val / 8) + s.val, Pipeline.run_point_lt_of_flush t h' s⟩)
        (iblk m c 1 ⟨8 * (t.val / 8) + s.val, Pipeline.run_point_lt_of_flush t h' s⟩)
        (iblk m c 2 ⟨8 * (t.val / 8) + s.val, Pipeline.run_point_lt_of_flush t h' s⟩)
        (iblk m c 3 ⟨8 * (t.val / 8) + s.val, Pipeline.run_point_lt_of_flush t h' s⟩) j := by
  refine Pipeline.eq_sum_fin_of_reset_step_apply_of_flush (fun n h => (outsAt0 m c n h).2.2) 8 (fun _ => (0 : EReal))
    (fun t j => k0_pay9 (F := Ideal) (iblk m c 0 t) (iblk m c 1 t) (iblk m c 2 t) (iblk m c 3 t) j) (fun t h j => ?_) (fun t h j => ?_) t h' j
  · show (outsAt0 m c t.val t.isLt).2.2 j = _
    rw [first6 m c t h]
    unfold k0_pay4 k0_pay3
    pointwise
  · show (outsAt0 m c t.val t.isLt).2.2 j = (outsAt0 m c (t.val - 1) _).2.2 j + _
    rw [next6 m c t h]
    unfold k0_pay4
    pointwise

/-- The gradient. -/
theorem array4 : (dats m 0 c).arrAt 4 cfg0.N = dxs (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf y => ?_
  blk_simp
  rw [after0_4, block m c t]
  refine (pay8_apply _ _ _ _ y).trans (Eq.trans ?_ (dxs_apply _ _ _ _ _).symm)
  obtain ⟨e0, e1, e2, e3, e4⟩ := index_eq t
  refine dxAt_congr (fun k => ?_) (fun k => ?_) (fun k => ?_) ?_ ?_ ?_ ?_
  · blk_point [iblk, V, e0, e4]
  · blk_point [iblk, V, e1, e4]
  · blk_point [iblk, V, e3, e4]
  · blk_point [iblk, V, e0, e4]
  · blk_point [iblk, V, e1, e4]
  · blk_point [iblk, V, e3, e4]
  · blk_point [iblk, V, e2, e4]

/-- The gradient of the scale. -/
theorem array5 : (dats m 0 c).arrAt 5 cfg0.N = dgs (m ((c.tc : Thread nD τ).loc main_arg0)) (m ((c.tc : Thread nD τ).loc main_arg2)) := by
  refine (dats m 0 c).arrAt_eq_of_covers 5 _ (by decide +kernel) fun t hf y => ?_
  have h' : t.val % 8 = 7 := (flush0_5 t).mp hf
  blk_simp
  rw [after0_5]
  refine (acc5 m c t h' y).trans ?_
  rw [zero_add]
  refine Eq.trans (Finset.sum_congr rfl fun s _ => (pay7_apply _ _ y).trans (Finset.sum_congr rfl fun p _ => ?_))
    ((Fin.sum_mul_add_fin 8 256 _ rfl).trans (dgs_apply _ _ _).symm)
  obtain ⟨e0, e1, e2, e3, e5, e6⟩ := index_run t s (Pipeline.run_point_lt_of_flush t h' s)
  refine dgAt_congr (fun k => ?_) ?_ ?_
  · blk_point [iblk, V, e0, e5]
  · blk_point [iblk, V, e0, e5]
  · blk_point [iblk, V, e1, e5]

/-- The sum of the gradient's rows. -/
theorem array6 : (dats m 0 c).arrAt 6 cfg0.N = sums (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 6 _ (by decide +kernel) fun t hf y => ?_
  have h' : t.val % 8 = 7 := (flush0_6 t).mp hf
  blk_simp
  rw [after0_6]
  refine (acc6 m c t h' y).trans ?_
  rw [zero_add]
  refine Eq.trans (Finset.sum_congr rfl fun s _ => (pay9_apply _ _ _ _ y).trans (Finset.sum_congr rfl fun p _ =>
      (pay8_apply _ _ _ _ _).trans (Eq.trans ?_ (dxs_apply _ _ _ _ _).symm)))
    ((Fin.sum_mul_add_fin 8 256 _ rfl).trans (sums_apply _ _ _ _ _).symm)
  obtain ⟨e0, e1, e2, e3, e5, e6⟩ := index_run t s (Pipeline.run_point_lt_of_flush t h' s)
  refine dxAt_congr (fun k => ?_) (fun k => ?_) (fun k => ?_) ?_ ?_ ?_ ?_
  · blk_point [iblk, V, e0, e6]
  · blk_point [iblk, V, e1, e6]
  · blk_point [iblk, V, e3, e6]
  · blk_point [iblk, V, e0, e6]
  · blk_point [iblk, V, e1, e6]
  · blk_point [iblk, V, e3, e6]
  · blk_point [iblk, V, e2, e6]

/-- All three arrays agree. -/
theorem agree : Cert.algebraic_NormBwdIdeal_NormBwdRefIdeal (hNormBwdIdeal := Cert.NormBwdIdeal.Gen.facts) (hNormBwdRefIdeal := Cert.NormBwdRefIdeal.Gen.facts) := by
  intro m ρ m' ρ' _ hag
  refine ⟨_, _, _, (θ_run _ _ _).mono (fun r h c => ⟨(h c).1.trans (array4 m c), (h c).2.1.trans (array5 m c), (h c).2.2.1.trans (array6 m c), (h c).2.2.2⟩) (run_blocks m ρ),
    (θ_run _ _ _).mono (fun r h c => ⟨(h c).1.trans ?_, (h c).2.1.trans ?_, (h c).2.2.1.trans ?_, (h c).2.2.2⟩) (Cert.NormBwdRefIdeal.Value.run m' ρ')⟩
  · rw [(hag c).1, (hag c).2.1, (hag c).2.2.1, (hag c).2.2.2]
    rfl
  · rw [(hag c).1, (hag c).2.2.1]
    rfl
  · rw [(hag c).1, (hag c).2.1, (hag c).2.2.1, (hag c).2.2.2]
    rfl

theorem frame_ideal : Cert.quiescent_NormBwdIdeal (hNormBwdIdeal := Cert.NormBwdIdeal.Gen.facts) := fun m ρ _ => Cert.NormBwdIdeal.Gen.frame m ρ

set_option maxHeartbeats 0 in
theorem frame_bits : Cert.quiescent_NormBwd (hNormBwd := Cert.NormBwd.Gen.facts) := by
  intro m ρ _
  rw [show (Cert.NormBwd.main (F := Bits)) = Cert.NormBwdIdeal.main from rfl,
    show (Cert.NormBwd.defs (F := Bits)) = Cert.NormBwdIdeal.defs by sl_kernel_rfl]
  exact Cert.NormBwdIdeal.Gen.frame (F := Bits) m ρ

theorem frame_reference : Cert.quiescent_NormBwdRefIdeal (hNormBwdRefIdeal := Cert.NormBwdRefIdeal.Gen.facts) := fun m ρ _ =>
  (θ_run _ _ _).mono (fun r h => ⟨fun c => (h c).2.2.2, sem_eq_zero_of_no_sems (by decide) r.2⟩) (Cert.NormBwdRefIdeal.Value.run (F := Ideal) m ρ)

end Cert.NormBwdIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Dw
public import proofs.«01_k».proof.Proof.Gen.DwIdeal
public import proofs.«01_k».proof.Proof.Gen.DwRefIdeal
public import proofs.«01_k».proof.Proof.Gen.DwIdeal.Value
public import proofs.«01_k».proof.Proof.Gen.DwRefIdeal.Run
public import proofs.«01_k».proof.Proof.Gen.Dwd
public import proofs.«01_k».proof.Proof.Gen.DwdIdeal
public import proofs.«01_k».proof.Proof.Gen.DwdRefIdeal
public import proofs.«01_k».proof.Proof.Gen.DwdIdeal.Value
public import proofs.«01_k».proof.Proof.Gen.DwdRefIdeal.Run
public import proofs.«01_k».proof.Proof.Gen.Dact
public import proofs.«01_k».proof.Proof.Gen.DactIdeal
public import proofs.«01_k».proof.Proof.Gen.DactRefIdeal
public import proofs.«01_k».proof.Proof.Gen.DactIdeal.Value
public import proofs.«01_k».proof.Proof.Gen.DactRefIdeal.Run
public import proofs.«01_k».proof.Proof.Gen.Dh
public import proofs.«01_k».proof.Proof.Gen.DhIdeal
public import proofs.«01_k».proof.Proof.Gen.DhRefIdeal
public import proofs.«01_k».proof.Proof.Gen.DhIdeal.Value
public import proofs.«01_k».proof.Proof.Gen.DhRefIdeal.Run
public import proofs.«01_k».proof.Proof.Gen.Up
public import proofs.«01_k».proof.Proof.Gen.UpIdeal
public import proofs.«01_k».proof.Proof.Gen.UpRefIdeal
public import proofs.«01_k».proof.Proof.Gen.UpIdeal.Value
public import proofs.«01_k».proof.Proof.Gen.UpRefIdeal.Run
public import proofs.«01_k».proof.Proof.Gen.Down
public import proofs.«01_k».proof.Proof.Gen.DownIdeal
public import proofs.«01_k».proof.Proof.Gen.DownRefIdeal
public import proofs.«01_k».proof.Proof.Gen.DownIdeal.Value
public import proofs.«01_k».proof.Proof.Gen.DownRefIdeal.Run
public import proofs.«01_k».proof.Proof.Gen.In
public import proofs.«01_k».proof.Proof.Gen.InIdeal
public import proofs.«01_k».proof.Proof.Gen.InRefIdeal
public import proofs.«01_k».proof.Proof.Gen.InIdeal.Value
public import proofs.«01_k».proof.Proof.Gen.InRefIdeal.Run
public import proofs.«01_k».proof.Proof.Gen.InDw
public import proofs.«01_k».proof.Proof.Gen.InDwIdeal
public import proofs.«01_k».proof.Proof.Gen.InDwRefIdeal
public import proofs.«01_k».proof.Proof.Gen.InDwIdeal.Value
public import proofs.«01_k».proof.Proof.Gen.InDwRefIdeal.Run
public import proofs.«01_k».proof.Proof.Gen.InDh
public import proofs.«01_k».proof.Proof.Gen.InDhIdeal
public import proofs.«01_k».proof.Proof.Gen.InDhRefIdeal
public import proofs.«01_k».proof.Proof.Gen.InDhIdeal.Value
public import proofs.«01_k».proof.Proof.Gen.InDhRefIdeal.Run
public import proofs.«01_k».proof.Proof.Gen.Xq
public import proofs.«01_k».proof.Proof.Gen.XqIdeal
public import proofs.«01_k».proof.Proof.Gen.XqRefIdeal
public import proofs.«01_k».proof.Proof.Gen.XqIdeal.Value
public import proofs.«01_k».proof.Proof.Gen.XqRefIdeal.Run
public import proofs.«01_k».proof.Proof.Gen.XqDw
public import proofs.«01_k».proof.Proof.Gen.XqDwIdeal
public import proofs.«01_k».proof.Proof.Gen.XqDwRefIdeal
public import proofs.«01_k».proof.Proof.Gen.XqDwIdeal.Value
public import proofs.«01_k».proof.Proof.Gen.XqDwRefIdeal.Run
public import proofs.«01_k».proof.Proof.Gen.XqDh
public import proofs.«01_k».proof.Proof.Gen.XqDhIdeal
public import proofs.«01_k».proof.Proof.Gen.XqDhRefIdeal
public import proofs.«01_k».proof.Proof.Gen.XqDhIdeal.Value
public import proofs.«01_k».proof.Proof.Gen.XqDhRefIdeal.Run
public import proofs.«01_k».proof.Proof.Gen.Xo
public import proofs.«01_k».proof.Proof.Gen.XoIdeal
public import proofs.«01_k».proof.Proof.Gen.XoRefIdeal
public import proofs.«01_k».proof.Proof.Gen.XoIdeal.Value
public import proofs.«01_k».proof.Proof.Gen.XoRefIdeal.Run
public import proofs.«01_k».proof.Proof.Gen.XoDo
public import proofs.«01_k».proof.Proof.Gen.XoDoIdeal
public import proofs.«01_k».proof.Proof.Gen.XoDoRefIdeal
public import proofs.«01_k».proof.Proof.Gen.XoDoIdeal.Value
public import proofs.«01_k».proof.Proof.Gen.XoDoRefIdeal.Run
public import proofs.«01_k».proof.Proof.Gen.Out
public import proofs.«01_k».proof.Proof.Gen.OutIdeal
public import proofs.«01_k».proof.Proof.Gen.OutRefIdeal
public import proofs.«01_k».proof.Proof.Gen.OutIdeal.Value
public import proofs.«01_k».proof.Proof.Gen.OutRefIdeal.Run
public import proofs.«01_k».proof.Proof.Gen.OutDw
public import proofs.«01_k».proof.Proof.Gen.OutDwIdeal
public import proofs.«01_k».proof.Proof.Gen.OutDwRefIdeal
public import proofs.«01_k».proof.Proof.Gen.OutDwIdeal.Value
public import proofs.«01_k».proof.Proof.Gen.OutDwRefIdeal.Run
public import proofs.«01_k».proof.Proof.Gen.OutDy
public import proofs.«01_k».proof.Proof.Gen.OutDyIdeal
public import proofs.«01_k».proof.Proof.Gen.OutDyRefIdeal
public import proofs.«01_k».proof.Proof.Gen.OutDyIdeal.Value
public import proofs.«01_k».proof.Proof.Gen.OutDyRefIdeal.Run
public import proofs.«01_k».proof.Proof.Gen.Lora
public import proofs.«01_k».proof.Proof.Gen.LoraIdeal
public import proofs.«01_k».proof.Proof.Gen.LoraRefIdeal
public import proofs.«01_k».proof.Proof.Gen.LoraIdeal.Value
public import proofs.«01_k».proof.Proof.Gen.LoraRefIdeal.Run
public import proofs.«01_k».proof.Proof.Gen.LoraDw
public import proofs.«01_k».proof.Proof.Gen.LoraDwIdeal
public import proofs.«01_k».proof.Proof.Gen.LoraDwRefIdeal
public import proofs.«01_k».proof.Proof.Gen.LoraDwIdeal.Value
public import proofs.«01_k».proof.Proof.Gen.LoraDwRefIdeal.Run
public import proofs.«01_k».proof.Proof.Gen.LoraDh
public import proofs.«01_k».proof.Proof.Gen.LoraDhIdeal
public import proofs.«01_k».proof.Proof.Gen.LoraDhRefIdeal
public import proofs.«01_k».proof.Proof.Gen.LoraDhIdeal.Value
public import proofs.«01_k».proof.Proof.Gen.LoraDhRefIdeal.Run
public import proofs.«01_k».proof.Proof.Gen.Swa
public import proofs.«01_k».proof.Proof.Gen.SwaIdeal
public import proofs.«01_k».proof.Proof.Gen.SwaRefIdeal
public import proofs.«01_k».proof.Proof.Gen.SwaIdeal.Value
public import proofs.«01_k».proof.Proof.Gen.SwaRefIdeal.Run
public import proofs.«01_k».proof.Proof.Gen.SwaDw
public import proofs.«01_k».proof.Proof.Gen.SwaDwIdeal
public import proofs.«01_k».proof.Proof.Gen.SwaDwRefIdeal
public import proofs.«01_k».proof.Proof.Gen.SwaDwIdeal.Value
public import proofs.«01_k».proof.Proof.Gen.SwaDwRefIdeal.Run
public import proofs.«01_k».proof.Proof.Gen.SwaDh
public import proofs.«01_k».proof.Proof.Gen.SwaDhIdeal
public import proofs.«01_k».proof.Proof.Gen.SwaDhRefIdeal
public import proofs.«01_k».proof.Proof.Gen.SwaDhIdeal.Value
public import proofs.«01_k».proof.Proof.Gen.SwaDhRefIdeal.Run
public import proofs.«01_k».proof.Proof.Gen.Xkv
public import proofs.«01_k».proof.Proof.Gen.XkvIdeal
public import proofs.«01_k».proof.Proof.Gen.XkvRefIdeal
public import proofs.«01_k».proof.Proof.Gen.XkvIdeal.Value
public import proofs.«01_k».proof.Proof.Gen.XkvRefIdeal.Run
public import proofs.«01_k».proof.Proof.Gen.XkvDw
public import proofs.«01_k».proof.Proof.Gen.XkvDwIdeal
public import proofs.«01_k».proof.Proof.Gen.XkvDwRefIdeal
public import proofs.«01_k».proof.Proof.Gen.XkvDwIdeal.Value
public import proofs.«01_k».proof.Proof.Gen.XkvDwRefIdeal.Run
public import proofs.«01_k».proof.Proof.Gen.XkvDh
public import proofs.«01_k».proof.Proof.Gen.XkvDhIdeal
public import proofs.«01_k».proof.Proof.Gen.XkvDhRefIdeal
public import proofs.«01_k».proof.Proof.Gen.XkvDhIdeal.Value
public import proofs.«01_k».proof.Proof.Gen.XkvDhRefIdeal.Run
public import proofs.«01_k».proof.Proof.Gen.Norm
public import proofs.«01_k».proof.Proof.Gen.NormIdeal
public import proofs.«01_k».proof.Proof.Gen.NormRefIdeal
public import proofs.«01_k».proof.Proof.Gen.NormIdeal.Value
public import proofs.«01_k».proof.Proof.Gen.NormRefIdeal.Run
public import proofs.«01_k».proof.Proof.Gen.NormBwd
public import proofs.«01_k».proof.Proof.Gen.NormBwdIdeal
public import proofs.«01_k».proof.Proof.Gen.NormBwdRefIdeal
public import proofs.«01_k».proof.Proof.Gen.NormBwdIdeal.Value
public import proofs.«01_k».proof.Proof.Gen.NormBwdRefIdeal.Run
public import proofs.«01_k».proof.Proof.Scan.KFrame
public import proofs.«01_k».proof.Proof.Scan.RFrame
public import proofs.«01_k».proof.Proof.Scan.KValue
public import proofs.«01_k».proof.Proof.Scan.RValue
public import proofs.«01_k».proof.Proof.Ffn.Dw
public import proofs.«01_k».proof.Proof.Ffn.Dwd
public import proofs.«01_k».proof.Proof.Ffn.Dact
public import proofs.«01_k».proof.Proof.Ffn.Dh
public import proofs.«01_k».proof.Proof.Ffn.Up
public import proofs.«01_k».proof.Proof.Ffn.Down
public import proofs.«01_k».proof.Proof.Ffn.In
public import proofs.«01_k».proof.Proof.Ffn.InDw
public import proofs.«01_k».proof.Proof.Ffn.InDh
public import proofs.«01_k».proof.Proof.Proj.Xq
public import proofs.«01_k».proof.Proof.Proj.Xo
public import proofs.«01_k».proof.Proof.Proj.Out
public import proofs.«01_k».proof.Proof.Proj.Lora
public import proofs.«01_k».proof.Proof.Proj.Swa
public import proofs.«01_k».proof.Proof.Proj.Xkv
public import proofs.«01_k».proof.Proof.Proj.XkvDh
public import proofs.«01_k».proof.Proof.Proj.Norm
public import proofs.«01_k».proof.Proof.Proj.NormBwd

@[expose] public section

noncomputable section

/-!
The certificate's claim, from the runs of the kernel and of the reference.
-/

namespace Cert.Proof

open Idealize.ShloMosaic Idealize.ShloMosaic.TcCoe Idealize.SL.Sem
open Cert.Recur

/-- Both results agree: each run's are the same recursion over its arguments, and the arguments are the same. -/
theorem agree : Cert.algebraic_KernelIdeal_ReferenceIdeal (hKernelIdeal := Cert.KernelIdeal.Gen.facts)
    (hReferenceIdeal := Cert.ReferenceIdeal.Gen.facts) := by
  intro m ρ m' ρ' _ hag
  refine ⟨_, _, Cert.KernelIdeal.Scan.run_grad m ρ, (θ_run _ _ _).mono (fun r h c => ?_) (Cert.ReferenceIdeal.Value.run_grad m' ρ')⟩
  have e : ∀ n : Fin 6, Cert.ReferenceIdeal.Value.arg m' c n = Cert.KernelIdeal.Scan.arg m c n := by
    obtain ⟨h0, h1, h2, h3, h4, h5⟩ := hag c
    intro n
    match n with
    | 0 => exact congrArg opd h0
    | 1 => exact congrArg opd h1
    | 2 => exact congrArg opd h2
    | 3 => exact congrArg opd h3
    | 4 => exact congrArg opd h4
    | 5 => exact congrArg opd h5
  obtain ⟨ha, hb, hr⟩ := h c
  refine ⟨ha.trans ?_, hb.trans ?_, hr⟩
  · rw [e 0, e 1, e 2, e 4, e 5]
  · rw [e 0, e 1, e 2, e 3, e 4, e 5]

theorem claim : Cert.Claim := ⟨Cert.Kernel.Gen.facts, Cert.KernelIdeal.Gen.facts, Cert.ReferenceIdeal.Gen.facts,
  Cert.Dw.Gen.facts, Cert.DwIdeal.Gen.facts, Cert.DwRefIdeal.Gen.facts,
  Cert.Dwd.Gen.facts, Cert.DwdIdeal.Gen.facts, Cert.DwdRefIdeal.Gen.facts,
  Cert.Dact.Gen.facts, Cert.DactIdeal.Gen.facts, Cert.DactRefIdeal.Gen.facts,
  Cert.Dh.Gen.facts, Cert.DhIdeal.Gen.facts, Cert.DhRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.In.Gen.facts, Cert.InIdeal.Gen.facts, Cert.InRefIdeal.Gen.facts,
  Cert.InDw.Gen.facts, Cert.InDwIdeal.Gen.facts, Cert.InDwRefIdeal.Gen.facts,
  Cert.InDh.Gen.facts, Cert.InDhIdeal.Gen.facts, Cert.InDhRefIdeal.Gen.facts,
  Cert.Xq.Gen.facts, Cert.XqIdeal.Gen.facts, Cert.XqRefIdeal.Gen.facts,
  Cert.XqDw.Gen.facts, Cert.XqDwIdeal.Gen.facts, Cert.XqDwRefIdeal.Gen.facts,
  Cert.XqDh.Gen.facts, Cert.XqDhIdeal.Gen.facts, Cert.XqDhRefIdeal.Gen.facts,
  Cert.Xo.Gen.facts, Cert.XoIdeal.Gen.facts, Cert.XoRefIdeal.Gen.facts,
  Cert.XoDo.Gen.facts, Cert.XoDoIdeal.Gen.facts, Cert.XoDoRefIdeal.Gen.facts,
  Cert.Out.Gen.facts, Cert.OutIdeal.Gen.facts, Cert.OutRefIdeal.Gen.facts,
  Cert.OutDw.Gen.facts, Cert.OutDwIdeal.Gen.facts, Cert.OutDwRefIdeal.Gen.facts,
  Cert.OutDy.Gen.facts, Cert.OutDyIdeal.Gen.facts, Cert.OutDyRefIdeal.Gen.facts,
  Cert.Lora.Gen.facts, Cert.LoraIdeal.Gen.facts, Cert.LoraRefIdeal.Gen.facts,
  Cert.LoraDw.Gen.facts, Cert.LoraDwIdeal.Gen.facts, Cert.LoraDwRefIdeal.Gen.facts,
  Cert.LoraDh.Gen.facts, Cert.LoraDhIdeal.Gen.facts, Cert.LoraDhRefIdeal.Gen.facts,
  Cert.Swa.Gen.facts, Cert.SwaIdeal.Gen.facts, Cert.SwaRefIdeal.Gen.facts,
  Cert.SwaDw.Gen.facts, Cert.SwaDwIdeal.Gen.facts, Cert.SwaDwRefIdeal.Gen.facts,
  Cert.SwaDh.Gen.facts, Cert.SwaDhIdeal.Gen.facts, Cert.SwaDhRefIdeal.Gen.facts,
  Cert.Xkv.Gen.facts, Cert.XkvIdeal.Gen.facts, Cert.XkvRefIdeal.Gen.facts,
  Cert.XkvDw.Gen.facts, Cert.XkvDwIdeal.Gen.facts, Cert.XkvDwRefIdeal.Gen.facts,
  Cert.XkvDh.Gen.facts, Cert.XkvDhIdeal.Gen.facts, Cert.XkvDhRefIdeal.Gen.facts,
  Cert.Norm.Gen.facts, Cert.NormIdeal.Gen.facts, Cert.NormRefIdeal.Gen.facts,
  Cert.NormBwd.Gen.facts, Cert.NormBwdIdeal.Gen.facts, Cert.NormBwdRefIdeal.Gen.facts,
  Cert.KernelIdeal.Scan.frame_bits, Cert.KernelIdeal.Scan.frame_ideal, Cert.ReferenceIdeal.Value.frame_reference,
  Cert.DwIdeal.Value.frame_bits, Cert.DwIdeal.Value.frame_ideal, Cert.DwIdeal.Value.frame_reference,
  Cert.DwdIdeal.Value.frame_bits, Cert.DwdIdeal.Value.frame_ideal, Cert.DwdIdeal.Value.frame_reference,
  Cert.DactIdeal.Value.frame_bits, Cert.DactIdeal.Value.frame_ideal, Cert.DactIdeal.Value.frame_reference,
  Cert.DhIdeal.Value.frame_bits, Cert.DhIdeal.Value.frame_ideal, Cert.DhIdeal.Value.frame_reference,
  Cert.UpIdeal.Value.frame_bits, Cert.UpIdeal.Value.frame_ideal, Cert.UpIdeal.Value.frame_reference,
  Cert.DownIdeal.Value.frame_bits, Cert.DownIdeal.Value.frame_ideal, Cert.DownIdeal.Value.frame_reference,
  Cert.InIdeal.Value.frame_bits, Cert.InIdeal.Value.frame_ideal, Cert.InIdeal.Value.frame_reference,
  Cert.InDwIdeal.Value.frame_bits, Cert.InDwIdeal.Value.frame_ideal, Cert.InDwIdeal.Value.frame_reference,
  Cert.InDhIdeal.Value.frame_bits, Cert.InDhIdeal.Value.frame_ideal, Cert.InDhIdeal.Value.frame_reference,
  Cert.XqIdeal.Value.frame_bits, Cert.XqIdeal.Value.frame_ideal, Cert.XqIdeal.Value.frame_reference,
  Cert.XqDwIdeal.Value.frame_bits, Cert.XqDwIdeal.Value.frame_ideal, Cert.XqDwIdeal.Value.frame_reference,
  Cert.XqDhIdeal.Value.frame_bits, Cert.XqDhIdeal.Value.frame_ideal, Cert.XqDhIdeal.Value.frame_reference,
  Cert.XoIdeal.Value.frame_bits, Cert.XoIdeal.Value.frame_ideal, Cert.XoIdeal.Value.frame_reference,
  Cert.XoDoIdeal.Value.frame_bits, Cert.XoDoIdeal.Value.frame_ideal, Cert.XoDoIdeal.Value.frame_reference,
  Cert.OutIdeal.Value.frame_bits, Cert.OutIdeal.Value.frame_ideal, Cert.OutIdeal.Value.frame_reference,
  Cert.OutDwIdeal.Value.frame_bits, Cert.OutDwIdeal.Value.frame_ideal, Cert.OutDwIdeal.Value.frame_reference,
  Cert.OutDyIdeal.Value.frame_bits, Cert.OutDyIdeal.Value.frame_ideal, Cert.OutDyIdeal.Value.frame_reference,
  Cert.LoraIdeal.Value.frame_bits, Cert.LoraIdeal.Value.frame_ideal, Cert.LoraIdeal.Value.frame_reference,
  Cert.LoraDwIdeal.Value.frame_bits, Cert.LoraDwIdeal.Value.frame_ideal, Cert.LoraDwIdeal.Value.frame_reference,
  Cert.LoraDhIdeal.Value.frame_bits, Cert.LoraDhIdeal.Value.frame_ideal, Cert.LoraDhIdeal.Value.frame_reference,
  Cert.SwaIdeal.Value.frame_bits, Cert.SwaIdeal.Value.frame_ideal, Cert.SwaIdeal.Value.frame_reference,
  Cert.SwaDwIdeal.Value.frame_bits, Cert.SwaDwIdeal.Value.frame_ideal, Cert.SwaDwIdeal.Value.frame_reference,
  Cert.SwaDhIdeal.Value.frame_bits, Cert.SwaDhIdeal.Value.frame_ideal, Cert.SwaDhIdeal.Value.frame_reference,
  Cert.XkvIdeal.Value.frame_bits, Cert.XkvIdeal.Value.frame_ideal, Cert.XkvIdeal.Value.frame_reference,
  Cert.XkvDwIdeal.Value.frame_bits, Cert.XkvDwIdeal.Value.frame_ideal, Cert.XkvDwIdeal.Value.frame_reference,
  Cert.XkvDhIdeal.Value.frame_bits, Cert.XkvDhIdeal.Value.frame_ideal, Cert.XkvDhIdeal.Value.frame_reference,
  Cert.NormIdeal.Value.frame_bits, Cert.NormIdeal.Value.frame_ideal, Cert.NormIdeal.Value.frame_reference,
  Cert.NormBwdIdeal.Value.frame_bits, Cert.NormBwdIdeal.Value.frame_ideal, Cert.NormBwdIdeal.Value.frame_reference,
  trivial, agree,
  trivial, Cert.DwIdeal.Value.agree,
  trivial, Cert.DwdIdeal.Value.agree,
  trivial, Cert.DactIdeal.Value.agree,
  trivial, Cert.DhIdeal.Value.agree,
  trivial, Cert.UpIdeal.Value.agree,
  trivial, Cert.DownIdeal.Value.agree,
  trivial, Cert.InIdeal.Value.agree,
  trivial, Cert.InDwIdeal.Value.agree,
  trivial, Cert.InDhIdeal.Value.agree,
  trivial, Cert.XqIdeal.Value.agree,
  trivial, Cert.XqDwIdeal.Value.agree,
  trivial, Cert.XqDhIdeal.Value.agree,
  trivial, Cert.XoIdeal.Value.agree,
  trivial, Cert.XoDoIdeal.Value.agree,
  trivial, Cert.OutIdeal.Value.agree,
  trivial, Cert.OutDwIdeal.Value.agree,
  trivial, Cert.OutDyIdeal.Value.agree,
  trivial, Cert.LoraIdeal.Value.agree,
  trivial, Cert.LoraDwIdeal.Value.agree,
  trivial, Cert.LoraDhIdeal.Value.agree,
  trivial, Cert.SwaIdeal.Value.agree,
  trivial, Cert.SwaDwIdeal.Value.agree,
  trivial, Cert.SwaDhIdeal.Value.agree,
  trivial, Cert.XkvIdeal.Value.agree,
  trivial, Cert.XkvDwIdeal.Value.agree,
  trivial, Cert.XkvDhIdeal.Value.agree,
  trivial, Cert.NormIdeal.Value.agree,
  trivial, Cert.NormBwdIdeal.Value.agree⟩

end Cert.Proof

end
